-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v312) = v2 c
          ∧ r.2.mem ((c.tc : Thread Cert.ReferenceIdeal.nD Cert.ReferenceIdeal.τ).loc Cert.ReferenceIdeal.main_v304) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x4096 : Shape := ⟨2, ![24, 4096]⟩
abbrev S4096 : Shape := ⟨1, ![4096]⟩
abbrev S14336x16x128 : Shape := ⟨3, ![14336, 16, 128]⟩
abbrev S14336x16x12 : Shape := ⟨3, ![14336, 16, 12]⟩
abbrev S14336x16 : Shape := ⟨2, ![14336, 16]⟩
abbrev S1x4096 : Shape := ⟨2, ![1, 4096]⟩
abbrev S12x16x14336 : Shape := ⟨3, ![12, 16, 14336]⟩
abbrev S16x14336 : Shape := ⟨2, ![16, 14336]⟩
abbrev S24x16 : Shape := ⟨2, ![24, 16]⟩
abbrev S24x14336 : Shape := ⟨2, ![24, 14336]⟩
abbrev S24x56 : Shape := ⟨2, ![24, 56]⟩
abbrev S512x16x128 : Shape := ⟨3, ![512, 16, 128]⟩
abbrev S12x16x512 : Shape := ⟨3, ![12, 16, 512]⟩
abbrev S16x512 : Shape := ⟨2, ![16, 512]⟩
abbrev S24x512 : Shape := ⟨2, ![24, 512]⟩
abbrev S16x192x256 : Shape := ⟨3, ![16, 192, 256]⟩
abbrev S16x24x256 : Shape := ⟨3, ![16, 24, 256]⟩
abbrev S24x768 : Shape := ⟨2, ![24, 768]⟩
abbrev S2x128x128 : Shape := ⟨3, ![2, 128, 128]⟩
abbrev S8x16x256 : Shape := ⟨3, ![8, 16, 256]⟩
abbrev S16x256 : Shape := ⟨2, ![16, 256]⟩
abbrev S24 : Shape := ⟨1, ![24]⟩
abbrev S24x1 : Shape := ⟨2, ![24, 1]⟩
abbrev S24x128 : Shape := ⟨2, ![24, 128]⟩
abbrev S24x256 : Shape := ⟨2, ![24, 256]⟩
abbrev S1x24x256 : Shape := ⟨3, ![1, 24, 256]⟩
abbrev S96x256 : Shape := ⟨2, ![96, 256]⟩
abbrev S256x256 : Shape := ⟨2, ![256, 256]⟩
abbrev S192x256 : Shape := ⟨2, ![192, 256]⟩
abbrev S1x192x256 : Shape := ⟨3, ![1, 192, 256]⟩
abbrev S256x128 : Shape := ⟨2, ![256, 128]⟩
abbrev S1x16x256 : Shape := ⟨3, ![1, 16, 256]⟩
abbrev S768x256 : Shape := ⟨2, ![768, 256]⟩
abbrev S128x4x128 : Shape := ⟨3, ![128, 4, 128]⟩
abbrev S128x1x128 : Shape := ⟨3, ![128, 1, 128]⟩
abbrev S128x128 : Shape := ⟨2, ![128, 128]⟩
abbrev S1x128x128 : Shape := ⟨3, ![1, 128, 128]⟩
abbrev S1x32x128 : Shape := ⟨3, ![1, 32, 128]⟩
abbrev S32x128 : Shape := ⟨2, ![32, 128]⟩
abbrev S32x256 : Shape := ⟨2, ![32, 256]⟩
abbrev S32x1x256 : Shape := ⟨3, ![32, 1, 256]⟩
abbrev S32x8x256 : Shape := ⟨3, ![32, 8, 256]⟩
abbrev S1x1x256 : Shape := ⟨3, ![1, 1, 256]⟩
abbrev S1x256 : Shape := ⟨2, ![1, 256]⟩

abbrev nBuf : Space → Nat
  | .hbm => 21
  | .vmem => 29
  | .smem => 0
  | _ => 0

abbrev bufTy : (tb : Table) → Fin (tcTables nBuf tb) → BufTy
  | .hbm, ⟨0, _⟩ => ⟨S24x4096, .f32⟩
  | .hbm, ⟨1, _⟩ => ⟨S4096, .f32⟩
  | .hbm, ⟨2, _⟩ => ⟨S14336x16x128, .i8⟩
  | .hbm, ⟨3, _⟩ => ⟨S14336x16x12, .i8⟩
  | .hbm, ⟨4, _⟩ => ⟨S14336x16, .i16⟩
  | .hbm, ⟨5, _⟩ => ⟨S14336x16, .i16⟩
  | .hbm, ⟨6, _⟩ => ⟨S14336x16x128, .i8⟩
  | .hbm, ⟨7, _⟩ => ⟨S14336x16x12, .i8⟩
  | .hbm, ⟨8, _⟩ => ⟨S14336x16, .i16⟩
  | .hbm, ⟨9, _⟩ => ⟨S14336x16, .i16⟩
  | .hbm, ⟨10, _⟩ => ⟨S1x4096, .f32⟩
  | .hbm, ⟨11, _⟩ => ⟨S12x16x14336, .i8⟩
  | .hbm, ⟨12, _⟩ => ⟨S16x14336, .i16⟩
  | .hbm, ⟨13, _⟩ => ⟨S16x14336, .i16⟩
  | .hbm, ⟨14, _⟩ => ⟨S12x16x14336, .i8⟩
  | .hbm, ⟨15, _⟩ => ⟨S16x14336, .i16⟩
  | .hbm, ⟨16, _⟩ => ⟨S16x14336, .i16⟩
  | .hbm, ⟨17, _⟩ => ⟨S24x4096, .i8⟩
  | .hbm, ⟨18, _⟩ => ⟨S24x16, .f32⟩
  | .hbm, ⟨19, _⟩ => ⟨S24x14336, .i8⟩
  | .hbm, ⟨20, _⟩ => ⟨S24x56, .f32⟩
  | .local _ .vmem, ⟨0, _⟩ => ⟨S24x4096, .f32⟩
  | .local _ .vmem, ⟨1, _⟩ => ⟨S1x4096, .f32⟩
  | .local _ .vmem, ⟨2, _⟩ => ⟨S512x16x128, .i8⟩
  | .local _ .vmem, ⟨3, _⟩ => ⟨S512x16x128, .i8⟩
  | .local _ .vmem, ⟨4, _⟩ => ⟨S12x16x512, .i8⟩
  | .local _ .vmem, ⟨5, _⟩ => ⟨S12x16x512, .i8⟩
  | .local _ .vmem, ⟨6, _⟩ => ⟨S16x512, .i16⟩
  | .local _ .vmem, ⟨7, _⟩ => ⟨S16x512, .i16⟩
  | .local _ .vmem, ⟨8, _⟩ => ⟨S16x512, .i16⟩
  | .local _ .vmem, ⟨9, _⟩ => ⟨S16x512, .i16⟩
  | .local _ .vmem, ⟨10, _⟩ => ⟨S512x16x128, .i8⟩
  | .local _ .vmem, ⟨11, _⟩ => ⟨S512x16x128, .i8⟩
  | .local _ .vmem, ⟨12, _⟩ => ⟨S12x16x512, .i8⟩
  | .local _ .vmem, ⟨13, _⟩ => ⟨S12x16x512, .i8⟩
  | .local _ .vmem, ⟨14, _⟩ => ⟨S16x512, .i16⟩
  | .local _ .vmem, ⟨15, _⟩ => ⟨S16x512, .i16⟩
  | .local _ .vmem, ⟨16, _⟩ => ⟨S16x512, .i16⟩
  | .local _ .vmem, ⟨17, _⟩ => ⟨S16x512, .i16⟩
  | .local _ .vmem, ⟨18, _⟩ => ⟨S24x4096, .i8⟩
  | .local _ .vmem, ⟨19, _⟩ => ⟨S24x16, .f32⟩
  | .local _ .vmem, ⟨20, _⟩ => ⟨S24x512, .i8⟩
  | .local _ .vmem, ⟨21, _⟩ => ⟨S24x512, .i8⟩
  | .local _ .vmem, ⟨22, _⟩ => ⟨S24x56, .f32⟩
  | .local _ .vmem, ⟨23, _⟩ => ⟨S16x192x256, .bf16⟩
  | .local _ .vmem, ⟨24, _⟩ => ⟨S16x24x256, .f32⟩
  | .local _ .vmem, ⟨25, _⟩ => ⟨S24x768, .bf16⟩
  | .local _ .vmem, ⟨26, _⟩ => ⟨S2x128x128, .i32⟩
  | .local _ .vmem, ⟨27, _⟩ => ⟨S8x16x256, .f32⟩
  | .local _ .vmem, ⟨28, _⟩ => ⟨S16x256, .f32⟩
  | _, _ => ⟨S24x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![28], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x16x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S12x16x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .i16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S12x16x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .i16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .i16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S24x4096 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S24x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S24x512 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S24x56 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S24x4096 : Shape := ⟨2, ![24, 4096]⟩
abbrev S4096 : Shape := ⟨1, ![4096]⟩
abbrev S14336x16x128 : Shape := ⟨3, ![14336, 16, 128]⟩
abbrev S14336x16x12 : Shape := ⟨3, ![14336, 16, 12]⟩
abbrev S14336x16 : Shape := ⟨2, ![14336, 16]⟩
abbrev S_ : Shape := ⟨0, ![]⟩
abbrev S24 : Shape := ⟨1, ![24]⟩
abbrev S24x1 : Shape := ⟨2, ![24, 1]⟩
abbrev S1x4096 : Shape := ⟨2, ![1, 4096]⟩
abbrev S24x16x256 : Shape := ⟨3, ![24, 16, 256]⟩
abbrev S24x16 : Shape := ⟨2, ![24, 16]⟩
abbrev S24x16x1 : Shape := ⟨3, ![24, 16, 1]⟩
abbrev S14336x16x4 : Shape := ⟨3, ![14336, 16, 4]⟩
abbrev S14336x16x8 : Shape := ⟨3, ![14336, 16, 8]⟩
abbrev S14336x16x4x32 : Shape := ⟨4, ![14336, 16, 4, 32]⟩
abbrev S14336x16x4x1 : Shape := ⟨4, ![14336, 16, 4, 1]⟩
abbrev S24x16x4x2x32 : Shape := ⟨5, ![24, 16, 4, 2, 32]⟩
abbrev S24x16x4x1x32 : Shape := ⟨5, ![24, 16, 4, 1, 32]⟩
abbrev S24x16x4x32 : Shape := ⟨4, ![24, 16, 4, 32]⟩
abbrev S16x24x14336 : Shape := ⟨3, ![16, 24, 14336]⟩
abbrev S24x16x8x32 : Shape := ⟨4, ![24, 16, 8, 32]⟩
abbrev S24x16x8 : Shape := ⟨3, ![24, 16, 8]⟩
abbrev S16x14336 : Shape := ⟨2, ![16, 14336]⟩
abbrev S16x1x14336 : Shape := ⟨3, ![16, 1, 14336]⟩
abbrev S16x24 : Shape := ⟨2, ![16, 24]⟩
abbrev S16x24x1 : Shape := ⟨3, ![16, 24, 1]⟩
abbrev S24x14336 : Shape := ⟨2, ![24, 14336]⟩
abbrev S24x56x256 : Shape := ⟨3, ![24, 56, 256]⟩
abbrev S24x56 : Shape := ⟨2, ![24, 56]⟩
abbrev S24x56x1 : Shape := ⟨3, ![24, 56, 1]⟩

abbrev nBuf : Space → Nat
  | .hbm => 428
  | .vmem => 0
  | .smem => 0
  | _ => 0

abbrev hbmTy0_0 (i : Nat) : BufTy := match i % 128 with
  | 0 => ⟨S24x4096, .f32⟩
  | 1 => ⟨S4096, .f32⟩
  | 2 => ⟨S14336x16x128, .i8⟩
  | 3 => ⟨S14336x16x12, .i8⟩
  | 4 => ⟨S14336x16, .i16⟩
  | 5 => ⟨S14336x16, .i16⟩
  | 6 => ⟨S14336x16x128, .i8⟩
  | 7 => ⟨S14336x16x12, .i8⟩
  | 8 => ⟨S14336x16, .i16⟩
  | 9 => ⟨S14336x16, .i16⟩
  | 10 => ⟨S24x4096, .f32⟩
  | 11 => ⟨S_, .f32⟩
  | 12 => ⟨S24, .f32⟩
  | 13 => ⟨S24x1, .f32⟩
  | 14 => ⟨S_, .f32⟩
  | 15 => ⟨S24x1, .f32⟩
  | 16 => ⟨S24x1, .f32⟩
  | 17 => ⟨S_, .f32⟩
  | 18 => ⟨S24x1, .f32⟩
  | 19 => ⟨S24x1, .f32⟩
  | 20 => ⟨S24x1, .f32⟩
  | 21 => ⟨S24x4096, .f32⟩
  | 22 => ⟨S24x4096, .f32⟩
  | 23 => ⟨S1x4096, .f32⟩
  | 24 => ⟨S24x4096, .f32⟩
  | 25 => ⟨S24x4096, .f32⟩
  | 26 => ⟨S24x16x256, .f32⟩
  | 27 => ⟨S24x16x256, .f32⟩
  | 28 => ⟨S_, .f32⟩
  | 29 => ⟨S24x16, .f32⟩
  | 30 => ⟨S_, .f32⟩
  | 31 => ⟨S24x16, .f32⟩
  | 32 => ⟨S24x16, .i1⟩
  | 33 => ⟨S_, .f32⟩
  | 34 => ⟨S24x16, .f32⟩
  | 35 => ⟨S24x16, .f32⟩
  | 36 => ⟨S_, .f32⟩
  | 37 => ⟨S_, .f32⟩
  | 38 => ⟨S24x16, .f32⟩
  | 39 => ⟨S24x16, .f32⟩
  | 40 => ⟨S24x16x1, .f32⟩
  | 41 => ⟨S24x16x256, .f32⟩
  | 42 => ⟨S24x16x256, .f32⟩
  | 43 => ⟨S24x16x256, .f32⟩
  | 44 => ⟨S_, .i32⟩
  | 45 => ⟨S_, .i32⟩
  | 46 => ⟨S_, .f32⟩
  | 47 => ⟨S24x16x256, .f32⟩
  | 48 => ⟨S24x16x256, .f32⟩
  | 49 => ⟨S_, .f32⟩
  | 50 => ⟨S24x16x256, .f32⟩
  | 51 => ⟨S24x16x256, .f32⟩
  | 52 => ⟨S24x16x256, .i32⟩
  | 53 => ⟨S24x16x256, .i8⟩
  | 54 => ⟨S24x4096, .i8⟩
  | 55 => ⟨S14336x16x12, .i32⟩
  | 56 => ⟨S14336x16x4, .i32⟩
  | 57 => ⟨S14336x16x4, .i32⟩
  | 58 => ⟨S14336x16x4, .i32⟩
  | 59 => ⟨S_, .i32⟩
  | 60 => ⟨S14336x16x4, .i32⟩
  | 61 => ⟨S14336x16x4, .i32⟩
  | 62 => ⟨S_, .i32⟩
  | 63 => ⟨S14336x16x4, .i32⟩
  | 64 => ⟨S14336x16x4, .i32⟩
  | 65 => ⟨S_, .i32⟩
  | 66 => ⟨S14336x16x4, .i32⟩
  | 67 => ⟨S14336x16x4, .i32⟩
  | 68 => ⟨S_, .i32⟩
  | 69 => ⟨S14336x16x4, .i32⟩
  | 70 => ⟨S14336x16x4, .i32⟩
  | 71 => ⟨S14336x16x4, .i32⟩
  | 72 => ⟨S14336x16x8, .i32⟩
  | 73 => ⟨S_, .i32⟩
  | 74 => ⟨S14336x16x4, .i32⟩
  | 75 => ⟨S14336x16x4, .i32⟩
  | 76 => ⟨S_, .i32⟩
  | 77 => ⟨S14336x16x4, .i32⟩
  | 78 => ⟨S14336x16x4, .i32⟩
  | 79 => ⟨S_, .i32⟩
  | 80 => ⟨S14336x16x4, .i32⟩
  | 81 => ⟨S14336x16x4, .i32⟩
  | 82 => ⟨S_, .i32⟩
  | 83 => ⟨S14336x16x4, .i32⟩
  | 84 => ⟨S14336x16x4, .i32⟩
  | 85 => ⟨S14336x16x4, .i32⟩
  | 86 => ⟨S14336x16x8, .i32⟩
  | 87 => ⟨S14336x16x128, .i32⟩
  | 88 => ⟨S14336x16x4x32, .i32⟩
  | 89 => ⟨S14336x16x4, .i32⟩
  | 90 => ⟨S14336x16x4x1, .i32⟩
  | 91 => ⟨S_, .i32⟩
  | 92 => ⟨S14336x16x4x32, .i32⟩
  | 93 => ⟨S14336x16x4x32, .i32⟩
  | 94 => ⟨S14336x16x4x32, .i32⟩
  | 95 => ⟨S14336x16x4x32, .i32⟩
  | 96 => ⟨S14336x16x4, .i32⟩
  | 97 => ⟨S14336x16x4x1, .i32⟩
  | 98 => ⟨S_, .i32⟩
  | 99 => ⟨S14336x16x4x32, .i32⟩
  | 100 => ⟨S14336x16x4x32, .i32⟩
  | 101 => ⟨S14336x16x4x32, .i32⟩
  | 102 => ⟨S14336x16x4x32, .i32⟩
  | 103 => ⟨S24x4096, .i32⟩
  | 104 => ⟨S24x16x4x2x32, .i32⟩
  | 105 => ⟨S24x16x4x2x32, .bf16⟩
  | 106 => ⟨S24x16x4x1x32, .bf16⟩
  | 107 => ⟨S24x16x4x32, .bf16⟩
  | 108 => ⟨S_, .i32⟩
  | 109 => ⟨S14336x16x4x32, .i32⟩
  | 110 => ⟨S14336x16x4x32, .i32⟩
  | 111 => ⟨S14336x16x4x32, .bf16⟩
  | 112 => ⟨S16x24x14336, .f32⟩
  | 113 => ⟨S_, .i32⟩
  | 114 => ⟨S14336x16x4x32, .i32⟩
  | 115 => ⟨S14336x16x4x32, .i32⟩
  | 116 => ⟨S14336x16x4x32, .bf16⟩
  | 117 => ⟨S16x24x14336, .f32⟩
  | 118 => ⟨S16x24x14336, .i32⟩
  | 119 => ⟨S_, .i32⟩
  | 120 => ⟨S16x24x14336, .i32⟩
  | 121 => ⟨S16x24x14336, .i32⟩
  | 122 => ⟨S16x24x14336, .i32⟩
  | 123 => ⟨S16x24x14336, .i32⟩
  | 124 => ⟨S24x16x4x1x32, .bf16⟩
  | 125 => ⟨S24x16x4x32, .bf16⟩
  | 126 => ⟨S_, .i32⟩
  | 127 => ⟨S14336x16x4x32, .i32⟩
  | _ => ⟨S24x4096, .f32⟩

abbrev hbmTy0_1 (i : Nat) : BufTy := match i % 128 with
  | 0 => ⟨S14336x16x4x32, .i32⟩
  | 1 => ⟨S14336x16x4x32, .bf16⟩
  | 2 => ⟨S16x24x14336, .f32⟩
  | 3 => ⟨S_, .i32⟩
  | 4 => ⟨S14336x16x4x32, .i32⟩
  | 5 => ⟨S14336x16x4x32, .i32⟩
  | 6 => ⟨S14336x16x4x32, .bf16⟩
  | 7 => ⟨S16x24x14336, .f32⟩
  | 8 => ⟨S16x24x14336, .i32⟩
  | 9 => ⟨S_, .i32⟩
  | 10 => ⟨S16x24x14336, .i32⟩
  | 11 => ⟨S16x24x14336, .i32⟩
  | 12 => ⟨S16x24x14336, .i32⟩
  | 13 => ⟨S16x24x14336, .i32⟩
  | 14 => ⟨S16x24x14336, .i32⟩
  | 15 => ⟨S24x4096, .i32⟩
  | 16 => ⟨S24x16x8x32, .i32⟩
  | 17 => ⟨S24x16x8x32, .f32⟩
  | 18 => ⟨S_, .f32⟩
  | 19 => ⟨S24x16x8, .f32⟩
  | 20 => ⟨S14336x16x8, .f32⟩
  | 21 => ⟨S16x24x14336, .f32⟩
  | 22 => ⟨S14336x16, .i32⟩
  | 23 => ⟨S_, .i32⟩
  | 24 => ⟨S14336x16, .i32⟩
  | 25 => ⟨S14336x16, .i32⟩
  | 26 => ⟨S_, .i32⟩
  | 27 => ⟨S14336x16, .i32⟩
  | 28 => ⟨S14336x16, .i32⟩
  | 29 => ⟨S_, .i32⟩
  | 30 => ⟨S14336x16, .i32⟩
  | 31 => ⟨S14336x16, .i32⟩
  | 32 => ⟨S_, .i32⟩
  | 33 => ⟨S14336x16, .i32⟩
  | 34 => ⟨S14336x16, .i32⟩
  | 35 => ⟨S_, .i32⟩
  | 36 => ⟨S14336x16, .i32⟩
  | 37 => ⟨S14336x16, .i32⟩
  | 38 => ⟨S_, .i32⟩
  | 39 => ⟨S14336x16, .i32⟩
  | 40 => ⟨S14336x16, .i32⟩
  | 41 => ⟨S14336x16, .f32⟩
  | 42 => ⟨S_, .i32⟩
  | 43 => ⟨S14336x16, .i32⟩
  | 44 => ⟨S14336x16, .i1⟩
  | 45 => ⟨S14336x16, .f32⟩
  | 46 => ⟨S_, .f32⟩
  | 47 => ⟨S14336x16, .f32⟩
  | 48 => ⟨S14336x16, .f32⟩
  | 49 => ⟨S14336x16, .f32⟩
  | 50 => ⟨S16x14336, .f32⟩
  | 51 => ⟨S16x1x14336, .f32⟩
  | 52 => ⟨S14336x16, .i32⟩
  | 53 => ⟨S_, .i32⟩
  | 54 => ⟨S14336x16, .i32⟩
  | 55 => ⟨S14336x16, .i32⟩
  | 56 => ⟨S_, .i32⟩
  | 57 => ⟨S14336x16, .i32⟩
  | 58 => ⟨S14336x16, .i32⟩
  | 59 => ⟨S_, .i32⟩
  | 60 => ⟨S14336x16, .i32⟩
  | 61 => ⟨S14336x16, .i32⟩
  | 62 => ⟨S_, .i32⟩
  | 63 => ⟨S14336x16, .i32⟩
  | 64 => ⟨S14336x16, .i32⟩
  | 65 => ⟨S_, .i32⟩
  | 66 => ⟨S14336x16, .i32⟩
  | 67 => ⟨S14336x16, .i32⟩
  | 68 => ⟨S_, .i32⟩
  | 69 => ⟨S14336x16, .i32⟩
  | 70 => ⟨S14336x16, .i32⟩
  | 71 => ⟨S14336x16, .f32⟩
  | 72 => ⟨S_, .i32⟩
  | 73 => ⟨S14336x16, .i32⟩
  | 74 => ⟨S14336x16, .i1⟩
  | 75 => ⟨S14336x16, .f32⟩
  | 76 => ⟨S_, .f32⟩
  | 77 => ⟨S14336x16, .f32⟩
  | 78 => ⟨S14336x16, .f32⟩
  | 79 => ⟨S14336x16, .f32⟩
  | 80 => ⟨S16x14336, .f32⟩
  | 81 => ⟨S16x1x14336, .f32⟩
  | 82 => ⟨S16x24, .f32⟩
  | 83 => ⟨S16x24x1, .f32⟩
  | 84 => ⟨S16x24x14336, .f32⟩
  | 85 => ⟨S16x24x14336, .f32⟩
  | 86 => ⟨S16x24x14336, .f32⟩
  | 87 => ⟨S16x24x14336, .f32⟩
  | 88 => ⟨S16x24x14336, .f32⟩
  | 89 => ⟨S16x24x14336, .f32⟩
  | 90 => ⟨S16x24x14336, .f32⟩
  | 91 => ⟨S16x24x14336, .f32⟩
  | 92 => ⟨S_, .f32⟩
  | 93 => ⟨S24x14336, .f32⟩
  | 94 => ⟨S14336x16x12, .i32⟩
  | 95 => ⟨S14336x16x4, .i32⟩
  | 96 => ⟨S14336x16x4, .i32⟩
  | 97 => ⟨S14336x16x4, .i32⟩
  | 98 => ⟨S_, .i32⟩
  | 99 => ⟨S14336x16x4, .i32⟩
  | 100 => ⟨S14336x16x4, .i32⟩
  | 101 => ⟨S_, .i32⟩
  | 102 => ⟨S14336x16x4, .i32⟩
  | 103 => ⟨S14336x16x4, .i32⟩
  | 104 => ⟨S_, .i32⟩
  | 105 => ⟨S14336x16x4, .i32⟩
  | 106 => ⟨S14336x16x4, .i32⟩
  | 107 => ⟨S_, .i32⟩
  | 108 => ⟨S14336x16x4, .i32⟩
  | 109 => ⟨S14336x16x4, .i32⟩
  | 110 => ⟨S14336x16x4, .i32⟩
  | 111 => ⟨S14336x16x8, .i32⟩
  | 112 => ⟨S_, .i32⟩
  | 113 => ⟨S14336x16x4, .i32⟩
  | 114 => ⟨S14336x16x4, .i32⟩
  | 115 => ⟨S_, .i32⟩
  | 116 => ⟨S14336x16x4, .i32⟩
  | 117 => ⟨S14336x16x4, .i32⟩
  | 118 => ⟨S_, .i32⟩
  | 119 => ⟨S14336x16x4, .i32⟩
  | 120 => ⟨S14336x16x4, .i32⟩
  | 121 => ⟨S_, .i32⟩
  | 122 => ⟨S14336x16x4, .i32⟩
  | 123 => ⟨S14336x16x4, .i32⟩
  | 124 => ⟨S14336x16x4, .i32⟩
  | 125 => ⟨S14336x16x8, .i32⟩
  | 126 => ⟨S14336x16x128, .i32⟩
  | 127 => ⟨S14336x16x4x32, .i32⟩
  | _ => ⟨S24x4096, .f32⟩

abbrev hbmTy0_2 (i : Nat) : BufTy := match i % 128 with
  | 0 => ⟨S14336x16x4, .i32⟩
  | 1 => ⟨S14336x16x4x1, .i32⟩
  | 2 => ⟨S_, .i32⟩
  | 3 => ⟨S14336x16x4x32, .i32⟩
  | 4 => ⟨S14336x16x4x32, .i32⟩
  | 5 => ⟨S14336x16x4x32, .i32⟩
  | 6 => ⟨S14336x16x4x32, .i32⟩
  | 7 => ⟨S14336x16x4, .i32⟩
  | 8 => ⟨S14336x16x4x1, .i32⟩
  | 9 => ⟨S_, .i32⟩
  | 10 => ⟨S14336x16x4x32, .i32⟩
  | 11 => ⟨S14336x16x4x32, .i32⟩
  | 12 => ⟨S14336x16x4x32, .i32⟩
  | 13 => ⟨S14336x16x4x32, .i32⟩
  | 14 => ⟨S24x4096, .i32⟩
  | 15 => ⟨S24x16x4x2x32, .i32⟩
  | 16 => ⟨S24x16x4x2x32, .bf16⟩
  | 17 => ⟨S24x16x4x1x32, .bf16⟩
  | 18 => ⟨S24x16x4x32, .bf16⟩
  | 19 => ⟨S_, .i32⟩
  | 20 => ⟨S14336x16x4x32, .i32⟩
  | 21 => ⟨S14336x16x4x32, .i32⟩
  | 22 => ⟨S14336x16x4x32, .bf16⟩
  | 23 => ⟨S16x24x14336, .f32⟩
  | 24 => ⟨S_, .i32⟩
  | 25 => ⟨S14336x16x4x32, .i32⟩
  | 26 => ⟨S14336x16x4x32, .i32⟩
  | 27 => ⟨S14336x16x4x32, .bf16⟩
  | 28 => ⟨S16x24x14336, .f32⟩
  | 29 => ⟨S16x24x14336, .i32⟩
  | 30 => ⟨S_, .i32⟩
  | 31 => ⟨S16x24x14336, .i32⟩
  | 32 => ⟨S16x24x14336, .i32⟩
  | 33 => ⟨S16x24x14336, .i32⟩
  | 34 => ⟨S16x24x14336, .i32⟩
  | 35 => ⟨S24x16x4x1x32, .bf16⟩
  | 36 => ⟨S24x16x4x32, .bf16⟩
  | 37 => ⟨S_, .i32⟩
  | 38 => ⟨S14336x16x4x32, .i32⟩
  | 39 => ⟨S14336x16x4x32, .i32⟩
  | 40 => ⟨S14336x16x4x32, .bf16⟩
  | 41 => ⟨S16x24x14336, .f32⟩
  | 42 => ⟨S_, .i32⟩
  | 43 => ⟨S14336x16x4x32, .i32⟩
  | 44 => ⟨S14336x16x4x32, .i32⟩
  | 45 => ⟨S14336x16x4x32, .bf16⟩
  | 46 => ⟨S16x24x14336, .f32⟩
  | 47 => ⟨S16x24x14336, .i32⟩
  | 48 => ⟨S_, .i32⟩
  | 49 => ⟨S16x24x14336, .i32⟩
  | 50 => ⟨S16x24x14336, .i32⟩
  | 51 => ⟨S16x24x14336, .i32⟩
  | 52 => ⟨S16x24x14336, .i32⟩
  | 53 => ⟨S16x24x14336, .i32⟩
  | 54 => ⟨S24x4096, .i32⟩
  | 55 => ⟨S24x16x8x32, .i32⟩
  | 56 => ⟨S24x16x8x32, .f32⟩
  | 57 => ⟨S_, .f32⟩
  | 58 => ⟨S24x16x8, .f32⟩
  | 59 => ⟨S14336x16x8, .f32⟩
  | 60 => ⟨S16x24x14336, .f32⟩
  | 61 => ⟨S14336x16, .i32⟩
  | 62 => ⟨S_, .i32⟩
  | 63 => ⟨S14336x16, .i32⟩
  | 64 => ⟨S14336x16, .i32⟩
  | 65 => ⟨S_, .i32⟩
  | 66 => ⟨S14336x16, .i32⟩
  | 67 => ⟨S14336x16, .i32⟩
  | 68 => ⟨S_, .i32⟩
  | 69 => ⟨S14336x16, .i32⟩
  | 70 => ⟨S14336x16, .i32⟩
  | 71 => ⟨S_, .i32⟩
  | 72 => ⟨S14336x16, .i32⟩
  | 73 => ⟨S14336x16, .i32⟩
  | 74 => ⟨S_, .i32⟩
  | 75 => ⟨S14336x16, .i32⟩
  | 76 => ⟨S14336x16, .i32⟩
  | 77 => ⟨S_, .i32⟩
  | 78 => ⟨S14336x16, .i32⟩
  | 79 => ⟨S14336x16, .i32⟩
  | 80 => ⟨S14336x16, .f32⟩
  | 81 => ⟨S_, .i32⟩
  | 82 => ⟨S14336x16, .i32⟩
  | 83 => ⟨S14336x16, .i1⟩
  | 84 => ⟨S14336x16, .f32⟩
  | 85 => ⟨S_, .f32⟩
  | 86 => ⟨S14336x16, .f32⟩
  | 87 => ⟨S14336x16, .f32⟩
  | 88 => ⟨S14336x16, .f32⟩
  | 89 => ⟨S16x14336, .f32⟩
  | 90 => ⟨S16x1x14336, .f32⟩
  | 91 => ⟨S14336x16, .i32⟩
  | 92 => ⟨S_, .i32⟩
  | 93 => ⟨S14336x16, .i32⟩
  | 94 => ⟨S14336x16, .i32⟩
  | 95 => ⟨S_, .i32⟩
  | 96 => ⟨S14336x16, .i32⟩
  | 97 => ⟨S14336x16, .i32⟩
  | 98 => ⟨S_, .i32⟩
  | 99 => ⟨S14336x16, .i32⟩
  | 100 => ⟨S14336x16, .i32⟩
  | 101 => ⟨S_, .i32⟩
  | 102 => ⟨S14336x16, .i32⟩
  | 103 => ⟨S14336x16, .i32⟩
  | 104 => ⟨S_, .i32⟩
  | 105 => ⟨S14336x16, .i32⟩
  | 106 => ⟨S14336x16, .i32⟩
  | 107 => ⟨S_, .i32⟩
  | 108 => ⟨S14336x16, .i32⟩
  | 109 => ⟨S14336x16, .i32⟩
  | 110 => ⟨S14336x16, .f32⟩
  | 111 => ⟨S_, .i32⟩
  | 112 => ⟨S14336x16, .i32⟩
  | 113 => ⟨S14336x16, .i1⟩
  | 114 => ⟨S14336x16, .f32⟩
  | 115 => ⟨S_, .f32⟩
  | 116 => ⟨S14336x16, .f32⟩
  | 117 => ⟨S14336x16, .f32⟩
  | 118 => ⟨S14336x16, .f32⟩
  | 119 => ⟨S16x14336, .f32⟩
  | 120 => ⟨S16x1x14336, .f32⟩
  | 121 => ⟨S16x24, .f32⟩
  | 122 => ⟨S16x24x1, .f32⟩
  | 123 => ⟨S16x24x14336, .f32⟩
  | 124 => ⟨S16x24x14336, .f32⟩
  | 125 => ⟨S16x24x14336, .f32⟩
  | 126 => ⟨S16x24x14336, .f32⟩
  | 127 => ⟨S16x24x14336, .f32⟩
  | _ => ⟨S24x4096, .f32⟩

abbrev hbmTy0_3 (i : Nat) : BufTy := match i % 128 with
  | 0 => ⟨S16x24x14336, .f32⟩
  | 1 => ⟨S16x24x14336, .f32⟩
  | 2 => ⟨S16x24x14336, .f32⟩
  | 3 => ⟨S_, .f32⟩
  | 4 => ⟨S24x14336, .f32⟩
  | 5 => ⟨S24x14336, .f32⟩
  | 6 => ⟨S24x14336, .f32⟩
  | 7 => ⟨S_, .f32⟩
  | 8 => ⟨S24x14336, .f32⟩
  | 9 => ⟨S24x14336, .f32⟩
  | 10 => ⟨S_, .f32⟩
  | 11 => ⟨S24x14336, .f32⟩
  | 12 => ⟨S24x14336, .f32⟩
  | 13 => ⟨S24x14336, .f32⟩
  | 14 => ⟨S24x14336, .f32⟩
  | 15 => ⟨S24x56x256, .f32⟩
  | 16 => ⟨S24x56x256, .f32⟩
  | 17 => ⟨S_, .f32⟩
  | 18 => ⟨S24x56, .f32⟩
  | 19 => ⟨S_, .f32⟩
  | 20 => ⟨S24x56, .f32⟩
  | 21 => ⟨S24x56, .i1⟩
  | 22 => ⟨S_, .f32⟩
  | 23 => ⟨S24x56, .f32⟩
  | 24 => ⟨S24x56, .f32⟩
  | 25 => ⟨S_, .f32⟩
  | 26 => ⟨S_, .f32⟩
  | 27 => ⟨S24x56, .f32⟩
  | 28 => ⟨S24x56, .f32⟩
  | 29 => ⟨S24x56x1, .f32⟩
  | 30 => ⟨S24x56x256, .f32⟩
  | 31 => ⟨S24x56x256, .f32⟩
  | 32 => ⟨S24x56x256, .f32⟩
  | 33 => ⟨S_, .i32⟩
  | 34 => ⟨S_, .i32⟩
  | 35 => ⟨S_, .f32⟩
  | 36 => ⟨S24x56x256, .f32⟩
  | 37 => ⟨S24x56x256, .f32⟩
  | 38 => ⟨S_, .f32⟩
  | 39 => ⟨S24x56x256, .f32⟩
  | 40 => ⟨S24x56x256, .f32⟩
  | 41 => ⟨S24x56x256, .i32⟩
  | 42 => ⟨S24x56x256, .i8⟩
  | 43 => ⟨S24x14336, .i8⟩
  | _ => ⟨S24x4096, .f32⟩

abbrev hbmTy (i : Nat) : BufTy := match i / 128 with
  | 0 => hbmTy0_0 i
  | 1 => hbmTy0_1 i
  | 2 => hbmTy0_2 i
  | 3 => hbmTy0_3 i
  | _ => ⟨S24x4096, .f32⟩

abbrev bufTy : (tb : Table) → Fin (tcTables nBuf tb) → BufTy
  | .hbm, ⟨i, _⟩ => hbmTy i
  | _, _ => ⟨S24x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c : Ref sig .tc := ⟨.hbm, 44, rfl⟩
abbrev main_c_6 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_c_9 : Ref sig .tc := ⟨.hbm, 65, rfl⟩
abbrev main_v37 : Ref sig .tc := ⟨.hbm, 66, rfl⟩
abbrev main_v38 : Ref sig .tc := ⟨.hbm, 67, rfl⟩
abbrev main_c_10 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_11 : Ref sig .tc := ⟨.hbm, 73, rfl⟩
abbrev main_v43 : Ref sig .tc := ⟨.hbm, 74, rfl⟩
abbrev main_v44 : Ref sig .tc := ⟨.hbm, 75, rfl⟩
abbrev main_c_12 : Ref sig .tc := ⟨.hbm, 76, rfl⟩
abbrev main_v45 : Ref sig .tc := ⟨.hbm, 77, rfl⟩
abbrev main_v46 : Ref sig .tc := ⟨.hbm, 78, rfl⟩
abbrev main_c_13 : Ref sig .tc := ⟨.hbm, 79, rfl⟩
abbrev main_v47 : Ref sig .tc := ⟨.hbm, 80, rfl⟩
abbrev main_v48 : Ref sig .tc := ⟨.hbm, 81, rfl⟩
abbrev main_c_14 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_15 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_16 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_17 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_18 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c_19 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_20 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_21 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_23 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_c_24 : Ref sig .tc := ⟨.hbm, 151, rfl⟩
abbrev main_v108 : Ref sig .tc := ⟨.hbm, 152, rfl⟩
abbrev main_v109 : Ref sig .tc := ⟨.hbm, 153, rfl⟩
abbrev main_c_25 : Ref sig .tc := ⟨.hbm, 154, rfl⟩
abbrev main_v110 : Ref sig .tc := ⟨.hbm, 155, rfl⟩
abbrev main_v111 : Ref sig .tc := ⟨.hbm, 156, rfl⟩
abbrev main_c_26 : Ref sig .tc := ⟨.hbm, 157, rfl⟩
abbrev main_v112 : Ref sig .tc := ⟨.hbm, 158, rfl⟩
abbrev main_v113 : Ref sig .tc := ⟨.hbm, 159, rfl⟩
abbrev main_c_27 : Ref sig .tc := ⟨.hbm, 160, rfl⟩
abbrev main_v114 : Ref sig .tc := ⟨.hbm, 161, rfl⟩
abbrev main_v115 : Ref sig .tc := ⟨.hbm, 162, rfl⟩
abbrev main_c_28 : Ref sig .tc := ⟨.hbm, 163, rfl⟩
abbrev main_v116 : Ref sig .tc := ⟨.hbm, 164, rfl⟩
abbrev main_v117 : Ref sig .tc := ⟨.hbm, 165, rfl⟩
abbrev main_c_29 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_c_30 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_31 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_c_32 : Ref sig .tc := ⟨.hbm, 181, rfl⟩
abbrev main_v130 : Ref sig .tc := ⟨.hbm, 182, rfl⟩
abbrev main_v131 : Ref sig .tc := ⟨.hbm, 183, rfl⟩
abbrev main_c_33 : Ref sig .tc := ⟨.hbm, 184, rfl⟩
abbrev main_v132 : Ref sig .tc := ⟨.hbm, 185, rfl⟩
abbrev main_v133 : Ref sig .tc := ⟨.hbm, 186, rfl⟩
abbrev main_c_34 : Ref sig .tc := ⟨.hbm, 187, rfl⟩
abbrev main_v134 : Ref sig .tc := ⟨.hbm, 188, rfl⟩
abbrev main_v135 : Ref sig .tc := ⟨.hbm, 189, rfl⟩
abbrev main_c_35 : Ref sig .tc := ⟨.hbm, 190, rfl⟩
abbrev main_v136 : Ref sig .tc := ⟨.hbm, 191, rfl⟩
abbrev main_v137 : Ref sig .tc := ⟨.hbm, 192, rfl⟩
abbrev main_c_36 : Ref sig .tc := ⟨.hbm, 193, rfl⟩
abbrev main_v138 : Ref sig .tc := ⟨.hbm, 194, rfl⟩
abbrev main_v139 : Ref sig .tc := ⟨.hbm, 195, rfl⟩
abbrev main_c_37 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_c_38 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_cst_39 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_cst_40 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_c_41 : Ref sig .tc := ⟨.hbm, 226, rfl⟩
abbrev main_v166 : Ref sig .tc := ⟨.hbm, 227, rfl⟩
abbrev main_v167 : Ref sig .tc := ⟨.hbm, 228, rfl⟩
abbrev main_c_42 : Ref sig .tc := ⟨.hbm, 229, rfl⟩
abbrev main_v168 : Ref sig .tc := ⟨.hbm, 230, rfl⟩
abbrev main_v169 : Ref sig .tc := ⟨.hbm, 231, rfl⟩
abbrev main_c_43 : Ref sig .tc := ⟨.hbm, 232, rfl⟩
abbrev main_v170 : Ref sig .tc := ⟨.hbm, 233, rfl⟩
abbrev main_v171 : Ref sig .tc := ⟨.hbm, 234, rfl⟩
abbrev main_c_44 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_c_45 : Ref sig .tc := ⟨.hbm, 240, rfl⟩
abbrev main_v176 : Ref sig .tc := ⟨.hbm, 241, rfl⟩
abbrev main_v177 : Ref sig .tc := ⟨.hbm, 242, rfl⟩
abbrev main_c_46 : Ref sig .tc := ⟨.hbm, 243, rfl⟩
abbrev main_v178 : Ref sig .tc := ⟨.hbm, 244, rfl⟩
abbrev main_v179 : Ref sig .tc := ⟨.hbm, 245, rfl⟩
abbrev main_c_47 : Ref sig .tc := ⟨.hbm, 246, rfl⟩
abbrev main_v180 : Ref sig .tc := ⟨.hbm, 247, rfl⟩
abbrev main_v181 : Ref sig .tc := ⟨.hbm, 248, rfl⟩
abbrev main_c_48 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_c_49 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_c_50 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_v204 : Ref sig .tc := ⟨.hbm, 274, rfl⟩
abbrev main_c_51 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_c_52 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_c_53 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_c_54 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_c_55 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_c_56 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_cst_57 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_c_58 : Ref sig .tc := ⟨.hbm, 318, rfl⟩
abbrev main_v241 : Ref sig .tc := ⟨.hbm, 319, rfl⟩
abbrev main_v242 : Ref sig .tc := ⟨.hbm, 320, rfl⟩
abbrev main_c_59 : Ref sig .tc := ⟨.hbm, 321, rfl⟩
abbrev main_v243 : Ref sig .tc := ⟨.hbm, 322, rfl⟩
abbrev main_v244 : Ref sig .tc := ⟨.hbm, 323, rfl⟩
abbrev main_c_60 : Ref sig .tc := ⟨.hbm, 324, rfl⟩
abbrev main_v245 : Ref sig .tc := ⟨.hbm, 325, rfl⟩
abbrev main_v246 : Ref sig .tc := ⟨.hbm, 326, rfl⟩
abbrev main_c_61 : Ref sig .tc := ⟨.hbm, 327, rfl⟩
abbrev main_v247 : Ref sig .tc := ⟨.hbm, 328, rfl⟩
abbrev main_v248 : Ref sig .tc := ⟨.hbm, 329, rfl⟩
abbrev main_c_62 : Ref sig .tc := ⟨.hbm, 330, rfl⟩
abbrev main_v249 : Ref sig .tc := ⟨.hbm, 331, rfl⟩
abbrev main_v250 : Ref sig .tc := ⟨.hbm, 332, rfl⟩
abbrev main_c_63 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_c_64 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_cst_65 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_v262 : Ref sig .tc := ⟨.hbm, 347, rfl⟩
abbrev main_c_66 : Ref sig .tc := ⟨.hbm, 348, rfl⟩
abbrev main_v263 : Ref sig .tc := ⟨.hbm, 349, rfl⟩
abbrev main_v264 : Ref sig .tc := ⟨.hbm, 350, rfl⟩
abbrev main_c_67 : Ref sig .tc := ⟨.hbm, 351, rfl⟩
abbrev main_v265 : Ref sig .tc := ⟨.hbm, 352, rfl⟩
abbrev main_v266 : Ref sig .tc := ⟨.hbm, 353, rfl⟩
abbrev main_c_68 : Ref sig .tc := ⟨.hbm, 354, rfl⟩
abbrev main_v267 : Ref sig .tc := ⟨.hbm, 355, rfl⟩
abbrev main_v268 : Ref sig .tc := ⟨.hbm, 356, rfl⟩
abbrev main_c_69 : Ref sig .tc := ⟨.hbm, 357, rfl⟩
abbrev main_v269 : Ref sig .tc := ⟨.hbm, 358, rfl⟩
abbrev main_v270 : Ref sig .tc := ⟨.hbm, 359, rfl⟩
abbrev main_c_70 : Ref sig .tc := ⟨.hbm, 360, rfl⟩
abbrev main_v271 : Ref sig .tc := ⟨.hbm, 361, rfl⟩
abbrev main_v272 : Ref sig .tc := ⟨.hbm, 362, rfl⟩
abbrev main_c_71 : Ref sig .tc := ⟨.hbm, 363, rfl⟩
abbrev main_v273 : Ref sig .tc := ⟨.hbm, 364, rfl⟩
abbrev main_v274 : Ref sig .tc := ⟨.hbm, 365, rfl⟩
abbrev main_v275 : Ref sig .tc := ⟨.hbm, 366, rfl⟩
abbrev main_c_72 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_cst_73 : Ref sig .tc := ⟨.hbm, 371, rfl⟩
abbrev main_v279 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_v288 : Ref sig .tc := ⟨.hbm, 381, rfl⟩
abbrev main_v289 : Ref sig .tc := ⟨.hbm, 382, rfl⟩
abbrev main_v290 : Ref sig .tc := ⟨.hbm, 383, rfl⟩
abbrev main_v291 : Ref sig .tc := ⟨.hbm, 384, rfl⟩
abbrev main_v292 : Ref sig .tc := ⟨.hbm, 385, rfl⟩
abbrev main_v293 : Ref sig .tc := ⟨.hbm, 386, rfl⟩
abbrev main_cst_74 : Ref sig .tc := ⟨.hbm, 387, rfl⟩
abbrev main_v294 : Ref sig .tc := ⟨.hbm, 388, rfl⟩
abbrev main_call7_v0 : Ref sig .tc := ⟨.hbm, 389, rfl⟩
abbrev main_call7_v1 : Ref sig .tc := ⟨.hbm, 390, rfl⟩
abbrev main_call7_cst : Ref sig .tc := ⟨.hbm, 391, rfl⟩
abbrev main_call7_v2 : Ref sig .tc := ⟨.hbm, 392, rfl⟩
abbrev main_call7_v3 : Ref sig .tc := ⟨.hbm, 393, rfl⟩
abbrev main_call7_cst_0 : Ref sig .tc := ⟨.hbm, 394, rfl⟩
abbrev main_call7_v4 : Ref sig .tc := ⟨.hbm, 395, rfl⟩
abbrev main_call7_v5 : Ref sig .tc := ⟨.hbm, 396, rfl⟩
abbrev main_v295 : Ref sig .tc := ⟨.hbm, 397, rfl⟩
abbrev main_v296 : Ref sig .tc := ⟨.hbm, 398, rfl⟩
abbrev main_v297 : Ref sig .tc := ⟨.hbm, 399, rfl⟩
abbrev main_v298 : Ref sig .tc := ⟨.hbm, 400, rfl⟩
abbrev main_cst_75 : Ref sig .tc := ⟨.hbm, 401, rfl⟩
abbrev main_v299 : Ref sig .tc := ⟨.hbm, 402, rfl⟩
abbrev main_cst_76 : Ref sig .tc := ⟨.hbm, 403, rfl⟩
abbrev main_v300 : Ref sig .tc := ⟨.hbm, 404, rfl⟩
abbrev main_v301 : Ref sig .tc := ⟨.hbm, 405, rfl⟩
abbrev main_cst_77 : Ref sig .tc := ⟨.hbm, 406, rfl⟩
abbrev main_v302 : Ref sig .tc := ⟨.hbm, 407, rfl⟩
abbrev main_v303 : Ref sig .tc := ⟨.hbm, 408, rfl⟩
abbrev main_cst_78 : Ref sig .tc := ⟨.hbm, 409, rfl⟩
abbrev main_call8_v0 : Ref sig .tc := ⟨.hbm, 410, rfl⟩
abbrev main_call8_v1 : Ref sig .tc := ⟨.hbm, 411, rfl⟩
abbrev main_v304 : Ref sig .tc := ⟨.hbm, 412, rfl⟩
abbrev main_v305 : Ref sig .tc := ⟨.hbm, 413, rfl⟩
abbrev main_v306 : Ref sig .tc := ⟨.hbm, 414, rfl⟩
abbrev main_v307 : Ref sig .tc := ⟨.hbm, 415, rfl⟩
abbrev main_v308 : Ref sig .tc := ⟨.hbm, 416, rfl⟩
abbrev main_c_79 : Ref sig .tc := ⟨.hbm, 417, rfl⟩
abbrev main_c_80 : Ref sig .tc := ⟨.hbm, 418, rfl⟩
abbrev main_call10_v0 : Ref sig .tc := ⟨.hbm, 419, rfl⟩
abbrev main_call10_v1 : Ref sig .tc := ⟨.hbm, 420, rfl⟩
abbrev main_call10_v2 : Ref sig .tc := ⟨.hbm, 421, rfl⟩
abbrev main_call10_v3 : Ref sig .tc := ⟨.hbm, 422, rfl⟩
abbrev main_call10_v4 : Ref sig .tc := ⟨.hbm, 423, rfl⟩
abbrev main_v309 : Ref sig .tc := ⟨.hbm, 424, rfl⟩
abbrev main_v310 : Ref sig .tc := ⟨.hbm, 425, rfl⟩
abbrev main_v311 : Ref sig .tc := ⟨.hbm, 426, rfl⟩
abbrev main_v312 : Ref sig .tc := ⟨.hbm, 427, rfl⟩

abbrev nD : Nat := 1
abbrev τ : Topo := Topo.v7x

variable {F : FTy → Type} [FloatOps F]
-- ==== Proof.Runs.lean ====
/- The per-point vocabulary of the region: the condition of the first point, the staging memrefs, the scratch. -/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, e0]
    word_cmp
   : ∀ t : Fin grid0.N, cond0_0 (grid0.coords t) ↔ t.val % 28 = 0)

/-! ## The kernel body on any staging memrefs: a subtype the run finds -/

/-- One staging buffer of output window 10, through which its contents are stated (`View.read_writes_of_cover`: the
    choice does not matter). -/
abbrev VO0_10 : View sig .tc .vmem S24x4096 .i8 := (Memref.whole cc0_stg10_0 : Memref sig .tc .vmem S24x4096 .i8).view
/-- One staging buffer of output window 11, through which its contents are stated (`View.read_writes_of_cover`: the
    choice does not matter). -/
abbrev VO0_11 : View sig .tc .vmem S24x16 .f32 := (Memref.whole cc0_stg11_0 : Memref sig .tc .vmem S24x16 .f32).view
/-- One staging buffer of output window 12, through which its contents are stated (`View.read_writes_of_cover`: the
    choice does not matter). -/
abbrev VO0_12 : View sig .tc .vmem S24x512 .i8 := (Memref.whole cc0_stg12_0 : Memref sig .tc .vmem S24x512 .i8).view
/-- One staging buffer of output window 13, through which its contents are stated (`View.read_writes_of_cover`: the
    choice does not matter). -/
abbrev VO0_13 : View sig .tc .vmem S24x56 .f32 := (Memref.whole cc0_stg13_0 : Memref sig .tc .vmem S24x56 .f32).view
/-- Each window's current staging memref at point `t`, spelled as the pipeline passes it (`bodyAt0`), and its wholeness. -/
abbrev ms0_0 (t : Fin cfg0.N) : Memref sig .tc .vmem S24x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x16x128 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x16x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x512 .i16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x512 .i16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x16x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x16x512 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x512 .i16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x512 .i16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S24x4096 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S24x16 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S24x512 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S24x56 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S16x192x256 .bf16 := Memref.whole cc0_scratch0
abbrev scM0_1 : Memref sig .tc .vmem S16x24x256 .f32 := Memref.whole cc0_scratch1
abbrev scM0_2 : Memref sig .tc .vmem S24x768 .bf16 := Memref.whole cc0_scratch2
abbrev scM0_3 : Memref sig .tc .vmem S2x128x128 .i32 := Memref.whole cc0_scratch3
abbrev scM0_4 : Memref sig .tc .vmem S8x16x256 .f32 := Memref.whole cc0_scratch4
abbrev scM0_5 : Memref sig .tc .vmem S16x256 .f32 := Memref.whole cc0_scratch5
/-- The scratch `arg15` the kernel carries between points, as a view: what it holds is stated through it. -/
abbrev VS0_0 : View sig .tc .vmem S16x192x256 .bf16 := scM0_0.view
/-- The scratch `arg16` the kernel carries between points, as a view: what it holds is stated through it. -/
abbrev VS0_1 : View sig .tc .vmem S16x24x256 .f32 := scM0_1.view
/-- The scratch `arg17` the kernel carries between points, as a view: what it holds is stated through it. -/
abbrev VS0_2 : View sig .tc .vmem S24x768 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.RunA.lean ====
/- The run of the body, case A. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 7180000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) :
    Σ' (L10 : List (View.Piece (Elt F) S24x4096 .i8)), Σ' (L11 : List (View.Piece (Elt F) S24x16 .f32)), Σ' (L12 : List (View.Piece (Elt F) S24x512 .i8)), Σ' (L13 : List (View.Piece (Elt F) S24x56 .f32)), Σ' (LS0 : List (View.Piece (Elt F) S16x192x256 .bf16)), Σ' (LS1 : List (View.Piece (Elt F) S16x24x256 .f32)), Σ' (LS2 : List (View.Piece (Elt F) S24x768 .bf16)), Σ' (LT3 : List (View.Piece (Elt F) S2x128x128 .i32)), Σ' (LT4 : List (View.Piece (Elt F) S8x16x256 .f32)), { LT5 : List (View.Piece (Elt F) S16x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LT3) ∗ (∃ f, arg19.view.loc (c : Thread nD τ) ↦[arg19.view.set]{fullShare} arg19.view.writes (Elt F) f LT4) ∗ (∃ f, arg20.view.loc (c : Thread nD τ) ↦[arg20.view.set]{fullShare} arg20.view.writes (Elt F) f LT5)) -∗ K ⟨⟩))
          ⊢ wp frame (wpE (defs₀ (F := F)) Variants.none c none) E (cc0_ff i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, ?_, ?_, fun E K => ?run⟩
  case run =>
    simp only [cc0_ff_eq_skeleton]; unfold cc0_ff_skel
    simp only [k0_part211_eq_skeleton, k0_part47_eq_skeleton, k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part212_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part213_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Gen

end
-- ==== Proof.RunB.lean ====
/- The run of the body, case B. -/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6088000 in
/-- What the body's stores leave in each output's staging memref, as pieces (last first) IN CASE B (`scf.if` 0 not taken: points 1, 2, … 27: 27 of 28), WITH the
    proof that on whole staging memrefs — the inputs' at their contents, the outputs it reads before covering (10, 11, 13) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) :
    Σ' (L10 : List (View.Piece (Elt F) S24x4096 .i8)), Σ' (L11 : List (View.Piece (Elt F) S24x16 .f32)), Σ' (L12 : List (View.Piece (Elt F) S24x512 .i8)), Σ' (L13 : List (View.Piece (Elt F) S24x56 .f32)), Σ' (LS0 : List (View.Piece (Elt F) S16x192x256 .bf16)), Σ' (LS1 : List (View.Piece (Elt F) S16x24x256 .f32)), Σ' (LS2 : List (View.Piece (Elt F) S24x768 .bf16)), Σ' (LT3 : List (View.Piece (Elt F) S2x128x128 .i32)), Σ' (LT4 : List (View.Piece (Elt F) S8x16x256 .f32)), { LT5 : List (View.Piece (Elt F) S16x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo10 ∗ owns (c : Thread nD τ) arg12 fullShare xo11 ∗ (∃ d, owns (c : Thread nD τ) arg13 fullShare d) ∗ owns (c : Thread nD τ) arg14 fullShare xo13 ∗ owns (c : Thread nD τ) arg15 fullShare xs0 ∗ owns (c : Thread nD τ) arg16 fullShare xs1 ∗ owns (c : Thread nD τ) arg17 fullShare xs2 ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo10 ∗ owns (c : Thread nD τ) arg12 fullShare xo11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ owns (c : Thread nD τ) arg15 fullShare xs0 ∗ owns (c : Thread nD τ) arg16 fullShare xs1 ∗ owns (c : Thread nD τ) arg17 fullShare xs2 ∗ (∃ f, arg18.view.loc (c : Thread nD τ) ↦[arg18.view.set]{fullShare} arg18.view.writes (Elt F) f LT3) ∗ (∃ f, arg19.view.loc (c : Thread nD τ) ↦[arg19.view.set]{fullShare} arg19.view.writes (Elt F) f LT4) ∗ (∃ f, arg20.view.loc (c : Thread nD τ) ↦[arg20.view.set]{fullShare} arg20.view.writes (Elt F) f LT5)) -∗ K ⟨⟩))
          ⊢ wp frame (wpE (defs₀ (F := F)) Variants.none c none) E (cc0_ff i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨[], [], ?_, ?_, [], [], [], ?_, ?_, ?_, fun E K => ?run⟩
  case run =>
    simp only [cc0_ff_eq_skeleton]; unfold cc0_ff_skel
    simp only [k0_part211_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part212_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part213_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg15.eq_unread hfs0; obtain rfl := harg16.eq_unread hfs1; obtain rfl := harg17.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [HS0]
    · iexists _; isplitr; · ipureintro; exact harg15.read_unread _
      iexact HS0
    isplitl [HS1]
    · iexists _; isplitr; · ipureintro; exact harg16.read_unread _
      iexact HS1
    isplitl [HS2]
    · iexists _; isplitr; · ipureintro; exact harg17.read_unread _
      iexact HS2
    isplitl [HS3]; · iexists _; iexact HS3
    isplitl [HS4]; · iexists _; iexact HS4
    iexists _; iexact HS5

end Cert.KernelIdeal.Gen

end
-- ==== Proof.Frame.lean ====
/- The frame of the region with every output named. -/
module

public import proofs.«01_k».proof.Proof.RunB
public import Idealize.ShloMosaic.Lib.Claim
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 10 are of SEVERAL sizes. -/
theorem cover0_A_10 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (y : S24x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).1 ![24, 256] (by sl_kernel_rfl) y

/-- What case A leaves in output 10's staging buffer: its pieces read back over junk. -/
def out0_A_10 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) : Vec F S24x4096 .i8 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).1)

/-- Case A's pieces for output 11 tile its block. -/
theorem cover0_A_11 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (y : S24x16.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.1 S24x16.size (by sl_kernel_rfl) y

/-- What case A leaves in output 11's staging buffer: its pieces read back over junk. -/
def out0_A_11 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) : Vec F S24x16 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.1)

/-- Case A's pieces for output 12 tile its block. -/
theorem cover0_A_12 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (y : S24x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.1 S24x256.size (by sl_kernel_rfl) y

/-- What case A leaves in output 12's staging buffer: its pieces read back over junk. -/
def out0_A_12 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) : Vec F S24x512 .i8 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.1)

/-- Case A's pieces for output 13 tile its block. -/
theorem cover0_A_13 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (y : S24x56.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.1 S24x56.size (by sl_kernel_rfl) y

/-- What case A leaves in output 13's staging buffer: its pieces read back over junk. -/
def out0_A_13 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) : Vec F S24x56 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.1)

/-- Case A's pieces for scratch `arg15`, which the kernel carries between points, cover it. -/
theorem scover0_A_0 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (y : S16x192x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.2.1 S1x192x256.size (by sl_kernel_rfl) y

/-- What case A leaves in scratch `arg15`: its pieces read back over junk. -/
def sout0_A_0 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) : Vec F S16x192x256 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.2.1)

/-- Case A's pieces for scratch `arg16`, which the kernel carries between points, cover it. -/
theorem scover0_A_1 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (y : S16x24x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.2.2.1 S1x24x256.size (by sl_kernel_rfl) y

/-- What case A leaves in scratch `arg16`: its pieces read back over junk. -/
def sout0_A_1 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) : Vec F S16x24x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.2.2.1)

/-- Case A's pieces for scratch `arg17`, which the kernel carries between points, cover it. -/
theorem scover0_A_2 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (y : S24x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.2.2.2.1 S24x128.size (by sl_kernel_rfl) y

/-- What case A leaves in scratch `arg17`: its pieces read back over junk. -/
def sout0_A_2 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) : Vec F S24x768 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.2.2.2.1)

/-- Case B stores nothing into output 10: it holds what the point before left. -/
def out0_B_10 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) : Vec F S24x4096 .i8 :=
  xo10

/-- Case B stores nothing into output 11: it holds what the point before left. -/
def out0_B_11 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) : Vec F S24x16 .f32 :=
  xo11

/-- Case B's pieces for output 12 tile its block. -/
theorem cover0_B_12 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) (y : S24x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2).2.2.1 S24x256.size (by sl_kernel_rfl) y

/-- What case B leaves in output 12's staging buffer: its pieces read back over junk. -/
def out0_B_12 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) : Vec F S24x512 .i8 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2).2.2.1)

/-- Case B's pieces for output 13 tile its block. -/
theorem cover0_B_13 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) (y : S24x56.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2).2.2.2.1 S24x56.size (by sl_kernel_rfl) y

/-- What case B leaves in output 13's staging buffer: its pieces read back over junk. -/
def out0_B_13 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) : Vec F S24x56 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2).2.2.2.1)

/-- Case B stores nothing into scratch `arg15`: it holds what the point before left. -/
def sout0_B_0 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) : Vec F S16x192x256 .bf16 := xs0

/-- Case B stores nothing into scratch `arg16`: it holds what the point before left. -/
def sout0_B_1 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) : Vec F S16x24x256 .f32 := xs1

/-- Case B stores nothing into scratch `arg17`: it holds what the point before left. -/
def sout0_B_2 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) : Vec F S24x768 .bf16 := xs2

/-! ## What the outputs hold after each point -/

/-- THE ACCUMULATION. What the outputs' staging buffers and the scratch the kernel carries between points hold after the body at position `n`. -/
def outsAt0 (c : Dev nD) : (n : ℕ) → n < cfg0.N → Vec F S24x4096 .i8 × Vec F S24x16 .f32 × Vec F S24x512 .i8 × Vec F S24x56 .f32 × Vec F S16x192x256 .bf16 × Vec F S16x24x256 .f32 × Vec F S24x768 .bf16
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 28 = 0 then
      (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
    else
      (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2)

/-- `outsAt0` at a point of case A: that case's contents. -/
theorem outsAt0_A (c : Dev nD) (t : Fin cfg0.N) (h0 : t.val % 28 = 0) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 28 = 0) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2.1) ∗ owns (c : Thread nD τ) scM0_2 fullShare ((outsAt0 m c (n - 1) (by omega)).2.2.2.2.2.2) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
/-- Output 10 is idle at the points but the first. -/
theorem idle0_10 (t : Fin cfg0.N) : cfg0.idle 10 (cfg0.grid.coords t) = !decide (t.val % 28 = 0) := by
  show (!(k0_cond1 (grid0.coords t) == 1#1)) = _
  congr 1
  rw [Bool.eq_iff_iff, beq_iff_eq, decide_eq_true_iff]
  exact hcond0_0 t

/-- Output 10's buffer holds nothing of the body only at the first point. -/
theorem fresh0_10 (n : ℕ) (hn : n ≤ cfg0.N) : cfg0.fresh 10 n = (n == 0 || n == 28) :=
  cfg0.fresh_tab 10 (fun n => n == 0 || n == 28) rfl (fun t => by
    have hN : t.val < 28 := lt_of_lt_of_eq t.isLt (show cfg0.N = 28 from N_0)
    have hf := flush0_10 t
    rw [idle0_10]
    cases hfl : (cfg0.win 10).flush t
    · have : t.val ≠ 27 := fun h => by rw [h] at hf; exact absurd (hf.mpr rfl) (by rw [hfl]; exact Bool.false_ne_true)
      by_cases h0 : t.val = 0
      · rw [h0]; rfl
      · have e1 : (t.val + 1 == 28) = false := by rw [beq_eq_false_iff_ne]; omega
        have e2 : (t.val == 0) = false := by rw [beq_eq_false_iff_ne]; omega
        have e3 : (t.val == 28) = false := by rw [beq_eq_false_iff_ne]; omega
        have e4 : (t.val + 1 == 0) = false := by rw [beq_eq_false_iff_ne]; omega
        simp only [e1, e2, e3, e4, Bool.or_false, Bool.and_false]
    · have : t.val = 27 := by have := hf.mp hfl; omega
      rw [this]; rfl) n hn

/-- Output 11 is idle at the points but the first. -/
theorem idle0_11 (t : Fin cfg0.N) : cfg0.idle 11 (cfg0.grid.coords t) = !decide (t.val % 28 = 0) := by
  show (!(k0_cond1 (grid0.coords t) == 1#1)) = _
  congr 1
  rw [Bool.eq_iff_iff, beq_iff_eq, decide_eq_true_iff]
  exact hcond0_0 t

/-- Output 11's buffer holds nothing of the body only at the first point. -/
theorem fresh0_11 (n : ℕ) (hn : n ≤ cfg0.N) : cfg0.fresh 11 n = (n == 0 || n == 28) :=
  cfg0.fresh_tab 11 (fun n => n == 0 || n == 28) rfl (fun t => by
    have hN : t.val < 28 := lt_of_lt_of_eq t.isLt (show cfg0.N = 28 from N_0)
    have hf := flush0_11 t
    rw [idle0_11]
    cases hfl : (cfg0.win 11).flush t
    · have : t.val ≠ 27 := fun h => by rw [h] at hf; exact absurd (hf.mpr rfl) (by rw [hfl]; exact Bool.false_ne_true)
      by_cases h0 : t.val = 0
      · rw [h0]; rfl
      · have e1 : (t.val + 1 == 28) = false := by rw [beq_eq_false_iff_ne]; omega
        have e2 : (t.val == 0) = false := by rw [beq_eq_false_iff_ne]; omega
        have e3 : (t.val == 28) = false := by rw [beq_eq_false_iff_ne]; omega
        have e4 : (t.val + 1 == 0) = false := by rw [beq_eq_false_iff_ne]; omega
        simp only [e1, e2, e3, e4, Bool.or_false, Bool.and_false]
    · have : t.val = 27 := by have := hf.mp hfl; omega
      rw [this]; rfl) n hn

/-- At a point of case B output 10's current staging buffer holds what the body left at the point before. -/
theorem before0_10_B (c : Dev nD) (t : Fin cfg0.N) (h0 : ¬t.val % 28 = 0) (d) :
    (dats m 0 c).before 10 t d = (outsAt0 m c (t.val - 1) (Nat.lt_of_le_of_lt (Nat.sub_le _ _) t.isLt)).1 := by
  have hN : t.val < 28 := lt_of_lt_of_eq t.isLt (show cfg0.N = 28 from N_0)
  have hz : t.val ≠ 0 := fun h => h0 (by rw [h])
  rw [Dat.before_out_traj _ 10 rfl (fun _ _ => rfl) (fun t hz hi _ => by
      have h1 : ¬t.val % 28 = 0 := by rw [idle0_10] at hi; simpa using hi
      rw [after0_10, after0_10, outsAt0_B m c t h1]; rfl) t.val t rfl d, fresh0_10 t.val t.isLt.le]
  rw [if_neg (by simp; omega)]
  dsimp only [dats]
/-- At a point of case B output 11's current staging buffer holds what the body left at the point before. -/
theorem before0_11_B (c : Dev nD) (t : Fin cfg0.N) (h0 : ¬t.val % 28 = 0) (d) :
    (dats m 0 c).before 11 t d = (outsAt0 m c (t.val - 1) (Nat.lt_of_le_of_lt (Nat.sub_le _ _) t.isLt)).2.1 := by
  have hN : t.val < 28 := lt_of_lt_of_eq t.isLt (show cfg0.N = 28 from N_0)
  have hz : t.val ≠ 0 := fun h => h0 (by rw [h])
  rw [Dat.before_out_traj _ 11 rfl (fun _ _ => rfl) (fun t hz hi _ => by
      have h1 : ¬t.val % 28 = 0 := by rw [idle0_11] at hi; simpa using hi
      rw [after0_11, after0_11, outsAt0_B m c t h1]; rfl) t.val t rfl d, fresh0_11 t.val t.isLt.le]
  rw [if_neg (by simp; omega)]
  dsimp only [dats]
/-- At a point of case B output 13's current staging buffer holds what the body left at the point before. -/
theorem before0_13_B (c : Dev nD) (t : Fin cfg0.N) (h0 : ¬t.val % 28 = 0) (d) :
    (dats m 0 c).before 13 t d = (outsAt0 m c (t.val - 1) (Nat.lt_of_le_of_lt (Nat.sub_le _ _) t.isLt)).2.2.2.1 := by
  have hN : t.val < 28 := lt_of_lt_of_eq t.isLt (show cfg0.N = 28 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 16000000 in
/-- The body at any point: the inputs' memrefs hold their blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.succ = PhiS m c (t.val + 1) t.isLt from rfl, PhiS_succ]
  have hN : t.val < 28 := lt_of_lt_of_eq t.isLt (show cfg0.N = 28 from N_0)
  by_cases h0 : t.val % 28 = 0
  · by_cases hz : t.val = 0
    · rw [PhiS_castSucc m c t, PhiS_zero m c _ _ hz, PhiA0_eq]
      rw [outsAt0_A m c t h0]
      unfold out0_A_10 out0_A_11 out0_A_12 out0_A_13 sout0_A_0 sout0_A_1 sout0_A_2; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, ⟨%e10, H10⟩, ⟨%e11, H11⟩, ⟨%e12, H12⟩, ⟨%e13, H13⟩, ⟨%es0, HS0⟩, ⟨%es1, HS1⟩, ⟨%es2, HS2⟩, ⟨%fT3, HS3⟩, ⟨%fT4, HS4⟩, ⟨%fT5, HS5⟩⟩
      isplitl [HS0 HS1 HS2 HS3 HS4 HS5 Hg]
      · isplitl [HS0 HS1 HS2 HS3 HS4 HS5]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _)
          isplitl [HS3]
          · iexists _; unfold owns; iexists _; isplitr
            swap; · iexact HS3
            ipureintro; rfl
          isplitl [HS4]
          · iexists _; unfold owns; iexists _; isplitr
            swap; · iexact HS4
            ipureintro; rfl
          iexists _; unfold owns; iexists _; isplitr
          swap; · iexact HS5
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _)
    · exfalso; have hN : t.val < 28 := lt_of_lt_of_eq t.isLt (show cfg0.N = 28 from N_0); omega
  · by_cases hz : t.val = 0
    · exfalso; have hN : t.val < 28 := lt_of_lt_of_eq t.isLt (show cfg0.N = 28 from N_0); omega
    · rw [PhiS_castSucc m c t, PhiS_pos m c _ _ hz]
      rw [outsAt0_B m c t h0]
      simp only [before0_10_B m c t h0, before0_11_B m c t h0, before0_13_B m c t h0]
      unfold out0_B_10 out0_B_11 out0_B_12 out0_B_13 sout0_B_0 sout0_B_1 sout0_B_2; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _ _ _ _ _ _).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexact H13
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, ⟨%e12, H12⟩, ⟨%e13, H13⟩, HS0, HS1, HS2, ⟨%fT3, HS3⟩, ⟨%fT4, HS4⟩, ⟨%fT5, HS5⟩⟩
      isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · iexists _; unfold owns; iexists _; isplitr
            swap; · iexact HS3
            ipureintro; rfl
          isplitl [HS4]
          · iexists _; unfold owns; iexists _; isplitr
            swap; · iexact HS4
            ipureintro; rfl
          iexists _; unfold owns; iexists _; isplitr
          swap; · iexact HS5
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _)

/-- What the body leaves of output 10 is what the obligation asks: at an idle point that does not write back, what it found. -/
theorem leaves0_10 (c : Dev nD) (t : Fin cfg0.N) :
    owns c ((cfg0.win 10).stage (cfg0.slots t 10)) fullShare ((dats (F := F) m 0 c).after 10 t) ⊢ (dats m 0 c).leavesExact 10 t := by
  unfold Dat.leavesExact
  rw [idle0_10]
  by_cases h0 : t.val % 28 = 0
  · rw [decide_eq_true h0]; exact Idealize.SL.BI.Entails.refl _
  · rw [decide_eq_false h0]
    cases (cfg0.win 10).flush t
    · show _ ⊢ iprop(∃ d, owns (c : Thread nD τ) ((cfg0.win 10).stage (cfg0.slots t 10)) fullShare ((dats m 0 c).before 10 t d))
      iintro H
      iexists ((dats (F := F) m 0 c).after 10 t)
      rw [before0_10_B m c t h0, after0_10, outsAt0_B m c t h0]
      iexact H
    · exact Idealize.SL.BI.Entails.refl _

/-- What the body leaves of output 11 is what the obligation asks: at an idle point that does not write back, what it found. -/
theorem leaves0_11 (c : Dev nD) (t : Fin cfg0.N) :
    owns c ((cfg0.win 11).stage (cfg0.slots t 11)) fullShare ((dats (F := F) m 0 c).after 11 t) ⊢ (dats m 0 c).leavesExact 11 t := by
  unfold Dat.leavesExact
  rw [idle0_11]
  by_cases h0 : t.val % 28 = 0
  · rw [decide_eq_true h0]; exact Idealize.SL.BI.Entails.refl _
  · rw [decide_eq_false h0]
    cases (cfg0.win 11).flush t
    · show _ ⊢ iprop(∃ d, owns (c : Thread nD τ) ((cfg0.win 11).stage (cfg0.slots t 11)) fullShare ((dats m 0 c).before 11 t d))
      iintro H
      iexists ((dats (F := F) m 0 c).after 11 t)
      rw [before0_11_B m c t h0, after0_11, outsAt0_B m c t h0]
      iexact H
    · exact Idealize.SL.BI.Entails.refl _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  refine triple_restated (sound_body m c t) rfl (Idealize.SL.BI.Entails.refl _) fun _ => ?_
  unfold bodyPost
  refine Idealize.SL.BI.sep_mono (Idealize.SL.BI.Entails.refl _) (Idealize.SL.BI.sep_mono (Idealize.SL.BI.Entails.refl _) ?_)
  refine Idealize.SL.BI.sep_mono (Idealize.SL.BI.Entails.refl _) ?_
  refine Idealize.SL.BI.sep_mono (Idealize.SL.BI.Entails.refl _) ?_
  refine Idealize.SL.BI.sep_mono (Idealize.SL.BI.Entails.refl _) ?_
  refine Idealize.SL.BI.sep_mono (Idealize.SL.BI.Entails.refl _) ?_
  refine Idealize.SL.BI.sep_mono (Idealize.SL.BI.Entails.refl _) ?_
  refine Idealize.SL.BI.sep_mono (Idealize.SL.BI.Entails.refl _) ?_
  refine Idealize.SL.BI.sep_mono (Idealize.SL.BI.Entails.refl _) ?_
  refine Idealize.SL.BI.sep_mono (Idealize.SL.BI.Entails.refl _) ?_
  refine Idealize.SL.BI.sep_mono (Idealize.SL.BI.Entails.refl _) ?_
  refine Idealize.SL.BI.sep_mono (Idealize.SL.BI.Entails.refl _) ?_
  refine Idealize.SL.BI.sep_mono (leaves0_10 m c t) ?_
  refine Idealize.SL.BI.sep_mono (leaves0_11 m c t) ?_
  exact Idealize.SL.BI.Entails.refl _

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexact HS3
    isplitl [HS4]
    · iexact HS4
    iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 28 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_KernelIdeal`'s statement. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Gen

end
-- ==== Proof.KValue.lean ====
/- What the outputs and the carried scratch hold after each point as one fold, the arrays after the run, and the run. -/
module

public import proofs.«01_k».proof.Proof.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v7_0) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v7_1) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v7_2) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v7_3) = (dats m 0 c).arrAt 13 cfg0.N :=
  (h c).1 13

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-! ## The carried state as one fold: the named outputs and the carried scratch, from the first point -/

/-- What the fold starts from. -/
def junk0 : Vec F S24x4096 .i8 × Vec F S24x16 .f32 × Vec F S24x512 .i8 × Vec F S24x56 .f32 × Vec F S16x192x256 .bf16 × Vec F S16x24x256 .f32 × Vec F S24x768 .bf16 :=
  ((VO0_10.read (Elt F) VO0_10.junk, VO0_11.read (Elt F) VO0_11.junk, VO0_12.read (Elt F) VO0_12.junk, VO0_13.read (Elt F) VO0_13.junk, VS0_0.read (Elt F) VS0_0.junk, VS0_1.read (Elt F) VS0_1.junk, VS0_2.read (Elt F) VS0_2.junk) : Vec F S24x4096 .i8 × Vec F S24x16 .f32 × Vec F S24x512 .i8 × Vec F S24x56 .f32 × Vec F S16x192x256 .bf16 × Vec F S16x24x256 .f32 × Vec F S24x768 .bf16)

/-- THE STEP: what point `n` leaves in the named outputs and the carried scratch. -/
def stAt0 (c : Dev nD) (n : ℕ) (hb : n < cfg0.N) (acc : Vec F S24x4096 .i8 × Vec F S24x16 .f32 × Vec F S24x512 .i8 × Vec F S24x56 .f32 × Vec F S16x192x256 .bf16 × Vec F S16x24x256 .f32 × Vec F S24x768 .bf16) : Vec F S24x4096 .i8 × Vec F S24x16 .f32 × Vec F S24x512 .i8 × Vec F S24x56 .f32 × Vec F S16x192x256 .bf16 × Vec F S16x24x256 .f32 × Vec F S24x768 .bf16 :=
  if h0 : n % 28 = 0 then
    (out0_A_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)), out0_A_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)), out0_A_12 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)), out0_A_13 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)))
  else
    (out0_B_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc.1 acc.2.1 acc.2.2.2.1 acc.2.2.2.2.1 acc.2.2.2.2.2.1 acc.2.2.2.2.2.2, out0_B_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc.1 acc.2.1 acc.2.2.2.1 acc.2.2.2.2.1 acc.2.2.2.2.2.1 acc.2.2.2.2.2.2, out0_B_12 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc.1 acc.2.1 acc.2.2.2.1 acc.2.2.2.2.1 acc.2.2.2.2.2.1 acc.2.2.2.2.2.2, out0_B_13 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc.1 acc.2.1 acc.2.2.2.1 acc.2.2.2.2.1 acc.2.2.2.2.2.1 acc.2.2.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc.1 acc.2.1 acc.2.2.2.1 acc.2.2.2.2.1 acc.2.2.2.2.2.1 acc.2.2.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc.1 acc.2.1 acc.2.2.2.1 acc.2.2.2.2.1 acc.2.2.2.2.2.1 acc.2.2.2.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc.1 acc.2.1 acc.2.2.2.1 acc.2.2.2.2.1 acc.2.2.2.2.2.1 acc.2.2.2.2.2.2)

/-- `stAt0` at a point of case A: that case's contents. -/
theorem stAt0_A (c : Dev nD) (t : Fin cfg0.N) (acc : Vec F S24x4096 .i8 × Vec F S24x16 .f32 × Vec F S24x512 .i8 × Vec F S24x56 .f32 × Vec F S16x192x256 .bf16 × Vec F S16x24x256 .f32 × Vec F S24x768 .bf16) (h0 : t.val % 28 = 0) :
    stAt0 m c t.val t.isLt acc = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) :=
  (dif_pos h0).trans rfl

/-- `stAt0` at a point of case B: that case's contents, over `acc`. -/
theorem stAt0_B (c : Dev nD) (t : Fin cfg0.N) (acc : Vec F S24x4096 .i8 × Vec F S24x16 .f32 × Vec F S24x512 .i8 × Vec F S24x56 .f32 × Vec F S16x192x256 .bf16 × Vec F S16x24x256 .f32 × Vec F S24x768 .bf16) (h0 : ¬t.val % 28 = 0) :
    stAt0 m c t.val t.isLt acc = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) acc.1 acc.2.1 acc.2.2.2.1 acc.2.2.2.2.1 acc.2.2.2.2.2.1 acc.2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) acc.1 acc.2.1 acc.2.2.2.1 acc.2.2.2.2.1 acc.2.2.2.2.2.1 acc.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) acc.1 acc.2.1 acc.2.2.2.1 acc.2.2.2.2.1 acc.2.2.2.2.2.1 acc.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) acc.1 acc.2.1 acc.2.2.2.1 acc.2.2.2.2.1 acc.2.2.2.2.2.1 acc.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) acc.1 acc.2.1 acc.2.2.2.1 acc.2.2.2.2.1 acc.2.2.2.2.2.1 acc.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) acc.1 acc.2.1 acc.2.2.2.1 acc.2.2.2.2.1 acc.2.2.2.2.2.1 acc.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) acc.1 acc.2.1 acc.2.2.2.1 acc.2.2.2.2.1 acc.2.2.2.2.2.1 acc.2.2.2.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`. -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 28 from N_0)
  have e := Pipeline.eq_accAt_of_mod (fun n h => outsAt0 m c n h) 28 (fun n h => stAt0 m c n h junk0) (stAt0 m c)
    (fun n h _ => by
      have hN := lt_of_lt_of_eq h (show cfg0.N = 28 from N_0)
      obtain rfl : n = 0 := by omega
      exact outsAt0_zero m c h)
    (fun n h _ => outsAt0_succ m c n h)
    (by decide) n hn (by have := Nat.div_add_mod n 28; omega)
  have hd : n / 28 = 0 := Nat.div_eq_of_lt hN
  have hm : n % 28 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 10 -/

/-- The block of the array that holds index `i`, numbered in the order the points write the blocks back. -/
abbrev run10Of (i : S24x4096.Idx) : ℕ := 1 * ((i 0).val / 24 - 0) + 1 * ((i 1).val / 4096 - 0)
set_option backward.proofsInPublic true in
abbrev loc10Of (i : S24x4096.Idx) : S24x4096.Idx := fun a => match a with
  | ⟨0, _⟩ => ⟨(i 0).val % 24, Nat.mod_lt _ (by decide)⟩
  | ⟨1, _⟩ => ⟨(i 1).val % 4096, Nat.mod_lt _ (by decide)⟩
abbrev pt10Of (i : S24x4096.Idx) : ℕ := 28 * run10Of i + 27

/-- WHAT THE ARRAY ENDS HOLDING at index `i` inside the box the flushing blocks fill. -/
def G10 (c : Dev nD) : Buf (Elt F) ((c : Thread nD τ).loc main_v7_0) := fun i =>
  if h : pt10Of i < cfg0.N then
    (Pipeline.accAt (fun n h => stAt0 m c n h junk0) (stAt0 m c) 0 (pt10Of i) (by omega)).1 (loc10Of i)
  else V m c (Pipeline.arrRef spec0 10) i

/-- The printed index map, decided over the grid. -/
theorem idx_facts10 : ∀ t : Fin cfg0.N, 0 ≤ win0_10.index t (0 : Fin 2) ∧ win0_10.index t (0 : Fin 2) ≤ 0
    ∧ 0 ≤ win0_10.index t (1 : Fin 2) ∧ win0_10.index t (1 : Fin 2) ≤ 0
    ∧ 1 * (win0_10.index t (0 : Fin 2) - 0) + 1 * (win0_10.index t (1 : Fin 2) - 0) = t.val / 28 :=
  (by decide +kernel : ∀ t : Fin grid0.N, _)

/-- Every block of the box is SOME flushing point's. -/
abbrev onto10Pt (q0 : Fin 1) (q1 : Fin 1) : Fin grid0.N :=
  ⟨28 * (1 * q0.val + 1 * q1.val) + 27, lt_of_lt_of_eq (by omega) N_0.symm⟩
theorem idx_onto10 : ∀ (q0 : Fin 1) (q1 : Fin 1), ∃ t : Fin cfg0.N, (cfg0.win 10).flush t = true ∧ win0_10.index t = ![q0.val + 0, q1.val + 0] :=
  fun q0 q1 => ⟨onto10Pt q0 q1, (by decide +kernel : ∀ (q0 : Fin 1) (q1 : Fin 1), win0_10.flush (onto10Pt q0 q1) = true ∧ win0_10.index (onto10Pt q0 q1) = ![q0.val + 0, q1.val + 0]) q0 q1⟩

/-- WHAT A FLUSHING POINT `t` WRITES BACK is block `t` of `G10`: output 10's component of the fold up to `t`. -/
theorem flushed10_eq (c : Dev nD) (t : Fin cfg0.N) (hf : (cfg0.win 10).flush t = true) :
    (dats m 0 c).flushed 10 t = ((cfg0.win 10).blk t).view.read (Elt F) (G10 m c) := by
  show (cfg0.win 10).cut (grid0.coords t) ((dats m 0 c).after 10 t) = _
  rw [after0_10, outsAt0_sweep]
  have hm : t.val % 28 = 27 := (flush0_10 t).mp hf
  obtain ⟨e0, e1, e2⟩ := idx_facts10 t
  funext y
  have hy0 : (y 0).val < 24 := (y 0).isLt
  have hy1 : (y 1).val < 4096 := (y 1).isLt
  have hb0 : (((cfg0.win 10).blk t).view.emb y 0).val = win0_10.index t (0 : Fin 2) * 24 + 1 * (y 0).val := rfl
  have hb1 : (((cfg0.win 10).blk t).view.emb y 1).val = win0_10.index t (1 : Fin 2) * 4096 + 1 * (y 1).val := rfl
  have hr : run10Of (((cfg0.win 10).blk t).view.emb y) = t.val / 28 := by
    show 1 * ((((cfg0.win 10).blk t).view.emb y 0).val / 24 - 0) + 1 * ((((cfg0.win 10).blk t).view.emb y 1).val / 4096 - 0) = _
    rw [hb0, hb1]
    rw [show (win0_10.index t (0 : Fin 2) * 24 + 1 * (y 0).val) / 24 = win0_10.index t (0 : Fin 2) from by omega]; rw [show (win0_10.index t (1 : Fin 2) * 4096 + 1 * (y 1).val) / 4096 = win0_10.index t (1 : Fin 2) from by omega]
    omega
  have hl : loc10Of (((cfg0.win 10).blk t).view.emb y) = (cfg0.win 10).xinj (grid0.coords t) y := by
    funext a; apply Fin.ext
    match a with
    | ⟨0, _⟩ => show (((cfg0.win 10).blk t).view.emb y 0).val % 24 = (y 0).val; rw [hb0]; omega
    | ⟨1, _⟩ => show (((cfg0.win 10).blk t).view.emb y 1).val % 4096 = (y 1).val; rw [hb1]; omega
  have hp : pt10Of (((cfg0.win 10).blk t).view.emb y) = t.val := by
    show 28 * run10Of (((cfg0.win 10).blk t).view.emb y) + 27 = _
    rw [hr]; have := Nat.div_add_mod t.val 28; omega
  show (Pipeline.accAt (fun n h => stAt0 m c n h junk0) (stAt0 m c) 0 t.val _).1 ((cfg0.win 10).xinj (grid0.coords t) y) = G10 m c (((cfg0.win 10).blk t).view.emb y)
  unfold G10
  rw [dif_pos (by rw [hp]; exact t.isLt), hl, fold0_congr m c _ _ _ _ hp.symm]

/-- An index of the array is in point `t`'s block iff each coordinate is in the block's range on its axis. -/
theorem mem_blk10 (t : Fin cfg0.N) (i : S24x4096.Idx) :
    i ∈ ((cfg0.win 10).blk t).view.set ↔ ∀ a : Fin 2, win0_10.index t a * S24x4096.size a ≤ (i a).val ∧ (i a).val < win0_10.index t a * S24x4096.size a + S24x4096.size a := by
  show i ∈ ((View.whole main_v7_0).slice (win0_10.rect t)).set ↔ _
  rw [View.set_slice_whole, Rect.mem_set_unit]
  exact Iff.rfl

/-- THE COVERED INDICES: in some flushing point's block iff inside the box those blocks fill. -/
theorem covered_iff10 (i : S24x4096.Idx) :
    (∃ t : Fin cfg0.N, (cfg0.win 10).flush t = true ∧ i ∈ ((cfg0.win 10).blk t).view.set) ↔ 0 ≤ (i 0).val ∧ (i 0).val < 24 ∧ 0 ≤ (i 1).val ∧ (i 1).val < 4096 := by
  constructor
  · rintro ⟨t, -, hi⟩
    rw [mem_blk10] at hi
    have b0 : win0_10.index t (0 : Fin 2) * 24 ≤ (i 0).val ∧ (i 0).val < win0_10.index t (0 : Fin 2) * 24 + 24 := hi 0
    have b1 : win0_10.index t (1 : Fin 2) * 4096 ≤ (i 1).val ∧ (i 1).val < win0_10.index t (1 : Fin 2) * 4096 + 4096 := hi 1
    obtain ⟨e0, e1, e2⟩ := idx_facts10 t
    omega
  · intro h
    have hi0 : (i 0).val < 24 := (i 0).isLt
    have hi1 : (i 1).val < 4096 := (i 1).isLt
    obtain ⟨t, hft, ht⟩ := idx_onto10 ⟨(i 0).val / 24 - 0, by omega⟩ ⟨(i 1).val / 4096 - 0, by omega⟩
    have q0 : win0_10.index t (0 : Fin 2) = (i 0).val / 24 - 0 + 0 := congrFun ht 0
    have q1 : win0_10.index t (1 : Fin 2) = (i 1).val / 4096 - 0 + 0 := congrFun ht 1
    refine ⟨t, hft, ?_⟩
    rw [mem_blk10]
    intro a
    match a with
    | ⟨0, _⟩ => show win0_10.index t (0 : Fin 2) * 24 ≤ (i 0).val ∧ (i 0).val < win0_10.index t (0 : Fin 2) * 24 + 24; omega
    | ⟨1, _⟩ => show win0_10.index t (1 : Fin 2) * 4096 ≤ (i 1).val ∧ (i 1).val < win0_10.index t (1 : Fin 2) * 4096 + 4096; omega

/-- THE ARRAY after the run: `G10` (the flushing blocks tile it). -/
theorem final10 (c : Dev nD) : (dats m 0 c).arrAt 10 cfg0.N = G10 m c :=
  (dats m 0 c).arrAt_eq_of_cover 10 _ (fun t hf => flushed10_eq m c t hf) (fun i => (covered_iff10 i).2 (by
    have h0 : (i 0).val < 24 := (i 0).isLt; have h1 : (i 1).val < 4096 := (i 1).isLt; omega))

/-- Output 10 is written back ONCE, at the last point, and its block is its array. -/
theorem G10_last (c : Dev nD) :
    G10 m c = (Pipeline.accAt (fun n h => stAt0 m c n h junk0) (stAt0 m c) 0 27 (lt_of_lt_of_eq (by decide) N_0.symm)).1 := by
  funext i
  have hi0 : (i 0).val < 24 := (i 0).isLt
  have hi1 : (i 1).val < 4096 := (i 1).isLt
  have hp : pt10Of i = 27 := by
    show 28 * (1 * ((i 0).val / 24 - 0) + 1 * ((i 1).val / 4096 - 0)) + 27 = _
    omega
  have hl : loc10Of i = i := by
    funext a; apply Fin.ext
    match a with
    | ⟨0, _⟩ => show (i 0).val % 24 = (i 0).val; omega
    | ⟨1, _⟩ => show (i 1).val % 4096 = (i 1).val; omega
  unfold G10
  rw [dif_pos (by rw [hp]; exact lt_of_lt_of_eq (by decide) N_0.symm), hl, fold0_congr m c _ _ _ _ hp]

/-! ## Output window 11 -/

/-- The block of the array that holds index `i`, numbered in the order the points write the blocks back. -/
abbrev run11Of (i : S24x16.Idx) : ℕ := 1 * ((i 0).val / 24 - 0) + 1 * ((i 1).val / 16 - 0)
set_option backward.proofsInPublic true in
abbrev loc11Of (i : S24x16.Idx) : S24x16.Idx := fun a => match a with
  | ⟨0, _⟩ => ⟨(i 0).val % 24, Nat.mod_lt _ (by decide)⟩
  | ⟨1, _⟩ => ⟨(i 1).val % 16, Nat.mod_lt _ (by decide)⟩
abbrev pt11Of (i : S24x16.Idx) : ℕ := 28 * run11Of i + 27

/-- WHAT THE ARRAY ENDS HOLDING at index `i` inside the box the flushing blocks fill. -/
def G11 (c : Dev nD) : Buf (Elt F) ((c : Thread nD τ).loc main_v7_1) := fun i =>
  if h : pt11Of i < cfg0.N then
    (Pipeline.accAt (fun n h => stAt0 m c n h junk0) (stAt0 m c) 0 (pt11Of i) (by omega)).2.1 (loc11Of i)
  else V m c (Pipeline.arrRef spec0 11) i

/-- The printed index map, decided over the grid. -/
theorem idx_facts11 : ∀ t : Fin cfg0.N, 0 ≤ win0_11.index t (0 : Fin 2) ∧ win0_11.index t (0 : Fin 2) ≤ 0
    ∧ 0 ≤ win0_11.index t (1 : Fin 2) ∧ win0_11.index t (1 : Fin 2) ≤ 0
    ∧ 1 * (win0_11.index t (0 : Fin 2) - 0) + 1 * (win0_11.index t (1 : Fin 2) - 0) = t.val / 28 :=
  (by decide +kernel : ∀ t : Fin grid0.N, _)

/-- Every block of the box is SOME flushing point's. -/
abbrev onto11Pt (q0 : Fin 1) (q1 : Fin 1) : Fin grid0.N :=
  ⟨28 * (1 * q0.val + 1 * q1.val) + 27, lt_of_lt_of_eq (by omega) N_0.symm⟩
theorem idx_onto11 : ∀ (q0 : Fin 1) (q1 : Fin 1), ∃ t : Fin cfg0.N, (cfg0.win 11).flush t = true ∧ win0_11.index t = ![q0.val + 0, q1.val + 0] :=
  fun q0 q1 => ⟨onto11Pt q0 q1, (by decide +kernel : ∀ (q0 : Fin 1) (q1 : Fin 1), win0_11.flush (onto11Pt q0 q1) = true ∧ win0_11.index (onto11Pt q0 q1) = ![q0.val + 0, q1.val + 0]) q0 q1⟩

/-- WHAT A FLUSHING POINT `t` WRITES BACK is block `t` of `G11`: output 11's component of the fold up to `t`. -/
theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11, outsAt0_sweep]
  have hm : t.val % 28 = 27 := (flush0_11 t).mp hf
  obtain ⟨e0, e1, e2⟩ := idx_facts11 t
  funext y
  have hy0 : (y 0).val < 24 := (y 0).isLt
  have hy1 : (y 1).val < 16 := (y 1).isLt
  have hb0 : (((cfg0.win 11).blk t).view.emb y 0).val = win0_11.index t (0 : Fin 2) * 24 + 1 * (y 0).val := rfl
  have hb1 : (((cfg0.win 11).blk t).view.emb y 1).val = win0_11.index t (1 : Fin 2) * 16 + 1 * (y 1).val := rfl
  have hr : run11Of (((cfg0.win 11).blk t).view.emb y) = t.val / 28 := by
    show 1 * ((((cfg0.win 11).blk t).view.emb y 0).val / 24 - 0) + 1 * ((((cfg0.win 11).blk t).view.emb y 1).val / 16 - 0) = _
    rw [hb0, hb1]
    rw [show (win0_11.index t (0 : Fin 2) * 24 + 1 * (y 0).val) / 24 = win0_11.index t (0 : Fin 2) from by omega]; rw [show (win0_11.index t (1 : Fin 2) * 16 + 1 * (y 1).val) / 16 = win0_11.index t (1 : Fin 2) from by omega]
    omega
  have hl : loc11Of (((cfg0.win 11).blk t).view.emb y) = (cfg0.win 11).xinj (grid0.coords t) y := by
    funext a; apply Fin.ext
    match a with
    | ⟨0, _⟩ => show (((cfg0.win 11).blk t).view.emb y 0).val % 24 = (y 0).val; rw [hb0]; omega
    | ⟨1, _⟩ => show (((cfg0.win 11).blk t).view.emb y 1).val % 16 = (y 1).val; rw [hb1]; omega
  have hp : pt11Of (((cfg0.win 11).blk t).view.emb y) = t.val := by
    show 28 * run11Of (((cfg0.win 11).blk t).view.emb y) + 27 = _
    rw [hr]; have := Nat.div_add_mod t.val 28; omega
  show (Pipeline.accAt (fun n h => stAt0 m c n h junk0) (stAt0 m c) 0 t.val _).2.1 ((cfg0.win 11).xinj (grid0.coords t) y) = G11 m c (((cfg0.win 11).blk t).view.emb y)
  unfold G11
  rw [dif_pos (by rw [hp]; exact t.isLt), hl, fold0_congr m c _ _ _ _ hp.symm]

/-- An index of the array is in point `t`'s block iff each coordinate is in the block's range on its axis. -/
theorem mem_blk11 (t : Fin cfg0.N) (i : S24x16.Idx) :
    i ∈ ((cfg0.win 11).blk t).view.set ↔ ∀ a : Fin 2, win0_11.index t a * S24x16.size a ≤ (i a).val ∧ (i a).val < win0_11.index t a * S24x16.size a + S24x16.size a := by
  show i ∈ ((View.whole main_v7_1).slice (win0_11.rect t)).set ↔ _
  rw [View.set_slice_whole, Rect.mem_set_unit]
  exact Iff.rfl

/-- THE COVERED INDICES: in some flushing point's block iff inside the box those blocks fill. -/
theorem covered_iff11 (i : S24x16.Idx) :
    (∃ t : Fin cfg0.N, (cfg0.win 11).flush t = true ∧ i ∈ ((cfg0.win 11).blk t).view.set) ↔ 0 ≤ (i 0).val ∧ (i 0).val < 24 ∧ 0 ≤ (i 1).val ∧ (i 1).val < 16 := by
  constructor
  · rintro ⟨t, -, hi⟩
    rw [mem_blk11] at hi
    have b0 : win0_11.index t (0 : Fin 2) * 24 ≤ (i 0).val ∧ (i 0).val < win0_11.index t (0 : Fin 2) * 24 + 24 := hi 0
    have b1 : win0_11.index t (1 : Fin 2) * 16 ≤ (i 1).val ∧ (i 1).val < win0_11.index t (1 : Fin 2) * 16 + 16 := hi 1
    obtain ⟨e0, e1, e2⟩ := idx_facts11 t
    omega
  · intro h
    have hi0 : (i 0).val < 24 := (i 0).isLt
    have hi1 : (i 1).val < 16 := (i 1).isLt
    obtain ⟨t, hft, ht⟩ := idx_onto11 ⟨(i 0).val / 24 - 0, by omega⟩ ⟨(i 1).val / 16 - 0, by omega⟩
    have q0 : win0_11.index t (0 : Fin 2) = (i 0).val / 24 - 0 + 0 := congrFun ht 0
    have q1 : win0_11.index t (1 : Fin 2) = (i 1).val / 16 - 0 + 0 := congrFun ht 1
    refine ⟨t, hft, ?_⟩
    rw [mem_blk11]
    intro a
    match a with
    | ⟨0, _⟩ => show win0_11.index t (0 : Fin 2) * 24 ≤ (i 0).val ∧ (i 0).val < win0_11.index t (0 : Fin 2) * 24 + 24; omega
    | ⟨1, _⟩ => show win0_11.index t (1 : Fin 2) * 16 ≤ (i 1).val ∧ (i 1).val < win0_11.index t (1 : Fin 2) * 16 + 16; omega

/-- THE ARRAY after the run: `G11` (the flushing blocks tile it). -/
theorem final11 (c : Dev nD) : (dats m 0 c).arrAt 11 cfg0.N = G11 m c :=
  (dats m 0 c).arrAt_eq_of_cover 11 _ (fun t hf => flushed11_eq m c t hf) (fun i => (covered_iff11 i).2 (by
    have h0 : (i 0).val < 24 := (i 0).isLt; have h1 : (i 1).val < 16 := (i 1).isLt; omega))

/-- Output 11 is written back ONCE, at the last point, and its block is its array. -/
theorem G11_last (c : Dev nD) :
    G11 m c = (Pipeline.accAt (fun n h => stAt0 m c n h junk0) (stAt0 m c) 0 27 (lt_of_lt_of_eq (by decide) N_0.symm)).2.1 := by
  funext i
  have hi0 : (i 0).val < 24 := (i 0).isLt
  have hi1 : (i 1).val < 16 := (i 1).isLt
  have hp : pt11Of i = 27 := by
    show 28 * (1 * ((i 0).val / 24 - 0) + 1 * ((i 1).val / 16 - 0)) + 27 = _
    omega
  have hl : loc11Of i = i := by
    funext a; apply Fin.ext
    match a with
    | ⟨0, _⟩ => show (i 0).val % 24 = (i 0).val; omega
    | ⟨1, _⟩ => show (i 1).val % 16 = (i 1).val; omega
  unfold G11
  rw [dif_pos (by rw [hp]; exact lt_of_lt_of_eq (by decide) N_0.symm), hl, fold0_congr m c _ _ _ _ hp]

/-! ## Output window 12 -/

/-- The block of the array that holds index `i`, numbered in the order the points write the blocks back. -/
abbrev run12Of (i : S24x14336.Idx) : ℕ := 28 * ((i 0).val / 24 - 0) + 1 * ((i 1).val / 512 - 0)
set_option backward.proofsInPublic true in
abbrev loc12Of (i : S24x14336.Idx) : S24x512.Idx := fun a => match a with
  | ⟨0, _⟩ => ⟨(i 0).val % 24, Nat.mod_lt _ (by decide)⟩
  | ⟨1, _⟩ => ⟨(i 1).val % 512, Nat.mod_lt _ (by decide)⟩
abbrev pt12Of (i : S24x14336.Idx) : ℕ := run12Of i

/-- WHAT THE ARRAY ENDS HOLDING at index `i` inside the box the flushing blocks fill. -/
def G12 (c : Dev nD) : Buf (Elt F) ((c : Thread nD τ).loc main_v7_2) := fun i =>
  if h : pt12Of i < cfg0.N then
    (Pipeline.accAt (fun n h => stAt0 m c n h junk0) (stAt0 m c) 0 (pt12Of i) (by omega)).2.2.1 (loc12Of i)
  else V m c (Pipeline.arrRef spec0 12) i

/-- The printed index map, decided over the grid. -/
theorem idx_facts12 : ∀ t : Fin cfg0.N, 0 ≤ win0_12.index t (0 : Fin 2) ∧ win0_12.index t (0 : Fin 2) ≤ 0
    ∧ 0 ≤ win0_12.index t (1 : Fin 2) ∧ win0_12.index t (1 : Fin 2) ≤ 27
    ∧ 28 * (win0_12.index t (0 : Fin 2) - 0) + 1 * (win0_12.index t (1 : Fin 2) - 0) = t.val :=
  (by decide +kernel : ∀ t : Fin grid0.N, _)

/-- Every block of the box is SOME flushing point's: `onto12Pt`, the point that writes back the block at place `q` of the box. -/
abbrev onto12Pt (q0 : Fin 1) (q1 : Fin 28) : Fin grid0.N :=
  ⟨28 * q0.val + 1 * q1.val, lt_of_lt_of_eq (by omega) N_0.symm⟩
theorem idx_onto12 : ∀ (q0 : Fin 1) (q1 : Fin 28), ∃ t : Fin cfg0.N, (cfg0.win 12).flush t = true ∧ win0_12.index t = ![q0.val + 0, q1.val + 0] :=
  fun q0 q1 => ⟨onto12Pt q0 q1, (by decide +kernel : ∀ (q0 : Fin 1) (q1 : Fin 28), win0_12.flush (onto12Pt q0 q1) = true ∧ win0_12.index (onto12Pt q0 q1) = ![q0.val + 0, q1.val + 0]) q0 q1⟩

/-- WHAT A FLUSHING POINT `t` WRITES BACK is block `t` of `G12`: output 12's component of the fold up to `t`. -/
theorem flushed12_eq (c : Dev nD) (t : Fin cfg0.N) (hf : (cfg0.win 12).flush t = true) :
    (dats m 0 c).flushed 12 t = ((cfg0.win 12).blk t).view.read (Elt F) (G12 m c) := by
  show (cfg0.win 12).cut (grid0.coords t) ((dats m 0 c).after 12 t) = _
  rw [after0_12, outsAt0_sweep]
  obtain ⟨e0, e1, e2⟩ := idx_facts12 t
  funext y
  have hy0 : (y 0).val < 24 := (y 0).isLt
  have hy1 : (y 1).val < 512 := (y 1).isLt
  have hb0 : (((cfg0.win 12).blk t).view.emb y 0).val = win0_12.index t (0 : Fin 2) * 24 + 1 * (y 0).val := rfl
  have hb1 : (((cfg0.win 12).blk t).view.emb y 1).val = win0_12.index t (1 : Fin 2) * 512 + 1 * (y 1).val := rfl
  have hr : run12Of (((cfg0.win 12).blk t).view.emb y) = t.val := by
    show 28 * ((((cfg0.win 12).blk t).view.emb y 0).val / 24 - 0) + 1 * ((((cfg0.win 12).blk t).view.emb y 1).val / 512 - 0) = _
    rw [hb0, hb1]
    rw [show (win0_12.index t (0 : Fin 2) * 24 + 1 * (y 0).val) / 24 = win0_12.index t (0 : Fin 2) from by omega]; rw [show (win0_12.index t (1 : Fin 2) * 512 + 1 * (y 1).val) / 512 = win0_12.index t (1 : Fin 2) from by omega]
    omega
  have hl : loc12Of (((cfg0.win 12).blk t).view.emb y) = (cfg0.win 12).xinj (grid0.coords t) y := by
    funext a; apply Fin.ext
    match a with
    | ⟨0, _⟩ => show (((cfg0.win 12).blk t).view.emb y 0).val % 24 = (y 0).val; rw [hb0]; omega
    | ⟨1, _⟩ => show (((cfg0.win 12).blk t).view.emb y 1).val % 512 = (y 1).val; rw [hb1]; omega
  have hp : pt12Of (((cfg0.win 12).blk t).view.emb y) = t.val := by
    exact hr
  show (Pipeline.accAt (fun n h => stAt0 m c n h junk0) (stAt0 m c) 0 t.val _).2.2.1 ((cfg0.win 12).xinj (grid0.coords t) y) = G12 m c (((cfg0.win 12).blk t).view.emb y)
  unfold G12
  rw [dif_pos (by rw [hp]; exact t.isLt), hl, fold0_congr m c _ _ _ _ hp.symm]

/-- An index of the array is in point `t`'s block iff each coordinate is in the block's range on its axis. -/
theorem mem_blk12 (t : Fin cfg0.N) (i : S24x14336.Idx) :
    i ∈ ((cfg0.win 12).blk t).view.set ↔ ∀ a : Fin 2, win0_12.index t a * S24x512.size a ≤ (i a).val ∧ (i a).val < win0_12.index t a * S24x512.size a + S24x512.size a := by
  show i ∈ ((View.whole main_v7_2).slice (win0_12.rect t)).set ↔ _
  rw [View.set_slice_whole, Rect.mem_set_unit]
  exact Iff.rfl

/-- THE COVERED INDICES: in some flushing point's block iff inside the box those blocks fill. -/
theorem covered_iff12 (i : S24x14336.Idx) :
    (∃ t : Fin cfg0.N, (cfg0.win 12).flush t = true ∧ i ∈ ((cfg0.win 12).blk t).view.set) ↔ 0 ≤ (i 0).val ∧ (i 0).val < 24 ∧ 0 ≤ (i 1).val ∧ (i 1).val < 14336 := by
  constructor
  · rintro ⟨t, -, hi⟩
    rw [mem_blk12] at hi
    have b0 : win0_12.index t (0 : Fin 2) * 24 ≤ (i 0).val ∧ (i 0).val < win0_12.index t (0 : Fin 2) * 24 + 24 := hi 0
    have b1 : win0_12.index t (1 : Fin 2) * 512 ≤ (i 1).val ∧ (i 1).val < win0_12.index t (1 : Fin 2) * 512 + 512 := hi 1
    obtain ⟨e0, e1, e2⟩ := idx_facts12 t
    omega
  · intro h
    have hi0 : (i 0).val < 24 := (i 0).isLt
    have hi1 : (i 1).val < 14336 := (i 1).isLt
    obtain ⟨t, hft, ht⟩ := idx_onto12 ⟨(i 0).val / 24 - 0, by omega⟩ ⟨(i 1).val / 512 - 0, by omega⟩
    have q0 : win0_12.index t (0 : Fin 2) = (i 0).val / 24 - 0 + 0 := congrFun ht 0
    have q1 : win0_12.index t (1 : Fin 2) = (i 1).val / 512 - 0 + 0 := congrFun ht 1
    refine ⟨t, hft, ?_⟩
    rw [mem_blk12]
    intro a
    match a with
    | ⟨0, _⟩ => show win0_12.index t (0 : Fin 2) * 24 ≤ (i 0).val ∧ (i 0).val < win0_12.index t (0 : Fin 2) * 24 + 24; omega
    | ⟨1, _⟩ => show win0_12.index t (1 : Fin 2) * 512 ≤ (i 1).val ∧ (i 1).val < win0_12.index t (1 : Fin 2) * 512 + 512; omega

/-- THE ARRAY after the run: `G12` (the flushing blocks tile it). -/
theorem final12 (c : Dev nD) : (dats m 0 c).arrAt 12 cfg0.N = G12 m c :=
  (dats m 0 c).arrAt_eq_of_cover 12 _ (fun t hf => flushed12_eq m c t hf) (fun i => (covered_iff12 i).2 (by
    have h0 : (i 0).val < 24 := (i 0).isLt; have h1 : (i 1).val < 14336 := (i 1).isLt; omega))

/-! ## Output window 13 -/

/-- The block of the array that holds index `i`, numbered in the order the points write the blocks back. -/
abbrev run13Of (i : S24x56.Idx) : ℕ := 1 * ((i 0).val / 24 - 0) + 1 * ((i 1).val / 56 - 0)
set_option backward.proofsInPublic true in
abbrev loc13Of (i : S24x56.Idx) : S24x56.Idx := fun a => match a with
  | ⟨0, _⟩ => ⟨(i 0).val % 24, Nat.mod_lt _ (by decide)⟩
  | ⟨1, _⟩ => ⟨(i 1).val % 56, Nat.mod_lt _ (by decide)⟩
abbrev pt13Of (i : S24x56.Idx) : ℕ := 28 * run13Of i + 27

/-- WHAT THE ARRAY ENDS HOLDING at index `i` inside the box the flushing blocks fill. -/
def G13 (c : Dev nD) : Buf (Elt F) ((c : Thread nD τ).loc main_v7_3) := fun i =>
  if h : pt13Of i < cfg0.N then
    (Pipeline.accAt (fun n h => stAt0 m c n h junk0) (stAt0 m c) 0 (pt13Of i) (by omega)).2.2.2.1 (loc13Of i)
  else V m c (Pipeline.arrRef spec0 13) i

/-- The printed index map, decided over the grid. -/
theorem idx_facts13 : ∀ t : Fin cfg0.N, 0 ≤ win0_13.index t (0 : Fin 2) ∧ win0_13.index t (0 : Fin 2) ≤ 0
    ∧ 0 ≤ win0_13.index t (1 : Fin 2) ∧ win0_13.index t (1 : Fin 2) ≤ 0
    ∧ 1 * (win0_13.index t (0 : Fin 2) - 0) + 1 * (win0_13.index t (1 : Fin 2) - 0) = t.val / 28 :=
  (by decide +kernel : ∀ t : Fin grid0.N, _)

/-- Every block of the box is SOME flushing point's. -/
abbrev onto13Pt (q0 : Fin 1) (q1 : Fin 1) : Fin grid0.N :=
  ⟨28 * (1 * q0.val + 1 * q1.val) + 27, lt_of_lt_of_eq (by omega) N_0.symm⟩
theorem idx_onto13 : ∀ (q0 : Fin 1) (q1 : Fin 1), ∃ t : Fin cfg0.N, (cfg0.win 13).flush t = true ∧ win0_13.index t = ![q0.val + 0, q1.val + 0] :=
  fun q0 q1 => ⟨onto13Pt q0 q1, (by decide +kernel : ∀ (q0 : Fin 1) (q1 : Fin 1), win0_13.flush (onto13Pt q0 q1) = true ∧ win0_13.index (onto13Pt q0 q1) = ![q0.val + 0, q1.val + 0]) q0 q1⟩

/-- WHAT A FLUSHING POINT `t` WRITES BACK is block `t` of `G13`: output 13's component of the fold up to `t`. -/
theorem flushed13_eq (c : Dev nD) (t : Fin cfg0.N) (hf : (cfg0.win 13).flush t = true) :
    (dats m 0 c).flushed 13 t = ((cfg0.win 13).blk t).view.read (Elt F) (G13 m c) := by
  show (cfg0.win 13).cut (grid0.coords t) ((dats m 0 c).after 13 t) = _
  rw [after0_13, outsAt0_sweep]
  have hm : t.val % 28 = 27 := (flush0_13 t).mp hf
  obtain ⟨e0, e1, e2⟩ := idx_facts13 t
  funext y
  have hy0 : (y 0).val < 24 := (y 0).isLt
  have hy1 : (y 1).val < 56 := (y 1).isLt
  have hb0 : (((cfg0.win 13).blk t).view.emb y 0).val = win0_13.index t (0 : Fin 2) * 24 + 1 * (y 0).val := rfl
  have hb1 : (((cfg0.win 13).blk t).view.emb y 1).val = win0_13.index t (1 : Fin 2) * 56 + 1 * (y 1).val := rfl
  have hr : run13Of (((cfg0.win 13).blk t).view.emb y) = t.val / 28 := by
    show 1 * ((((cfg0.win 13).blk t).view.emb y 0).val / 24 - 0) + 1 * ((((cfg0.win 13).blk t).view.emb y 1).val / 56 - 0) = _
    rw [hb0, hb1]
    rw [show (win0_13.index t (0 : Fin 2) * 24 + 1 * (y 0).val) / 24 = win0_13.index t (0 : Fin 2) from by omega]; rw [show (win0_13.index t (1 : Fin 2) * 56 + 1 * (y 1).val) / 56 = win0_13.index t (1 : Fin 2) from by omega]
    omega
  have hl : loc13Of (((cfg0.win 13).blk t).view.emb y) = (cfg0.win 13).xinj (grid0.coords t) y := by
    funext a; apply Fin.ext
    match a with
    | ⟨0, _⟩ => show (((cfg0.win 13).blk t).view.emb y 0).val % 24 = (y 0).val; rw [hb0]; omega
    | ⟨1, _⟩ => show (((cfg0.win 13).blk t).view.emb y 1).val % 56 = (y 1).val; rw [hb1]; omega
  have hp : pt13Of (((cfg0.win 13).blk t).view.emb y) = t.val := by
    show 28 * run13Of (((cfg0.win 13).blk t).view.emb y) + 27 = _
    rw [hr]; have := Nat.div_add_mod t.val 28; omega
  show (Pipeline.accAt (fun n h => stAt0 m c n h junk0) (stAt0 m c) 0 t.val _).2.2.2.1 ((cfg0.win 13).xinj (grid0.coords t) y) = G13 m c (((cfg0.win 13).blk t).view.emb y)
  unfold G13
  rw [dif_pos (by rw [hp]; exact t.isLt), hl, fold0_congr m c _ _ _ _ hp.symm]

/-- An index of the array is in point `t`'s block iff each coordinate is in the block's range on its axis. -/
theorem mem_blk13 (t : Fin cfg0.N) (i : S24x56.Idx) :
    i ∈ ((cfg0.win 13).blk t).view.set ↔ ∀ a : Fin 2, win0_13.index t a * S24x56.size a ≤ (i a).val ∧ (i a).val < win0_13.index t a * S24x56.size a + S24x56.size a := by
  show i ∈ ((View.whole main_v7_3).slice (win0_13.rect t)).set ↔ _
  rw [View.set_slice_whole, Rect.mem_set_unit]
  exact Iff.rfl

/-- THE COVERED INDICES: in some flushing point's block iff inside the box those blocks fill. -/
theorem covered_iff13 (i : S24x56.Idx) :
    (∃ t : Fin cfg0.N, (cfg0.win 13).flush t = true ∧ i ∈ ((cfg0.win 13).blk t).view.set) ↔ 0 ≤ (i 0).val ∧ (i 0).val < 24 ∧ 0 ≤ (i 1).val ∧ (i 1).val < 56 := by
  constructor
  · rintro ⟨t, -, hi⟩
    rw [mem_blk13] at hi
    have b0 : win0_13.index t (0 : Fin 2) * 24 ≤ (i 0).val ∧ (i 0).val < win0_13.index t (0 : Fin 2) * 24 + 24 := hi 0
    have b1 : win0_13.index t (1 : Fin 2) * 56 ≤ (i 1).val ∧ (i 1).val < win0_13.index t (1 : Fin 2) * 56 + 56 := hi 1
    obtain ⟨e0, e1, e2⟩ := idx_facts13 t
    omega
  · intro h
    have hi0 : (i 0).val < 24 := (i 0).isLt
    have hi1 : (i 1).val < 56 := (i 1).isLt
    obtain ⟨t, hft, ht⟩ := idx_onto13 ⟨(i 0).val / 24 - 0, by omega⟩ ⟨(i 1).val / 56 - 0, by omega⟩
    have q0 : win0_13.index t (0 : Fin 2) = (i 0).val / 24 - 0 + 0 := congrFun ht 0
    have q1 : win0_13.index t (1 : Fin 2) = (i 1).val / 56 - 0 + 0 := congrFun ht 1
    refine ⟨t, hft, ?_⟩
    rw [mem_blk13]
    intro a
    match a with
    | ⟨0, _⟩ => show win0_13.index t (0 : Fin 2) * 24 ≤ (i 0).val ∧ (i 0).val < win0_13.index t (0 : Fin 2) * 24 + 24; omega
    | ⟨1, _⟩ => show win0_13.index t (1 : Fin 2) * 56 ≤ (i 1).val ∧ (i 1).val < win0_13.index t (1 : Fin 2) * 56 + 56; omega

/-- THE ARRAY after the run: `G13` (the flushing blocks tile it). -/
theorem final13 (c : Dev nD) : (dats m 0 c).arrAt 13 cfg0.N = G13 m c :=
  (dats m 0 c).arrAt_eq_of_cover 13 _ (fun t hf => flushed13_eq m c t hf) (fun i => (covered_iff13 i).2 (by
    have h0 : (i 0).val < 24 := (i 0).isLt; have h1 : (i 1).val < 56 := (i 1).isLt; omega))

/-- Output 13 is written back ONCE, at the last point, and its block is its array. -/
theorem G13_last (c : Dev nD) :
    G13 m c = (Pipeline.accAt (fun n h => stAt0 m c n h junk0) (stAt0 m c) 0 27 (lt_of_lt_of_eq (by decide) N_0.symm)).2.2.2.1 := by
  funext i
  have hi0 : (i 0).val < 24 := (i 0).isLt
  have hi1 : (i 1).val < 56 := (i 1).isLt
  have hp : pt13Of i = 27 := by
    show 28 * (1 * ((i 0).val / 24 - 0) + 1 * ((i 1).val / 56 - 0)) + 27 = _
    omega
  have hl : loc13Of i = i := by
    funext a; apply Fin.ext
    match a with
    | ⟨0, _⟩ => show (i 0).val % 24 = (i 0).val; omega
    | ⟨1, _⟩ => show (i 1).val % 56 = (i 1).val; omega
  unfold G13
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v7_0) = G10 m c
      ∧ r.2.mem ((c : Thread nD τ).loc main_v7_1) = G11 m c
      ∧ r.2.mem ((c : Thread nD τ).loc main_v7_2) = G12 m c
      ∧ r.2.mem ((c : Thread nD τ).loc main_v7_3) = G13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(post10 m r h c).trans (final10 m c),
      (post11 m r h c).trans (final11 m c),
      (post12 m r h c).trans (final12 m c),
      (post13 m r h c).trans (final13 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.KernelIdeal.Value

end
-- ==== Proof.Quant.lean ====
/- The quantiser of a 256-wide block at the ideal instance, and the kernel's block operations read at an index. -/
module

public import proofs.«01_k».proof.Proof.Gen.KernelIdeal.Skeleton
public import Idealize.ShloMosaic.Lib.ValueIdx
public import Idealize.ShloMosaic.Lib.Pointwise
public import Idealize.ShloMosaic.Lib.Pipeline.Value
public import Idealize.ShloMosaic.PureOps.Ideal.Laws

@[expose] public section

set_option maxRecDepth 16384

noncomputable section

namespace Cert.Ff

open Idealize.ShloMosaic hiding ix0 ix1 ix2 ix3 ix4 eq_ix1 eq_ix2 eq_ix3 eq_ix4
open Idealize.ShloMosaic.ValueIdx

/-! ## The quantiser on numbers -/

/-- The scale of a block whose largest magnitude is `a`. -/
def qs (a : EReal) : EReal := if a = 0 then 1 else Ideal.div a ((127 : ℝ) : EReal)
/-- A value over its block's scale, rounded to even and clamped into [-127, 127]. -/
def qv (x s : EReal) : EReal :=
  min ((127 : ℝ) : EReal) (max ((-127 : ℝ) : EReal) (Ideal.liftRound Ideal.roundHalfEven (Ideal.div x s)))
/-- The code of a value: that integer as a byte. -/
def qc (x s : EReal) : BitVec 8 := Ideal.fptosi 8 (qv x s)
/-- The largest magnitude of a block. -/
def amax (f : Fin 256 → EReal) : EReal := Finset.univ.fold max (Ideal.ofBits .f32 0xFF800000#32) (fun k => max (f k) (-f k))

theorem lit127 : Ideal.ofBits .f32 0x42FE0000#32 = ((127 : ℝ) : EReal) := by
  simp [Ideal.ofBits, Ideal.ieee, -EReal.coe_mul]; norm_num
theorem lit1 : Ideal.ofBits .f32 0x3F800000#32 = 1 := Ideal.ofBits_one_f32
theorem lit0 : Ideal.ofBits .f32 0x00000000#32 = 0 := Ideal.ofBits_zero_f32
theorem litbot : Ideal.ofBits .f32 0xFF800000#32 = ⊥ := by simp [Ideal.ofBits, Ideal.ieee]

theorem sel_oeq (x y : EReal) (a b : EReal) : Scalar.select (Ideal.cmp .oeq x y) a b = if x = y then a else b := by
  unfold Ideal.cmp Scalar.select
  by_cases h : x = y <;> simp [h]

/-- The clamped value is an integer in [-127, 127]. -/
theorem qv_int (x s : EReal) : ∃ n : ℤ, -127 ≤ n ∧ n ≤ 127 ∧ qv x s = ((n : ℝ) : EReal) := by
  unfold qv
  generalize Ideal.div x s = z
  induction z using EReal.rec with
  | bot =>
    refine ⟨-127, by norm_num, by norm_num, ?_⟩
    show min ((127 : ℝ) : EReal) (max ((-127 : ℝ) : EReal) ⊥) = _
    rw [max_eq_left bot_le, min_eq_right (EReal.coe_le_coe_iff.mpr (by norm_num))]; push_cast; rfl
  | top =>
    refine ⟨127, by norm_num, by norm_num, ?_⟩
    show min ((127 : ℝ) : EReal) (max ((-127 : ℝ) : EReal) ⊤) = _
    rw [max_eq_right le_top, min_eq_left le_top]; push_cast; rfl
  | coe r =>
    refine ⟨min 127 (max (-127) (Ideal.roundHalfEven r)), by omega, by omega, ?_⟩
    show min ((127 : ℝ) : EReal) (max ((-127 : ℝ) : EReal) (((Ideal.roundHalfEven r : ℤ) : ℝ) : EReal)) = _
    rw [Int.cast_min, Int.cast_max, EReal.coe_strictMono.monotone.map_min, EReal.coe_strictMono.monotone.map_max]
    push_cast; rfl

theorem fptosi_int (w : Nat) (n : ℤ) (h0 : -127 ≤ n) (h1 : n ≤ 127) (hw : w = 8 ∨ w = 32) :
    Ideal.fptosi w ((n : ℝ) : EReal) = BitVec.ofInt w n := by
  have e : (if (0 : ℝ) ≤ (n : ℝ) then ⌊(n : ℝ)⌋ else ⌈(n : ℝ)⌉) = n := by simp
  show BitVec.ofInt w (max _ (min _ (if (0 : ℝ) ≤ (n : ℝ) then ⌊(n : ℝ)⌋ else ⌈(n : ℝ)⌉))) = _
  rw [e]
  rcases hw with rfl | rfl
  · congr 1; norm_num; omega
  · congr 1; norm_num; omega

/-- Converting to 32 bits and truncating is converting to 8 bits. -/
theorem qc_wide (x s : EReal) : (Ideal.fptosi 32 (qv x s)).setWidth 8 = qc x s := by
  obtain ⟨n, h0, h1, e⟩ := qv_int x s
  unfold qc
  rw [e, fptosi_int _ n h0 h1 (.inr rfl), fptosi_int _ n h0 h1 (.inl rfl)]
  apply BitVec.eq_of_toNat_eq
  simp only [BitVec.toNat_setWidth, BitVec.toNat_ofInt]
  omega

/-- A code read as an integer is the clamped value. -/
theorem qc_toInt (x s : EReal) : (((qc x s).toInt : ℝ) : EReal) = qv x s := by
  obtain ⟨n, h0, h1, e⟩ := qv_int x s
  unfold qc
  rw [e, fptosi_int _ n h0 h1 (.inl rfl)]
  rw [BitVec.toInt_ofInt, Int.bmod_eq_of_le (by norm_num; omega) (by norm_num; omega)]

end Cert.Ff

namespace Cert.KernelIdeal.Gen

open Idealize.ShloMosaic hiding ix0 ix1 ix2 ix3 ix4 eq_ix1 eq_ix2 eq_ix3 eq_ix4
open Idealize.ShloMosaic.ValueIdx Cert.Ff

variable {F : FTy → Type} [FloatOps F]

/-! ## The kernel's quantiser on a block -/

/-- The largest magnitude of each row. -/
def kbMax (x : FVec F S24x256 .f32) : FVec F S24x1 .f32 :=
  shapeCast S24x1 (multiReduction .maximumf [1] S24 (absf x) 0xFF800000#32 reduces_S24x256_S24 (.inl rfl) rfl) shapeCasts_S24_S24x1
/-- The scale of each row. -/
def kbScale (x : FVec F S24x256 .f32) : FVec F S24x1 .f32 :=
  select (cmpf .oeq (kbMax x) (broadcast S24x1 (Scalar.ofBits .f32 0x00000000#32))) (broadcast S24x1 (Scalar.ofBits .f32 0x3F800000#32))
    (divf (kbMax x) (broadcast S24x1 (Scalar.ofBits .f32 0x42FE0000#32)))
/-- The clamped values. -/
def kbVal (x : FVec F S24x256 .f32) : FVec F S24x256 .f32 :=
  minimumf (broadcast S24x256 (Scalar.sitofp .f32 127#32)) (maximumf (broadcast S24x256 (Scalar.sitofp .f32 4294967169#32))
    (roundeven (divf x (broadcastTo S24x256 (kbScale x) broadcasts_S24x1_S24x256))))

theorem kbMax_apply (x : FVec Ideal S24x256 .f32) (r : Fin 24) (z : Fin 1) : kbMax x (ix2 r z) = amax (fun k => x (ix2 r k)) := by
  unfold kbMax amax
  rw [shapeCast_apply _ _ _ (ix1 r) (by rw [Shape.rowMajor_val_two]; obtain rfl : z = 0 := Subsingleton.elim _ _; simp [Shape.rowMajor_val_one])]
  refine (Ideal.multiReduction_maximumf_single (absf x) _ reduces_S24x256_S24 _ _ (ix1 r)).trans ?_
  congr 1
  funext k
  have : reduces_S24x256_S24.lift (ix1 r) k = ix2 r k := by
    funext a; match a with | ⟨0, _⟩ => rfl | ⟨1, _⟩ => rfl
  show max (x _) (-(x _)) = _
  rw [this]
  rfl

theorem kbScale_apply (x : FVec Ideal S24x256 .f32) (r : Fin 24) (z : Fin 1) :
    kbScale x (ix2 r z) = qs (amax (fun k => x (ix2 r k))) := by
  have e : kbScale x (ix2 r z) = Scalar.select (Ideal.cmp .oeq (kbMax x (ix2 r z)) (Ideal.ofBits .f32 0x00000000#32))
      (Ideal.ofBits .f32 0x3F800000#32) (Ideal.div (kbMax x (ix2 r z)) (Ideal.ofBits .f32 0x42FE0000#32)) := rfl
  rw [e]
  rw [sel_oeq, kbMax_apply, lit127, lit1, lit0]; rfl

theorem kbVal_apply (x : FVec Ideal S24x256 .f32) (r : Fin 24) (k : Fin 256) :
    kbVal x (ix2 r k) = qv (x (ix2 r k)) (qs (amax (fun k => x (ix2 r k)))) := by
  have e : broadcastTo S24x256 (kbScale x) broadcasts_S24x1_S24x256 (ix2 r k) = kbScale x (ix2 r (0 : Fin 1)) :=
    congrArg (kbScale x) (funext fun a => match a with | ⟨0, _⟩ => rfl | ⟨1, _⟩ => rfl)
  show min (((127#32 : BitVec 32).toInt : ℝ) : EReal) (max (((4294967169#32 : BitVec 32).toInt : ℝ) : EReal)
    (Ideal.liftRound Ideal.roundHalfEven (Ideal.div (x (ix2 r k)) (broadcastTo S24x256 (kbScale x) broadcasts_S24x1_S24x256 (ix2 r k))))) = _
  rw [e, kbScale_apply, show (127#32 : BitVec 32).toInt = 127 from by decide, show (4294967169#32 : BitVec 32).toInt = -127 from by decide]
  unfold qv; push_cast; rfl

/-! ## The 16 blocks of a row -/

/-- Position `k` of block `j` of a 4096-wide row. -/
def bAt (j : Fin 16) (k : Fin 256) : Fin 4096 := ⟨256 * j.val + k.val, by omega⟩
/-- The block of a position. -/
def blkOf (c : Fin 4096) : Fin 16 := ⟨c.val / 256, by omega⟩
/-- The scale of block `j` of row `r` of `X`. -/
def scl (X : FVec Ideal S24x4096 .f32) (r : Fin 24) (j : Fin 16) : EReal := qs (amax fun k => X (ix2 r (bAt j k)))
/-- The code at position `c` of row `r` of `X`. -/
def cod (X : FVec Ideal S24x4096 .f32) (r : Fin 24) (c : Fin 4096) : BitVec 8 := qc (X (ix2 r c)) (scl X r (blkOf c))

theorem slice_apply (X : FVec F S24x4096 .f32) (j : Fin 16) (off : ℕ) (e : off = 256 * j.val) (h : S24x4096.Slices ![0, off] S24x256)
    (r : Fin 24) (k : Fin 256) : extractStridedSlice S24x256 ![0, off] X h (ix2 r k) = X (ix2 r (bAt j k)) := by
  subst e
  exact congrArg X (funext fun a => match a with | ⟨0, _⟩ => Fin.ext (Nat.zero_add _) | ⟨1, _⟩ => rfl)

theorem kbScale_slice (X : FVec Ideal S24x4096 .f32) (j : Fin 16) (off : ℕ) (e : off = 256 * j.val)
    (h : S24x4096.Slices ![0, off] S24x256) (r : Fin 24) (z : Fin 1) :
    kbScale (extractStridedSlice S24x256 ![0, off] X h) (ix2 r z) = scl X r j := by
  rw [kbScale_apply]; unfold scl; simp only [slice_apply X j off e h]

theorem kbVal_slice (X : FVec Ideal S24x4096 .f32) (j : Fin 16) (off : ℕ) (e : off = 256 * j.val)
    (h : S24x4096.Slices ![0, off] S24x256) (r : Fin 24) (k : Fin 256) :
    kbVal (extractStridedSlice S24x256 ![0, off] X h) (ix2 r k) = qv (X (ix2 r (bAt j k))) (scl X r j) := by
  rw [kbVal_apply]; unfold scl; simp only [slice_apply X j off e h]

theorem blkOf_bAt (j : Fin 16) (k : Fin 256) : blkOf (bAt j k) = j := Fin.ext (by simp only [blkOf, bAt]; omega)

/-- What the store of block `j` holds is the row's codes there. -/
theorem codes_slice (X : FVec Ideal S24x4096 .f32) (j : Fin 16) (off : ℕ) (e : off = 256 * j.val)
    (h : S24x4096.Slices ![0, off] S24x256) (inb : ∀ a, (![0, off] : Fin 2 → ℕ) a + S24x256.size a ≤ S24x4096.size a) (x : S24x256.Idx) :
    fptosi 8 (kbVal (extractStridedSlice S24x256 ![0, off] X h)) x
      = (fun y : S24x4096.Idx => cod X (y 0) (y 1)) ((Rect.unit (s := S24x4096) ![0, off] S24x256.size inb).emb x) := by
  obtain ⟨r, k, rfl⟩ : ∃ (r : Fin 24) (k : Fin 256), x = ix2 r k := ⟨x 0, x 1, eq_ix2 x⟩
  have e0 : ((Rect.unit (s := S24x4096) ![0, off] S24x256.size inb).emb (ix2 r k)) = ix2 r (bAt j k) := by
    subst e
    funext a
    match a with
    | ⟨0, _⟩ => exact Fin.ext (by show 0 + 1 * r.val = r.val; omega)
    | ⟨1, _⟩ => exact Fin.ext (by show 256 * j.val + 1 * k.val = 256 * j.val + k.val; omega)
  rw [e0]
  show Ideal.fptosi 8 (kbVal (extractStridedSlice S24x256 ![0, off] X h) (ix2 r k)) = qc (X (ix2 r (bAt j k))) (scl X r (blkOf (bAt j k)))
  rw [kbVal_slice X j off e h, blkOf_bAt]
  rfl

/-! ## Scales placed in lanes -/

/-- A row's scale placed in lane `j` of a 128-wide vector. -/
def laneSel (j : BitVec 32) (s : FVec F S24x1 .f32) (acc : FVec F S24x128 .f32) : FVec F S24x128 .f32 :=
  select (cmpi .eq (iota .tc S24x128 32 [1] iota_S24x128_d1_w32) (broadcast S24x128 j))
    (broadcastTo S24x128 (shapeCast S24x1 s shapeCasts_S24x1_S24x1) broadcasts_S24x1_S24x128) acc

theorem laneSel_apply (n : ℕ) (s : FVec F S24x1 .f32) (acc : FVec F S24x128 .f32) (r : Fin 24) (l : Fin 128) (hn : n < 128) :
    laneSel (BitVec.ofNat 32 n) s acc (ix2 r l) = if l.val = n then s (ix2 r (0 : Fin 1)) else acc (ix2 r l) := by
  have e : broadcastTo S24x128 (shapeCast S24x1 s shapeCasts_S24x1_S24x1) broadcasts_S24x1_S24x128 (ix2 r l) = s (ix2 r (0 : Fin 1)) :=
    (congrArg (shapeCast S24x1 s shapeCasts_S24x1_S24x1) (funext fun a => match a with | ⟨0, _⟩ => rfl | ⟨1, _⟩ => rfl)).trans
      (shapeCast_apply _ _ (ix2 r (0 : Fin 1)) (ix2 r (0 : Fin 1)) rfl)
  have ei : iota .tc S24x128 32 [1] iota_S24x128_d1_w32 (ix2 r l) = BitVec.ofNat 32 l.val := by
    show BitVec.ofNat 32 _ = _
    congr 1
    simp
  unfold laneSel
  rw [select_apply, e]
  show Scalar.select (IntOp.cmpi .eq (iota .tc S24x128 32 [1] iota_S24x128_d1_w32 (ix2 r l)) (BitVec.ofNat 32 n)) _ _ = _
  rw [ei]
  have hi : IntOp.cmpi .eq (BitVec.ofNat 32 l.val) (BitVec.ofNat 32 n) = if l.val = n then 1#1 else 0#1 := by
    have := l.isLt
    by_cases h : l.val = n
    · simp [IntOp.cmpi, h]
    · have : ¬ BitVec.ofNat 32 l.val = BitVec.ofNat 32 n := fun e => h (by
        have := congrArg BitVec.toNat e
        simp only [BitVec.toNat_ofNat] at this
        omega)
      rw [if_neg h]; simp only [IntOp.cmpi]; rw [beq_false_of_ne this]; rfl
  rw [hi]
  by_cases h : l.val = n <;> simp [h, Scalar.select]

end Cert.KernelIdeal.Gen

end
-- ==== Proof.OutA.lean ====
/- What case A's body leaves in the outputs and the carried scratch, in closed form at the ideal instance. -/
module

public import proofs.«01_k».proof.Proof.KValue
public import proofs.«01_k».proof.Proof.Quant

@[expose] public section

set_option maxRecDepth 16384

noncomputable section

namespace Cert.KernelIdeal.Gen

open Idealize.ShloMosaic hiding ix0 ix1 ix2 ix3 ix4 eq_ix1 eq_ix2 eq_ix3 eq_ix4
open Idealize.ShloMosaic.ValueIdx Cert.Ff

theorem readAt_whole {S : Shape} {e : EltTy} (M : Memref sig .tc .vmem S e) (hM : M.IsWhole) (off : Fin S.rank → ℕ) (hz : ∀ a, off a = 0)
    (inb : ∀ a, off a + S.size a ≤ S.size a) (x : Vec Ideal S e) :
    View.readAt (Elt Ideal) M.view (Rect.unit (s := S) off S.size inb).toLoadRect (hM.unread x) = x := by
  rw [View.readAt_eq_ld, hM.read_unread]
  exact View.ld_unit_zero (funext hz) inb x

/-- Case A leaves the codes of the normed row in output 10. -/
theorem out0_A_10_eq (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec Ideal S24x4096 .f32) (x1 : Vec Ideal S1x4096 .f32) (x2 : Vec Ideal S512x16x128 .i8) (x3 : Vec Ideal S12x16x512 .i8) (x4 : Vec Ideal S16x512 .i16) (x5 : Vec Ideal S16x512 .i16) (x6 : Vec Ideal S512x16x128 .i8) (x7 : Vec Ideal S12x16x512 .i8) (x8 : Vec Ideal S16x512 .i16) (x9 : Vec Ideal S16x512 .i16) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = fun y => cod (k0_pay2 x0 x1) (y 0) (y 1) := by
  unfold out0_A_10
  rw [View.read_writes_junk_eq_canon]
  have e : k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1)) = k0_pay2 x0 x1 := by
    rw [readAt_whole arg1 harg1 _ (by decide), readAt_whole arg2 harg2 _ (by decide)]
  funext y
  rw [← e]
  refine View.canon_apply_of_pieces (fun y : S24x4096.Idx => cod (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) (y 0) (y 1)) _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 y)
  intro p hp
  unfold kernelRun0_A at hp
  dsimp only at hp
  simp only [List.mem_cons, List.not_mem_nil, or_false] at hp
  rcases hp with rfl | rfl | rfl | rfl | rfl | rfl | rfl | rfl | rfl | rfl | rfl | rfl | rfl | rfl | rfl | rfl
  · exact codes_slice _ 15 3840 rfl slices_S24x4096_o0_3840_S24x256 inb_S24x4096_S24x256_0_3840
  · exact codes_slice _ 14 3584 rfl slices_S24x4096_o0_3584_S24x256 inb_S24x4096_S24x256_0_3584
  · exact codes_slice _ 13 3328 rfl slices_S24x4096_o0_3328_S24x256 inb_S24x4096_S24x256_0_3328
  · exact codes_slice _ 12 3072 rfl slices_S24x4096_o0_3072_S24x256 inb_S24x4096_S24x256_0_3072
  · exact codes_slice _ 11 2816 rfl slices_S24x4096_o0_2816_S24x256 inb_S24x4096_S24x256_0_2816
  · exact codes_slice _ 10 2560 rfl slices_S24x4096_o0_2560_S24x256 inb_S24x4096_S24x256_0_2560
  · exact codes_slice _ 9 2304 rfl slices_S24x4096_o0_2304_S24x256 inb_S24x4096_S24x256_0_2304
  · exact codes_slice _ 8 2048 rfl slices_S24x4096_o0_2048_S24x256 inb_S24x4096_S24x256_0_2048
  · exact codes_slice _ 7 1792 rfl slices_S24x4096_o0_1792_S24x256 inb_S24x4096_S24x256_0_1792
  · exact codes_slice _ 6 1536 rfl slices_S24x4096_o0_1536_S24x256 inb_S24x4096_S24x256_0_1536
  · exact codes_slice _ 5 1280 rfl slices_S24x4096_o0_1280_S24x256 inb_S24x4096_S24x256_0_1280
  · exact codes_slice _ 4 1024 rfl slices_S24x4096_o0_1024_S24x256 inb_S24x4096_S24x256_0_1024
  · exact codes_slice _ 3 768 rfl slices_S24x4096_o0_768_S24x256 inb_S24x4096_S24x256_0_768
  · exact codes_slice _ 2 512 rfl slices_S24x4096_o0_512_S24x256 inb_S24x4096_S24x256_0_512
  · exact codes_slice _ 1 256 rfl slices_S24x4096_o0_256_S24x256 inb_S24x4096_S24x256_0_256
  · exact codes_slice _ 0 0 rfl slices_S24x4096_o0_0_S24x256 inb_S24x4096_S24x256_0_0

/-- Case A leaves the scales of the normed row's blocks in output 11. -/
theorem out0_A_11_eq (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec Ideal S24x4096 .f32) (x1 : Vec Ideal S1x4096 .f32) (x2 : Vec Ideal S512x16x128 .i8) (x3 : Vec Ideal S12x16x512 .i8) (x4 : Vec Ideal S16x512 .i16) (x5 : Vec Ideal S16x512 .i16) (x6 : Vec Ideal S512x16x128 .i8) (x7 : Vec Ideal S12x16x512 .i8) (x8 : Vec Ideal S16x512 .i16) (x9 : Vec Ideal S16x512 .i16) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = fun y => scl (k0_pay2 x0 x1) (y 0) (y 1) := by
  unfold out0_A_11
  rw [View.read_writes_junk_eq_canon]
  have e : k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1)) = k0_pay2 x0 x1 := by
    rw [readAt_whole arg1 harg1 _ (by decide), readAt_whole arg2 harg2 _ (by decide)]
  rw [← e]
  unfold kernelRun0_A
  dsimp only
  refine (View.canon_unit_zero (funext (by decide)) _ _).trans ?_
  refine (show _ = extractStridedSlice S24x16 ![0, 0] (laneSel 15#32 (kbScale (extractStridedSlice S24x256 ![0, 3840] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_3840_S24x256)) (laneSel 14#32 (kbScale (extractStridedSlice S24x256 ![0, 3584] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_3584_S24x256)) (laneSel 13#32 (kbScale (extractStridedSlice S24x256 ![0, 3328] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_3328_S24x256)) (laneSel 12#32 (kbScale (extractStridedSlice S24x256 ![0, 3072] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_3072_S24x256)) (laneSel 11#32 (kbScale (extractStridedSlice S24x256 ![0, 2816] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_2816_S24x256)) (laneSel 10#32 (kbScale (extractStridedSlice S24x256 ![0, 2560] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_2560_S24x256)) (laneSel 9#32 (kbScale (extractStridedSlice S24x256 ![0, 2304] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_2304_S24x256)) (laneSel 8#32 (kbScale (extractStridedSlice S24x256 ![0, 2048] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_2048_S24x256)) (laneSel 7#32 (kbScale (extractStridedSlice S24x256 ![0, 1792] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_1792_S24x256)) (laneSel 6#32 (kbScale (extractStridedSlice S24x256 ![0, 1536] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_1536_S24x256)) (laneSel 5#32 (kbScale (extractStridedSlice S24x256 ![0, 1280] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_1280_S24x256)) (laneSel 4#32 (kbScale (extractStridedSlice S24x256 ![0, 1024] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_1024_S24x256)) (laneSel 3#32 (kbScale (extractStridedSlice S24x256 ![0, 768] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_768_S24x256)) (laneSel 2#32 (kbScale (extractStridedSlice S24x256 ![0, 512] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_512_S24x256)) (laneSel 1#32 (kbScale (extractStridedSlice S24x256 ![0, 256] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_256_S24x256)) (laneSel 0#32 (kbScale (extractStridedSlice S24x256 ![0, 0] (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) slices_S24x4096_o0_0_S24x256)) (broadcast S24x128 (Scalar.ofBits .f32 0x00000000#32)))))))))))))))))) slices_S24x128_o0_0_S24x16 from rfl).trans ?_
  funext y
  obtain ⟨r, j, rfl⟩ : ∃ (r : Fin 24) (j : Fin 16), y = ix2 r j := ⟨y 0, y 1, eq_ix2 y⟩
  show _ = scl (k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1))) r j
  generalize k0_pay2 (View.readAt (Elt Ideal) arg1.view (Rect.unit (s := S24x4096) ![0, 0] S24x4096.size inb_S24x4096_S24x4096_0_0).toLoadRect (harg1.unread x0)) (View.readAt (Elt Ideal) arg2.view (Rect.unit (s := S1x4096) ![0, 0] S1x4096.size inb_S1x4096_S1x4096_0_0).toLoadRect (harg2.unread x1)) = Z
  have hs : ∀ W : FVec Ideal S24x128 .f32, extractStridedSlice S24x16 ![0, 0] W slices_S24x128_o0_0_S24x16 (ix2 r j)
      = W (ix2 r (⟨j.val, by omega⟩ : Fin 128)) := fun W =>
    congrArg W (funext fun a => match a with | ⟨0, _⟩ => Fin.ext (Nat.zero_add _) | ⟨1, _⟩ => Fin.ext (Nat.zero_add _))
  rw [hs]
  rw [show (15#32 : BitVec 32) = BitVec.ofNat 32 15 from rfl, laneSel_apply _ _ _ _ _ (by omega), kbScale_slice Z 15 3840 rfl]
  rw [show (14#32 : BitVec 32) = BitVec.ofNat 32 14 from rfl, laneSel_apply _ _ _ _ _ (by omega), kbScale_slice Z 14 3584 rfl]
  rw [show (13#32 : BitVec 32) = BitVec.ofNat 32 13 from rfl, laneSel_apply _ _ _ _ _ (by omega), kbScale_slice Z 13 3328 rfl]
  rw [show (12#32 : BitVec 32) = BitVec.ofNat 32 12 from rfl, laneSel_apply _ _ _ _ _ (by omega), kbScale_slice Z 12 3072 rfl]
  rw [show (11#32 : BitVec 32) = BitVec.ofNat 32 11 from rfl, laneSel_apply _ _ _ _ _ (by omega), kbScale_slice Z 11 2816 rfl]
  rw [show (10#32 : BitVec 32) = BitVec.ofNat 32 10 from rfl, laneSel_apply _ _ _ _ _ (by omega), kbScale_slice Z 10 2560 rfl]
  rw [show (9#32 : BitVec 32) = BitVec.ofNat 32 9 from rfl, laneSel_apply _ _ _ _ _ (by omega), kbScale_slice Z 9 2304 rfl]
  rw [show (8#32 : BitVec 32) = BitVec.ofNat 32 8 from rfl, laneSel_apply _ _ _ _ _ (by omega), kbScale_slice Z 8 2048 rfl]
  rw [show (7#32 : BitVec 32) = BitVec.ofNat 32 7 from rfl, laneSel_apply _ _ _ _ _ (by omega), kbScale_slice Z 7 1792 rfl]
  rw [show (6#32 : BitVec 32) = BitVec.ofNat 32 6 from rfl, laneSel_apply _ _ _ _ _ (by omega), kbScale_slice Z 6 1536 rfl]
  rw [show (5#32 : BitVec 32) = BitVec.ofNat 32 5 from rfl, laneSel_apply _ _ _ _ _ (by omega), kbScale_slice Z 5 1280 rfl]
  rw [show (4#32 : BitVec 32) = BitVec.ofNat 32 4 from rfl, laneSel_apply _ _ _ _ _ (by omega), kbScale_slice Z 4 1024 rfl]
  rw [show (3#32 : BitVec 32) = BitVec.ofNat 32 3 from rfl, laneSel_apply _ _ _ _ _ (by omega), kbScale_slice Z 3 768 rfl]
  rw [show (2#32 : BitVec 32) = BitVec.ofNat 32 2 from rfl, laneSel_apply _ _ _ _ _ (by omega), kbScale_slice Z 2 512 rfl]
  rw [show (1#32 : BitVec 32) = BitVec.ofNat 32 1 from rfl, laneSel_apply _ _ _ _ _ (by omega), kbScale_slice Z 1 256 rfl]
  rw [show (0#32 : BitVec 32) = BitVec.ofNat 32 0 from rfl, laneSel_apply _ _ _ _ _ (by omega), kbScale_slice Z 0 0 rfl]
  have hj := j.isLt
  by_cases h15 : j.val = 15
  · rw [if_pos h15]; exact congrArg (scl Z r) (Fin.ext h15.symm)
  rw [if_neg h15]
  by_cases h14 : j.val = 14
  · rw [if_pos h14]; exact congrArg (scl Z r) (Fin.ext h14.symm)
  rw [if_neg h14]
  by_cases h13 : j.val = 13
  · rw [if_pos h13]; exact congrArg (scl Z r) (Fin.ext h13.symm)
  rw [if_neg h13]
  by_cases h12 : j.val = 12
  · rw [if_pos h12]; exact congrArg (scl Z r) (Fin.ext h12.symm)
  rw [if_neg h12]
  by_cases h11 : j.val = 11
  · rw [if_pos h11]; exact congrArg (scl Z r) (Fin.ext h11.symm)
  rw [if_neg h11]
  by_cases h10 : j.val = 10
  · rw [if_pos h10]; exact congrArg (scl Z r) (Fin.ext h10.symm)
  rw [if_neg h10]
  by_cases h9 : j.val = 9
  · rw [if_pos h9]; exact congrArg (scl Z r) (Fin.ext h9.symm)
  rw [if_neg h9]
  by_cases h8 : j.val = 8
  · rw [if_pos h8]; exact congrArg (scl Z r) (Fin.ext h8.symm)
  rw [if_neg h8]
  by_cases h7 : j.val = 7
  · rw [if_pos h7]; exact congrArg (scl Z r) (Fin.ext h7.symm)
  rw [if_neg h7]
  by_cases h6 : j.val = 6
  · rw [if_pos h6]; exact congrArg (scl Z r) (Fin.ext h6.symm)
  rw [if_neg h6]
  by_cases h5 : j.val = 5
  · rw [if_pos h5]; exact congrArg (scl Z r) (Fin.ext h5.symm)
  rw [if_neg h5]
  by_cases h4 : j.val = 4
  · rw [if_pos h4]; exact congrArg (scl Z r) (Fin.ext h4.symm)
  rw [if_neg h4]
  by_cases h3 : j.val = 3
  · rw [if_pos h3]; exact congrArg (scl Z r) (Fin.ext h3.symm)
  rw [if_neg h3]
  by_cases h2 : j.val = 2
  · rw [if_pos h2]; exact congrArg (scl Z r) (Fin.ext h2.symm)
  rw [if_neg h2]
  by_cases h1 : j.val = 1
  · rw [if_pos h1]; exact congrArg (scl Z r) (Fin.ext h1.symm)
  rw [if_neg h1]
  by_cases h0 : j.val = 0
  · rw [if_pos h0]; exact congrArg (scl Z r) (Fin.ext h0.symm)
  rw [if_neg h0]
  omega

end Cert.KernelIdeal.Gen

end
-- ==== Proof.RefQ.lean ====
/- The reference's normed row, its codes and its scales, in the closed form the kernel's are given in. -/
module

public import proofs.«01_k».proof.Proof.Quant
public import proofs.«01_k».proof.Proof.Gen.ReferenceIdeal.Read
public import Idealize.ShloMosaic.Lib.KernelVsHost

@[expose] public section

set_option maxRecDepth 16384

noncomputable section

namespace Cert.Ff

open Idealize.ShloMosaic hiding ix0 ix1 ix2 ix3 ix4 eq_ix1 eq_ix2 eq_ix3 eq_ix4
open Idealize.ShloMosaic.ValueIdx Cert.ReferenceIdeal Cert.ReferenceIdeal.Read
open Cert.KernelIdeal.Gen (k0_pay2 scl cod bAt blkOf blkOf_bAt)

variable (h : FVec Ideal S24x4096 .f32) (g : FVec Ideal S4096 .f32)

/-- The kernel's normed row is the reference's. -/
theorem normed (g1 : FVec Ideal S1x4096 .f32) (hg : ∀ c : Fin 4096, g1 (ix2 (0 : Fin 1) c) = g (ix1 c)) :
    k0_pay2 (F := Ideal) h g1 = val_main_v12 (F := Ideal) h g := by
  funext i
  obtain ⟨r, c, rfl⟩ : ∃ (r : Fin 24) (c : Fin 4096), i = ix2 r c := ⟨i 0, i 1, eq_ix2 i⟩
  rw [val_main_v12_apply, val_main_v9_apply, val_main_v8_apply, val_main_v7_apply, val_main_v6_apply, val_main_v4_apply,
    val_main_v2_apply, val_main_v1_apply, val_main_v11_apply, val_main_v10_apply]
  have e1 : ∀ (s : FVec Ideal S24x1 .f32), broadcastTo S24x4096 s Cert.KernelIdeal.Gen.broadcasts_S24x1_S24x4096 (ix2 r c) = s (ix2 r (0 : Fin 1)) := fun s =>
    congrArg s (funext fun a => match a with | ⟨0, _⟩ => rfl | ⟨1, _⟩ => rfl)
  have e2 : ∀ (s : FVec Ideal S1x4096 .f32), broadcastTo S24x4096 s Cert.KernelIdeal.Gen.broadcasts_S1x4096_S24x4096 (ix2 r c) = s (ix2 (0 : Fin 1) c) := fun s =>
    congrArg s (funext fun a => match a with | ⟨0, _⟩ => rfl | ⟨1, _⟩ => rfl)
  have e3 : shapeCast S24x1 (multiReduction .add [1] S24 (mulf h h) 0x00000000#32 Cert.KernelIdeal.Gen.reduces_S24x4096_S24 (.inl rfl) rfl) Cert.KernelIdeal.Gen.shapeCasts_S24_S24x1 (ix2 r (0 : Fin 1))
      = ∑ k : Fin 4096, h (ix2 r k) * h (ix2 r k) := by
    rw [shapeCast_apply _ _ _ (ix1 r) (by rw [Shape.rowMajor_val_two]; simp [Shape.rowMajor_val_one])]
    refine (Ideal.multiReduction_add_single (mulf h h) _ Cert.KernelIdeal.Gen.reduces_S24x4096_S24 _ _ (ix1 r)).trans ?_
    refine Finset.sum_congr rfl fun k _ => ?_
    have : Cert.KernelIdeal.Gen.reduces_S24x4096_S24.lift (ix1 r) k = ix2 r k := by
      funext a; match a with | ⟨0, _⟩ => rfl | ⟨1, _⟩ => rfl
    rw [this]; rfl
  unfold k0_pay2
  rw [ValueIdx.mulf_apply, ValueIdx.divf_apply, e1, e2]
  rw [shapeCast_apply g1 _ (ix2 (0 : Fin 1) c) (ix2 (0 : Fin 1) c) rfl, hg]
  show Ideal.div (h (ix2 r c)) (Ideal.sqrt (Ideal.div (shapeCast S24x1 (multiReduction .add [1] S24 (mulf h h) 0x00000000#32 Cert.KernelIdeal.Gen.reduces_S24x4096_S24 (.inl rfl) rfl) Cert.KernelIdeal.Gen.shapeCasts_S24_S24x1 (ix2 r (0 : Fin 1))) (Ideal.ofBits .f32 0x45800000#32) + Ideal.ofBits .f32 0x3727C5AC#32)) * g (ix1 c) = _
  rw [e3]
  show _ = Ideal.div (h (ix2 r c)) (Ideal.sqrt (Ideal.div (Ideal.ofBits .f32 0x00000000#32 + ∑ k : Fin 4096, h (idx_main_v1 _ k) * h (idx_main_v1 _ k)) (Ideal.ofBits .f32 0x45800000#32) + Ideal.ofBits .f32 0x3727C5AC#32)) * g _
  rw [lit0, zero_add]
  have i1 : ∀ k, idx_main_v1 (idx_main_v2 (idx_main_v8 (ix2 r c))) k = ix2 r k := fun k => funext fun a => match a with | ⟨0, _⟩ => rfl | ⟨1, _⟩ => rfl
  have i2 : idx_main_v10 (idx_main_v11 (ix2 r c)) = ix1 c := funext fun a => match a with | ⟨0, _⟩ => rfl
  simp only [i1, i2]

/-- The host's largest magnitude along the last axis. -/
theorem host_amax {n b : ℕ} {u : Shape} (X : FVec Ideal (⟨3, ![n, b, 256]⟩ : Shape) .f32) (hr : (⟨3, ![n, b, 256]⟩ : Shape).Reduces [2] (⟨2, ![n, b]⟩ : Shape))
    (h : (⟨3, ![n, b, 256]⟩ : Shape).ReducesTo [2] (⟨2, ![n, b]⟩ : Shape)) (hu : 0 < u.numel) (r : Fin n) (j : Fin b) :
    Host.reduce (FloatOps.maximumf (F := Ideal) (φ := .f32)) (Host.absf X) (constant u .f32 0xFF800000#32) h hu (ix2 r j) = amax (fun k => X (ix3 r j k)) := by
  rw [hostReduce_maximumf_eq_multiReduction (F := Ideal) (Host.absf X) 0xFF800000#32 h hu hr (.inl rfl) rfl]
  refine (Ideal.multiReduction_maximumf_single _ _ hr _ _ _).trans ?_
  unfold amax
  congr 1
  funext k
  have : hr.lift (ix2 r j) k = ix3 r j k := by
    funext a; match a with | ⟨0, _⟩ => rfl | ⟨1, _⟩ => rfl | ⟨2, _⟩ => rfl
  show max (X _) (-(X _)) = max (X (ix3 r j k)) (-X (ix3 r j k))
  rw [this]; rfl

/-- The reference's scale of a block. -/
theorem ref_scale (r : Fin 24) (j : Fin 16) : val_main_v20 (F := Ideal) h g (ix2 r j) = scl (val_main_v12 (F := Ideal) h g) r j := by
  have e : val_main_v15 (F := Ideal) h g (ix2 r j) = amax (fun k => val_main_v12 (F := Ideal) h g (ix2 r (bAt j k))) := by
    refine (host_amax (val_main_v13 (F := Ideal) h g) (by decide) _ _ r j).trans ?_
    congr 1
    funext k
    rw [val_main_v13_apply]
    have : idx_main_v13 (ix3 r j k) = ix2 r (bAt j k) := by
      funext a
      have := r.isLt; have := j.isLt; have := k.isLt
      match a with
      | ⟨0, _⟩ => exact Fin.ext (by show ((r.val * 16 + j.val) * 256 + k.val) / 4096 = r.val; omega)
      | ⟨1, _⟩ => exact Fin.ext (by show ((r.val * 16 + j.val) * 256 + k.val) % 4096 = 256 * j.val + k.val; omega)
    rw [this]
  rw [val_main_v20_apply, val_main_v17_apply, val_main_v19_apply, e, val_main_v16_apply, val_main_v18_apply, val_main_call0_v1_apply]
  unfold scl
  generalize (amax fun k => val_main_v12 (F := Ideal) h g (ix2 r (bAt j k))) = x
  show Scalar.select (Ideal.cmp .oeq x (Ideal.ofBits .f32 0x00000000#32)) (Ideal.ofBits .f32 0x3F800000#32) (Ideal.div x (Ideal.ofBits .f32 0x42FE0000#32)) = _
  rw [sel_oeq, lit127, lit1, lit0]; rfl

/-- The reference's code at a position. -/
theorem ref_code (r : Fin 24) (c : Fin 4096) : val_main_v28 (F := Ideal) h g (ix2 r c) = cod (val_main_v12 (F := Ideal) h g) r c := by
  have ei : idx_main_v28 (ix2 r c) = ix3 r (blkOf c) (⟨c.val % 256, by omega⟩ : Fin 256) := by
    funext a
    have := r.isLt; have := c.isLt
    match a with
    | ⟨0, _⟩ => exact Fin.ext (by show (r.val * 4096 + c.val) / 4096 = r.val; omega)
    | ⟨1, _⟩ => exact Fin.ext (by show (r.val * 4096 + c.val) / 256 % 16 = c.val / 256; omega)
    | ⟨2, _⟩ => exact Fin.ext (by show (r.val * 4096 + c.val) % 256 = c.val % 256; omega)
  have e13 : idx_main_v13 (ix3 r (blkOf c) (⟨c.val % 256, by omega⟩ : Fin 256)) = ix2 r c := by
    funext a
    have := r.isLt; have := c.isLt
    match a with
    | ⟨0, _⟩ => exact Fin.ext (by show ((r.val * 16 + c.val / 256) * 256 + c.val % 256) / 4096 = r.val; omega)
    | ⟨1, _⟩ => exact Fin.ext (by show ((r.val * 16 + c.val / 256) * 256 + c.val % 256) % 4096 = c.val; omega)
  rw [val_main_v28_apply, ei]
  have e25 : val_main_v25 (F := Ideal) h g (ix3 r (blkOf c) (⟨c.val % 256, by omega⟩ : Fin 256)) = qv (val_main_v12 (F := Ideal) h g (ix2 r c)) (scl (val_main_v12 (F := Ideal) h g) r (blkOf c)) := by
    rw [← e13, ← ref_scale, ← val_main_v13_apply]
    have e22 : val_main_v22 (F := Ideal) h g (ix3 r (blkOf c) (⟨c.val % 256, by omega⟩ : Fin 256)) = val_main_v20 (F := Ideal) h g (ix2 r (blkOf c)) := by
      rw [val_main_v22_apply, val_main_v21_apply]
      congr 1
      funext a; match a with | ⟨0, _⟩ => rfl | ⟨1, _⟩ => rfl
    rw [val_main_v25_apply, val_main_call2_v4_apply, val_main_call2_v3_apply, val_main_call2_v2_apply, val_main_call2_v1_apply, val_main_call2_v0_apply,
      val_main_v24_apply, val_main_v23_apply, val_main_c_apply, val_main_c_6_apply, e22]
    generalize val_main_v13 (F := Ideal) h g _ = x
    generalize val_main_v20 (F := Ideal) h g _ = y
    show min (((127#32 : BitVec 32).toInt : ℝ) : EReal) (max (((4294967169#32 : BitVec 32).toInt : ℝ) : EReal)
      (Ideal.liftRound Ideal.roundHalfEven (Ideal.div x y))) = _
    rw [show (127#32 : BitVec 32).toInt = 127 from by decide, show (4294967169#32 : BitVec 32).toInt = -127 from by decide]
    unfold qv; push_cast; rfl
  show (Ideal.fptosi 32 (val_main_v25 (F := Ideal) h g _)).setWidth 8 = _
  rw [e25]
  exact qc_wide _ _

end Cert.Ff

end
-- ==== Proof.First.lean ====
/- The two outputs the first grid point fills: they and the kept scratches are never written again. -/
module

public import proofs.«01_k».proof.Proof.OutA
public import proofs.«01_k».proof.Proof.RefQ
public import proofs.«01_k».proof.Proof.KValue
public import Idealize.ShloMosaic.Lib.StableHlo.Run

@[expose] public section

set_option maxRecDepth 16384

noncomputable section

namespace Cert.KernelIdeal.Value

open Cert.KernelIdeal Cert.KernelIdeal.Gen Idealize.ShloMosaic.TcCoe Idealize.SL.Sem
open Idealize.ShloMosaic.Pipeline (Dat)
open Idealize.ShloMosaic hiding ix0 ix1 ix2 ix3 ix4 eq_ix1 eq_ix2 eq_ix3 eq_ix4
open Idealize.ShloMosaic.ValueIdx Cert.Ff

/-- The fold's value after point `n`. -/
abbrev st {F : FTy → Type} [FloatOps F] (m : (ℓ : Loc nD τ sig) → Buf (Elt F) ℓ) (c : Dev nD) (n : ℕ) (hn : 0 + n < cfg0.N) :=
  Pipeline.accAt (fun n h => stAt0 m c n h junk0) (stAt0 m c) 0 n hn

section
variable {F : FTy → Type} [FloatOps F] (m : (ℓ : Loc nD τ sig) → Buf (Elt F) ℓ) (c : Dev nD)

/-- A later point leaves the first two outputs and the three kept scratches as it found them. -/
theorem keep_step (t : Fin cfg0.N) (acc) (h0 : ¬t.val % 28 = 0) :
    (stAt0 m c t.val t.isLt acc).1 = acc.1 ∧ (stAt0 m c t.val t.isLt acc).2.1 = acc.2.1
    ∧ (stAt0 m c t.val t.isLt acc).2.2.2.2 = acc.2.2.2.2 := by
  rw [stAt0_B m c t acc h0]
  exact ⟨rfl, rfl, rfl⟩

/-- So after every point they are what the first point left. -/
theorem keep (n : ℕ) (hn : 0 + n < cfg0.N) :
    (st m c n hn).1 = (st m c 0 (by omega)).1 ∧ (st m c n hn).2.1 = (st m c 0 (by omega)).2.1
    ∧ (st m c n hn).2.2.2.2 = (st m c 0 (by omega)).2.2.2.2 := by
  induction n with
  | zero => exact ⟨rfl, rfl, rfl⟩
  | succ n ih =>
    obtain ⟨a, b, d⟩ := ih (by omega)
    have hN : (0 + (n + 1)) < 28 := lt_of_lt_of_eq hn N_0
    obtain ⟨a', b', d'⟩ := keep_step m c ⟨0 + (n + 1), hn⟩ (st m c n (by omega)) (by show ¬(0 + (n + 1)) % 28 = 0; omega)
    exact ⟨a'.trans a, b'.trans b, d'.trans d⟩

theorem blk_h (h : 0 < cfg0.N) : (iblk m c 0 ⟨0, h⟩ : Vec F S24x4096 .f32) = m ((c : Thread nD τ).loc main_arg0) := by
  funext j
  unfold iblk
  rw [View.read_apply]
  refine (congrFun (V_main_arg0 m c) _).trans ?_
  congr 1
  funext a
  apply Fin.ext
  match a with
  | ⟨0, _⟩ => show 0 * 24 + 1 * (j 0).val = (j 0).val; omega
  | ⟨1, _⟩ => show 0 * 4096 + 1 * (j 1).val = (j 1).val; omega

theorem V_gain : V m c main_v0 = shapeCast S1x4096 (m ((c : Thread nD τ).loc main_arg1)) shapeCasts_S4096_S1x4096 := by
  rfl

theorem blk_g (h : 0 < cfg0.N) (k : Fin 4096) : (iblk m c 1 ⟨0, h⟩ : Vec F S1x4096 .f32) (ix2 (0 : Fin 1) k) = m ((c : Thread nD τ).loc main_arg1) (ix1 k) := by
  unfold iblk
  rw [View.read_apply]
  refine (congrFun (V_gain m c) _).trans ?_
  exact shapeCast_apply _ _ _ (ix1 k) (by
    rw [Shape.rowMajor_val_two, Shape.rowMajor_val_one]
    show k.val = (0 * 1 + 1 * 0) * 4096 + (0 * 4096 + 1 * k.val); omega)
end

section
variable (m : (ℓ : Loc nD τ sig) → Buf (Elt Ideal) ℓ) (c : Dev nD)

/-- The normed row every output is computed from. -/
abbrev nrm : FVec Ideal S24x4096 .f32 := Cert.ReferenceIdeal.Read.val_main_v12 (F := Ideal) (m ((c : Thread nD τ).loc main_arg0)) (m ((c : Thread nD τ).loc main_arg1))

theorem st_first (h : 0 + 0 < cfg0.N) : (st m c 0 h).1 = (fun y => cod (nrm m c) (y 0) (y 1)) ∧ (st m c 0 h).2.1 = (fun y => scl (nrm m c) (y 0) (y 1)) := by
  have e := normed (m ((c : Thread nD τ).loc main_arg0)) (m ((c : Thread nD τ).loc main_arg1)) _ (blk_g m c h)
  rw [← blk_h m c h] at e
  have e' : k0_pay2 (F := Ideal) (iblk m c 0 ⟨0, h⟩) (iblk m c 1 ⟨0, h⟩) = nrm m c := by
    rw [e, blk_h]
  constructor
  · refine (congrArg (fun p => p.1) (stAt0_A m c ⟨0, h⟩ junk0 rfl)).trans ?_
    dsimp only
    rw [out0_A_10_eq, e']
  · refine (congrArg (fun p => p.2.1) (stAt0_A m c ⟨0, h⟩ junk0 rfl)).trans ?_
    dsimp only
    rw [out0_A_11_eq, e']

theorem G10_eq (r : Fin 24) (k : Fin 4096) : G10 m c (ix2 r k) = cod (nrm m c) r k := by
  rw [G10_last]
  exact (congrFun ((keep m c 27 _).1.trans (st_first m c _).1) _)

theorem G11_eq (r : Fin 24) (j : Fin 16) : G11 m c (ix2 r j) = scl (nrm m c) r j := by
  rw [G11_last]
  exact (congrFun ((keep m c 27 _).2.1.trans (st_first m c _).2) _)
end

end Cert.KernelIdeal.Value

end
-- ==== Proof.Tile.lean ====
/- One weight tile's product, written once over what it loads. -/
module

public import proofs.«01_k».proof.Proof.Gen.KernelIdeal.Skeleton

@[expose] public section

set_option synthInstance.maxSize 4096

noncomputable section

namespace Cert.KernelIdeal.Gen

open Idealize.ShloMosaic Idealize.SL.Sem

variable {F : FTy → Type} [FloatOps F]

/-- The half-precision bits of a block row, as floats. -/
def f16V (v4 : Vec F S16x256 .i16) : FVec F S16x256 .f32 := k0_pay494 v4

/-- A scale byte row, widened. -/
def byteV (v : Vec F S1x16x256 .i8) : IVec S16x256 32 := extui 32 (shapeCast S16x256 v shapeCasts_S1x16x256_S16x256) natLt_8_32

/-- Sub-block `j`'s six-bit scale. -/
def scI (SC : Fin 12 → Vec F S1x16x256 .i8) : Fin 8 → IVec S16x256 32
  | 0 => andi (byteV (SC 0)) (broadcast S16x256 63#32)
  | 1 => andi (byteV (SC 1)) (broadcast S16x256 63#32)
  | 2 => andi (byteV (SC 2)) (broadcast S16x256 63#32)
  | 3 => andi (byteV (SC 3)) (broadcast S16x256 63#32)
  | 4 => ori (andi (byteV (SC 8)) (broadcast S16x256 15#32)) (shli (shrsi (byteV (SC 0)) (broadcast S16x256 6#32)) (broadcast S16x256 4#32))
  | 5 => ori (andi (byteV (SC 9)) (broadcast S16x256 15#32)) (shli (shrsi (byteV (SC 1)) (broadcast S16x256 6#32)) (broadcast S16x256 4#32))
  | 6 => ori (andi (byteV (SC 10)) (broadcast S16x256 15#32)) (shli (shrsi (byteV (SC 2)) (broadcast S16x256 6#32)) (broadcast S16x256 4#32))
  | 7 => ori (andi (byteV (SC 11)) (broadcast S16x256 15#32)) (shli (shrsi (byteV (SC 3)) (broadcast S16x256 6#32)) (broadcast S16x256 4#32))

/-- Sub-block `j`'s six-bit minimum. -/
def mnI (SC : Fin 12 → Vec F S1x16x256 .i8) : Fin 8 → IVec S16x256 32
  | 0 => andi (byteV (SC 4)) (broadcast S16x256 63#32)
  | 1 => andi (byteV (SC 5)) (broadcast S16x256 63#32)
  | 2 => andi (byteV (SC 6)) (broadcast S16x256 63#32)
  | 3 => andi (byteV (SC 7)) (broadcast S16x256 63#32)
  | 4 => ori (shrsi (byteV (SC 8)) (broadcast S16x256 4#32)) (shli (shrsi (byteV (SC 4)) (broadcast S16x256 6#32)) (broadcast S16x256 4#32))
  | 5 => ori (shrsi (byteV (SC 9)) (broadcast S16x256 4#32)) (shli (shrsi (byteV (SC 5)) (broadcast S16x256 6#32)) (broadcast S16x256 4#32))
  | 6 => ori (shrsi (byteV (SC 10)) (broadcast S16x256 4#32)) (shli (shrsi (byteV (SC 6)) (broadcast S16x256 6#32)) (broadcast S16x256 4#32))
  | 7 => ori (shrsi (byteV (SC 11)) (broadcast S16x256 4#32)) (shli (shrsi (byteV (SC 7)) (broadcast S16x256 6#32)) (broadcast S16x256 4#32))

/-- What the scale scratch keeps of sub-block `j`. -/
def scV (SC : Fin 12 → Vec F S1x16x256 .i8) (j : Fin 8) : FVec F S1x16x256 .f32 :=
  shapeCast S1x16x256 (sitofp .f32 (scI SC j)) shapeCasts_S16x256_S1x16x256

/-- A minimum times the block's factor. -/
def mnV (DM : Vec F S16x256 .i16) (SC : Fin 12 → Vec F S1x16x256 .i8) (j : Fin 8) : FVec F S16x256 .f32 :=
  mulf (sitofp .f32 (mnI SC j)) (f16V DM)

/-- The three bf16 parts of a product. -/
def hiV (x : FVec F S16x256 .f32) : FVec F S16x256 .bf16 := truncf .bf16 x bitsLt_bf16_f32
def resV (x : FVec F S16x256 .f32) : FVec F S16x256 .f32 := subf x (extf .f32 (hiV x) bitsLt_bf16_f32)
def midV (x : FVec F S16x256 .f32) : FVec F S16x256 .bf16 := hiV (resV x)
def loV (x : FVec F S16x256 .f32) : FVec F S16x256 .bf16 := hiV (resV (resV x))

/-- The words of four blocks' bytes, transposed. -/
def wordsV (q : Vec F S128x4x128 .i8) : IVec S1x128x128 32 :=
  shapeCast S1x128x128 (transpose S128x128 [1, 0] (shapeCast S128x128 (bitcast S128x1x128 32 q bitcasts_S128x4x128_w8_S128x1x128_w32) shapeCasts_S128x1x128_S128x128) transposes_S128x128_p1_0_S128x128) shapeCasts_S128x128_S1x128x128

/-- The nibbles of 32 word rows. -/
def nibV (t0 t1 : Vec F S1x32x128 .i32) : FVec F S256x256 .bf16 :=
  truncf .bf16 (sitofp .f32 (andi (shrui
    (shapeCast S256x256 (broadcastTo S32x8x256 (shapeCast S32x1x256 (shapeCast S32x1x256 (concatenate S32x256 1 [⟨S32x128, shapeCast S32x128 t0 shapeCasts_S1x32x128_S32x128⟩, ⟨S32x128, shapeCast S32x128 t1 shapeCasts_S1x32x128_S32x128⟩] concatenates_S32x128_S32x128_S32x256_d1) shapeCasts_S32x256_S32x1x256) shapeCasts_S32x1x256_S32x1x256) broadcasts_S32x1x256_S32x8x256) shapeCasts_S32x8x256_S256x256)
    (muli (andi (iota .tc S256x256 32 [0] iota_S256x256_d0_w32) (broadcast S256x256 7#32)) (broadcast S256x256 4#32))) (broadcast S256x256 15#32))) bitsLt_bf16_f32

/-- A chunk's product. -/
def mmV (t0 t1 : Vec F S1x32x128 .i32) (L : Vec F S1x192x256 .bf16) : FVec F S192x256 .f32 :=
  matmul dot_S192x256_S256x256_S192x256_1_0_0_1_n_n none (shapeCast S192x256 L shapeCasts_S1x192x256_S192x256) (nibV t0 t1) (constant S192x256 .f32 0x00000000#32)

/-- A row group of a chunk's product, times its sub-block scale. -/
def partV (o : ℕ) (h : S192x256.Slices ![o, 0] S24x256) (p : FVec F S192x256 .f32) (s : Vec F S1x1x256 .f32) : FVec F S24x256 .f32 :=
  mulf (extractStridedSlice S24x256 ![o, 0] p h) (broadcastTo S24x256 (shapeCast S1x256 s shapeCasts_S1x1x256_S1x256) broadcasts_S1x256_S24x256)

/-- One block's accumulator: the eight sub-blocks in order. -/
def accV (o0 o1 : ℕ) (h0 : S192x256.Slices ![o0, 0] S24x256) (h1 : S192x256.Slices ![o1, 0] S24x256)
    (p : Fin 4 → FVec F S192x256 .f32) (s : Fin 8 → Vec F S1x1x256 .f32) : FVec F S24x256 .f32 :=
  addf (addf (addf (addf (addf (addf (addf (partV o0 h0 (p 0) (s 0)) (partV o1 h1 (p 0) (s 1))) (partV o0 h0 (p 1) (s 2))) (partV o1 h1 (p 1) (s 3)))
    (partV o0 h0 (p 2) (s 4))) (partV o1 h1 (p 2) (s 5))) (partV o0 h0 (p 3) (s 6))) (partV o1 h1 (p 3) (s 7))

/-- The total with one block added. -/
def addV (tot acc : FVec F S24x256 .f32) (d : Vec F S1x256 .f32) (a : Vec F S1x24x256 .f32) : FVec F S24x256 .f32 :=
  addf tot (mulf (mulf acc (broadcastTo S24x256 d broadcasts_S1x256_S24x256)) (shapeCast S24x256 a shapeCasts_S1x24x256_S24x256))

/-- The total with four blocks added. -/
def fourV (tot : FVec F S24x256 .f32) (p : Fin 4 → FVec F S192x256 .f32) (s : Fin 8 → Fin 4 → Vec F S1x1x256 .f32) (d : Fin 4 → Vec F S1x256 .f32) (a : Fin 4 → Vec F S1x24x256 .f32) : FVec F S24x256 .f32 :=
  addV (addV (addV (addV tot (accV 0 24 slices_S192x256_o0_0_S24x256 slices_S192x256_o24_0_S24x256 p (fun j => s j 0)) (d 0) (a 0))
    (accV 48 72 slices_S192x256_o48_0_S24x256 slices_S192x256_o72_0_S24x256 p (fun j => s j 1)) (d 1) (a 1))
    (accV 96 120 slices_S192x256_o96_0_S24x256 slices_S192x256_o120_0_S24x256 p (fun j => s j 2)) (d 2) (a 2))
    (accV 144 168 slices_S192x256_o144_0_S24x256 slices_S192x256_o168_0_S24x256 p (fun j => s j 3)) (d 3) (a 3)

/-- Minus the product of the sub-block sums with the minima. -/
def minV (G : Vec F S24x768 .bf16) (DM : Vec F S16x256 .i16) (SC : Fin 12 → Vec F S1x16x256 .i8) : FVec F S24x256 .f32 :=
  subf (broadcast S24x256 (Scalar.ofBits .f32 0x00000000#32)) (matmul dot_S24x768_S768x256_S24x256_1_0_0_1_n_n none G
    (concatenate S768x256 0
      (⟨S16x256, hiV (mnV DM SC 0)⟩ :: ⟨S16x256, hiV (mnV DM SC 1)⟩ :: ⟨S16x256, hiV (mnV DM SC 2)⟩ :: ⟨S16x256, hiV (mnV DM SC 3)⟩ :: ⟨S16x256, hiV (mnV DM SC 4)⟩ :: ⟨S16x256, hiV (mnV DM SC 5)⟩ :: ⟨S16x256, hiV (mnV DM SC 6)⟩ :: ⟨S16x256, hiV (mnV DM SC 7)⟩ :: ⟨S16x256, hiV (mnV DM SC 0)⟩ :: ⟨S16x256, hiV (mnV DM SC 1)⟩ :: ⟨S16x256, hiV (mnV DM SC 2)⟩ :: ⟨S16x256, hiV (mnV DM SC 3)⟩ :: ⟨S16x256, hiV (mnV DM SC 4)⟩ :: ⟨S16x256, hiV (mnV DM SC 5)⟩ :: ⟨S16x256, hiV (mnV DM SC 6)⟩ :: ⟨S16x256, hiV (mnV DM SC 7)⟩ :: ⟨S16x256, hiV (mnV DM SC 0)⟩ :: ⟨S16x256, hiV (mnV DM SC 1)⟩ :: ⟨S16x256, hiV (mnV DM SC 2)⟩ :: ⟨S16x256, hiV (mnV DM SC 3)⟩ :: ⟨S16x256, hiV (mnV DM SC 4)⟩ :: ⟨S16x256, hiV (mnV DM SC 5)⟩ :: ⟨S16x256, hiV (mnV DM SC 6)⟩ :: ⟨S16x256, hiV (mnV DM SC 7)⟩ :: ⟨S16x256, midV (mnV DM SC 0)⟩ :: ⟨S16x256, midV (mnV DM SC 1)⟩ :: ⟨S16x256, midV (mnV DM SC 2)⟩ :: ⟨S16x256, midV (mnV DM SC 3)⟩ :: ⟨S16x256, midV (mnV DM SC 4)⟩ :: ⟨S16x256, midV (mnV DM SC 5)⟩ :: ⟨S16x256, midV (mnV DM SC 6)⟩ :: ⟨S16x256, midV (mnV DM SC 7)⟩ :: ⟨S16x256, midV (mnV DM SC 0)⟩ :: ⟨S16x256, midV (mnV DM SC 1)⟩ :: ⟨S16x256, midV (mnV DM SC 2)⟩ :: ⟨S16x256, midV (mnV DM SC 3)⟩ :: ⟨S16x256, midV (mnV DM SC 4)⟩ :: ⟨S16x256, midV (mnV DM SC 5)⟩ :: ⟨S16x256, midV (mnV DM SC 6)⟩ :: ⟨S16x256, midV (mnV DM SC 7)⟩ :: ⟨S16x256, loV (mnV DM SC 0)⟩ :: ⟨S16x256, loV (mnV DM SC 1)⟩ :: ⟨S16x256, loV (mnV DM SC 2)⟩ :: ⟨S16x256, loV (mnV DM SC 3)⟩ :: ⟨S16x256, loV (mnV DM SC 4)⟩ :: ⟨S16x256, loV (mnV DM SC 5)⟩ :: ⟨S16x256, loV (mnV DM SC 6)⟩ :: ⟨S16x256, loV (mnV DM SC 7)⟩ :: [])
      concatenates_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S16x256_S768x256_d0) (constant S24x256 .f32 0x00000000#32))

/-- The tile, over its loads: the sub-block sums, the minima's factors and bytes, the transposed words, the codes' rows,
    the sub-block scales, the blocks' factors and the activations' scales. -/
def tileV (G : Vec F S24x768 .bf16) (DM : Vec F S16x256 .i16) (SC : Fin 12 → Vec F S1x16x256 .i8) (TR : Fin 4 → Fin 4 → Fin 2 → Vec F S1x32x128 .i32)
    (LH : Fin 4 → Fin 4 → Vec F S1x192x256 .bf16) (SF : Fin 8 → Fin 4 → Fin 4 → Vec F S1x1x256 .f32) (DF : Fin 4 → Fin 4 → Vec F S1x256 .f32) (AS : Fin 4 → Fin 4 → Vec F S1x24x256 .f32) : FVec F S24x256 .f32 :=
  fourV (fourV (fourV (fourV (minV G DM SC)
    (fun c => mmV (TR 0 c 0) (TR 0 c 1) (LH 0 c)) (fun j b => SF j 0 b) (DF 0) (AS 0))
    (fun c => mmV (TR 1 c 0) (TR 1 c 1) (LH 1 c)) (fun j b => SF j 1 b) (DF 1) (AS 1))
    (fun c => mmV (TR 2 c 0) (TR 2 c 1) (LH 2 c)) (fun j b => SF j 2 b) (DF 2) (AS 2))
    (fun c => mmV (TR 3 c 0) (TR 3 c 1) (LH 3 c)) (fun j b => SF j 3 b) (DF 3) (AS 3)

/-- The activation of a gate and an up tile. -/
def glu (g u : FVec F S24x256 .f32) : FVec F S24x256 .f32 := mulf (mulf g (logistic g)) u

/-- The scale column of an activation tile. -/
def actS (a : FVec F S24x256 .f32) : FVec F S24x1 .f32 :=
  have v3129 : FVec F S24x1 .f32 := shapeCast S24x1 (multiReduction .maximumf [1] S24 (absf a) 0xFF800000#32 reduces_S24x256_S24 (.inl rfl) rfl) shapeCasts_S24_S24x1
  select (cmpf .oeq v3129 (broadcast S24x1 (Scalar.ofBits .f32 0x00000000#32))) (broadcast S24x1 (Scalar.ofBits .f32 0x3F800000#32)) (divf v3129 (broadcast S24x1 (Scalar.ofBits .f32 0x42FE0000#32)))

/-- The codes of an activation tile. -/
def actC (a : FVec F S24x256 .f32) : IVec S24x256 8 :=
  fptosi 8 (minimumf (broadcast S24x256 (Scalar.sitofp .f32 127#32)) (maximumf (broadcast S24x256 (Scalar.sitofp .f32 4294967169#32)) (roundeven (divf a (broadcastTo S24x256 (actS a) broadcasts_S24x1_S24x256)))))

/-- The scales' output with one column replaced. -/
def colV (t : BitVec 32) (w : Vec F S24x56 .f32) (s : FVec F S24x1 .f32) : FVec F S24x56 .f32 :=
  select (cmpi .eq (iota .tc S24x56 32 [1] iota_S24x56_d1_w32) (broadcast S24x56 t)) (broadcastTo S24x56 (shapeCast S24x1 s shapeCasts_S24x1_S24x1) broadcasts_S24x1_S24x56) (shapeCast S24x56 w shapeCasts_S24x56_S24x56)

end Cert.KernelIdeal.Gen

end
-- ==== Proof.Leaf.lean ====
/- The loads the tile's leaves are, and what each reads. -/
module

public import proofs.«01_k».proof.Proof.Tile
public import proofs.«01_k».proof.Proof.OutA

@[expose] public section

set_option maxRecDepth 16384

noncomputable section

namespace Cert.KernelIdeal.Gen

open Idealize.ShloMosaic hiding ix0 ix1 ix2 ix3 ix4 eq_ix1 eq_ix2 eq_ix3 eq_ix4
open Idealize.ShloMosaic.ValueIdx

variable {F : FTy → Type} [FloatOps F]

abbrev trR (M : Memref sig .tc .vmem S2x128x128 .i32) (L : Fin 4 → List (View.Piece (Elt F) S2x128x128 .i32)) (B c : Fin 4) (h : Fin 2) : Vec F S1x32x128 .i32 :=
  View.readCov M.view (L B) (Rect.unit (s := S2x128x128) ![h.val, 32 * c.val, 0] S1x32x128.size
    (fun a => match a with
      | ⟨0, _⟩ => (by show h.val + 1 ≤ 2; omega) | ⟨1, _⟩ => (by show 32 * c.val + 32 ≤ 128; omega) | ⟨2, _⟩ => (by show 0 + 128 ≤ 128; omega))).toLoadRect

abbrev sfR (M : Memref sig .tc .vmem S8x16x256 .f32) (L : List (View.Piece (Elt F) S8x16x256 .f32)) (j : Fin 8) (B b : Fin 4) : Vec F S1x1x256 .f32 :=
  View.readCov M.view L (Rect.unit (s := S8x16x256) ![j.val, 4 * B.val + b.val, 0] S1x1x256.size
    (fun a => match a with
      | ⟨0, _⟩ => (by show j.val + 1 ≤ 8; omega) | ⟨1, _⟩ => (by show 4 * B.val + b.val + 1 ≤ 16; omega) | ⟨2, _⟩ => (by show 0 + 256 ≤ 256; omega))).toLoadRect

abbrev dfR (M : Memref sig .tc .vmem S16x256 .f32) (L : List (View.Piece (Elt F) S16x256 .f32)) (B b : Fin 4) : Vec F S1x256 .f32 :=
  View.readCov M.view L (Rect.unit (s := S16x256) ![4 * B.val + b.val, 0] S1x256.size
    (fun a => match a with
      | ⟨0, _⟩ => (by show 4 * B.val + b.val + 1 ≤ 16; omega) | ⟨1, _⟩ => (by show 0 + 256 ≤ 256; omega))).toLoadRect

abbrev dmR (M : Memref sig .tc .vmem S16x512 .i16) (hM : M.IsWhole) (x : Vec F S16x512 .i16) (sub : Fin 2) : Vec F S16x256 .i16 :=
  View.readAt (Elt F) M.view (Rect.unit (s := S16x512) ![0, 256 * sub.val] S16x256.size
    (fun a => match a with
      | ⟨0, _⟩ => (by show 0 + 16 ≤ 16; omega) | ⟨1, _⟩ => (by show 256 * sub.val + 256 ≤ 512; omega))).toLoadRect (hM.unread x)

abbrev scR (M : Memref sig .tc .vmem S12x16x512 .i8) (hM : M.IsWhole) (x : Vec F S12x16x512 .i8) (sub : Fin 2) (j : Fin 12) : Vec F S1x16x256 .i8 :=
  View.readAt (Elt F) M.view (Rect.unit (s := S12x16x512) ![j.val, 0, 256 * sub.val] S1x16x256.size
    (fun a => match a with
      | ⟨0, _⟩ => (by show j.val + 1 ≤ 12; omega) | ⟨1, _⟩ => (by show 0 + 16 ≤ 16; omega) | ⟨2, _⟩ => (by show 256 * sub.val + 256 ≤ 512; omega))).toLoadRect (hM.unread x)

abbrev qR (M : Memref sig .tc .vmem S512x16x128 .i8) (hM : M.IsWhole) (x : Vec F S512x16x128 .i8) (sub : Fin 2) (B : Fin 4) (h : Fin 2) : Vec F S128x4x128 .i8 :=
  View.readAt (Elt F) M.view (Rect.unit (s := S512x16x128) ![256 * sub.val + 128 * h.val, 4 * B.val, 0] S128x4x128.size
    (fun a => match a with
      | ⟨0, _⟩ => (by show 256 * sub.val + 128 * h.val + 128 ≤ 512; omega) | ⟨1, _⟩ => (by show 4 * B.val + 4 ≤ 16; omega) | ⟨2, _⟩ => (by show 0 + 128 ≤ 128; omega))).toLoadRect (hM.unread x)

theorem inbG : ∀ a, (![0, 0] : Fin 2 → ℕ) a + S24x768.size a ≤ S24x768.size a := fun a => match a with | ⟨0, _⟩ => (by show 0 + 24 ≤ 24; omega) | ⟨1, _⟩ => (by show 0 + 768 ≤ 768; omega)

abbrev gA (M : Memref sig .tc .vmem S24x768 .bf16) (L : List (View.Piece (Elt F) S24x768 .bf16)) : Vec F S24x768 .bf16 :=
  View.readCov M.view L (Rect.unit (s := S24x768) ![0, 0] S24x768.size inbG).toLoadRect
abbrev gB (M : Memref sig .tc .vmem S24x768 .bf16) (hM : M.IsWhole) (x : Vec F S24x768 .bf16) : Vec F S24x768 .bf16 :=
  View.readAt (Elt F) M.view (Rect.unit (s := S24x768) ![0, 0] S24x768.size inbG).toLoadRect (hM.unread x)

theorem inbL (B c : Fin 4) : ∀ a, (![4 * B.val + c.val, 0, 0] : Fin 3 → ℕ) a + S1x192x256.size a ≤ S16x192x256.size a := fun a => match a with
  | ⟨0, _⟩ => (by show 4 * B.val + c.val + 1 ≤ 16; omega) | ⟨1, _⟩ => (by show 0 + 192 ≤ 192; omega) | ⟨2, _⟩ => (by show 0 + 256 ≤ 256; omega)
theorem inbS (B c : Fin 4) : ∀ a, (![4 * B.val + c.val, 0, 0] : Fin 3 → ℕ) a + S1x24x256.size a ≤ S16x24x256.size a := fun a => match a with
  | ⟨0, _⟩ => (by show 4 * B.val + c.val + 1 ≤ 16; omega) | ⟨1, _⟩ => (by show 0 + 24 ≤ 24; omega) | ⟨2, _⟩ => (by show 0 + 256 ≤ 256; omega)

abbrev lhA (M : Memref sig .tc .vmem S16x192x256 .bf16) (L : List (View.Piece (Elt F) S16x192x256 .bf16)) (B c : Fin 4) : Vec F S1x192x256 .bf16 :=
  View.readCov M.view L (Rect.unit (s := S16x192x256) ![4 * B.val + c.val, 0, 0] S1x192x256.size (inbL B c)).toLoadRect
abbrev lhB (M : Memref sig .tc .vmem S16x192x256 .bf16) (hM : M.IsWhole) (x : Vec F S16x192x256 .bf16) (B c : Fin 4) : Vec F S1x192x256 .bf16 :=
  View.readAt (Elt F) M.view (Rect.unit (s := S16x192x256) ![4 * B.val + c.val, 0, 0] S1x192x256.size (inbL B c)).toLoadRect (hM.unread x)
abbrev asA (M : Memref sig .tc .vmem S16x24x256 .f32) (L : List (View.Piece (Elt F) S16x24x256 .f32)) (B c : Fin 4) : Vec F S1x24x256 .f32 :=
  View.readCov M.view L (Rect.unit (s := S16x24x256) ![4 * B.val + c.val, 0, 0] S1x24x256.size (inbS B c)).toLoadRect
abbrev asB (M : Memref sig .tc .vmem S16x24x256 .f32) (hM : M.IsWhole) (x : Vec F S16x24x256 .f32) (B c : Fin 4) : Vec F S1x24x256 .f32 :=
  View.readAt (Elt F) M.view (Rect.unit (s := S16x24x256) ![4 * B.val + c.val, 0, 0] S1x24x256.size (inbS B c)).toLoadRect (hM.unread x)

end Cert.KernelIdeal.Gen

end
-- ==== Proof.Close.lean ====
/- The tile's leaves read off the windows: the tile as a function of the weights' windows and the kept scratches. -/
module

public import proofs.«01_k».proof.Proof.Leaf

@[expose] public section

set_option maxRecDepth 16384

noncomputable section

namespace Cert.KernelIdeal.Gen

open Idealize.ShloMosaic hiding ix0 ix1 ix2 ix3 ix4 eq_ix1 eq_ix2 eq_ix3 eq_ix4
open Idealize.ShloMosaic.ValueIdx

variable {F : FTy → Type} [FloatOps F]

/-- The words' bytes of one half and four blocks. -/
def qW (x : Vec F S512x16x128 .i8) (sub : Fin 2) (B : Fin 4) (h : Fin 2) : Vec F S128x4x128 .i8 := fun i =>
  x (ix3 (⟨256 * sub.val + 128 * h.val + (i 0).val, by have h0 : (i 0).val < 128 := (i 0).isLt; omega⟩ : Fin 512)
    (⟨4 * B.val + (i 1).val, by have h1 : (i 1).val < 4 := (i 1).isLt; omega⟩ : Fin 16) (⟨(i 2).val, (i 2).isLt⟩ : Fin 128))

/-- A scale byte row of half the window. -/
def scW (x : Vec F S12x16x512 .i8) (sub : Fin 2) (j : Fin 12) : Vec F S1x16x256 .i8 := fun i =>
  x (ix3 j (⟨(i 1).val, (i 1).isLt⟩ : Fin 16) (⟨256 * sub.val + (i 2).val, by have h2 : (i 2).val < 256 := (i 2).isLt; omega⟩ : Fin 512))

/-- A factor row of half the window. -/
def dmW (x : Vec F S16x512 .i16) (sub : Fin 2) : Vec F S16x256 .i16 := fun i =>
  x (ix2 (⟨(i 0).val, (i 0).isLt⟩ : Fin 16) (⟨256 * sub.val + (i 1).val, by have h2 : (i 1).val < 256 := (i 1).isLt; omega⟩ : Fin 512))

theorem qR_eq (M : Memref sig .tc .vmem S512x16x128 .i8) (hM : M.IsWhole) (x : Vec F S512x16x128 .i8) (sub : Fin 2) (B : Fin 4) (h : Fin 2) :
    qR M hM x sub B h = qW x sub B h := by
  unfold qR; rw [View.readAt_eq_ld, hM.read_unread]
  exact funext fun i => congrArg x (funext fun a => match a with
    | ⟨0, _⟩ => Fin.ext (by show 256 * sub.val + 128 * h.val + 1 * (i 0).val = 256 * sub.val + 128 * h.val + (i 0).val; omega)
    | ⟨1, _⟩ => Fin.ext (by show 4 * B.val + 1 * (i 1).val = 4 * B.val + (i 1).val; omega)
    | ⟨2, _⟩ => Fin.ext (by show 0 + 1 * (i 2).val = (i 2).val; omega))

theorem scR_eq (M : Memref sig .tc .vmem S12x16x512 .i8) (hM : M.IsWhole) (x : Vec F S12x16x512 .i8) (sub : Fin 2) :
    scR M hM x sub = scW x sub := by
  funext j
  unfold scR; rw [View.readAt_eq_ld, hM.read_unread]
  exact funext fun i => congrArg x (funext fun a => match a with
    | ⟨0, _⟩ => Fin.ext (by have h0 : (i 0).val < 1 := (i 0).isLt; show j.val + 1 * (i 0).val = j.val; omega)
    | ⟨1, _⟩ => Fin.ext (by show 0 + 1 * (i 1).val = (i 1).val; omega)
    | ⟨2, _⟩ => Fin.ext (by show 256 * sub.val + 1 * (i 2).val = 256 * sub.val + (i 2).val; omega))

theorem dmR_eq (M : Memref sig .tc .vmem S16x512 .i16) (hM : M.IsWhole) (x : Vec F S16x512 .i16) (sub : Fin 2) :
    dmR M hM x sub = dmW x sub := by
  unfold dmR; rw [View.readAt_eq_ld, hM.read_unread]
  exact funext fun i => congrArg x (funext fun a => match a with
    | ⟨0, _⟩ => Fin.ext (by show 0 + 1 * (i 0).val = (i 0).val; omega)
    | ⟨1, _⟩ => Fin.ext (by show 256 * sub.val + 1 * (i 1).val = 256 * sub.val + (i 1).val; omega))

/-- The word rows a product loads. -/
def trF (x : Vec F S512x16x128 .i8) (sub : Fin 2) (B c : Fin 4) (h : Fin 2) : Vec F S1x32x128 .i32 := fun i =>
  wordsV (qW x sub B h) (ix3 (0 : Fin 1) (⟨32 * c.val + (i 1).val, by have h0 : (i 1).val < 32 := (i 1).isLt; omega⟩ : Fin 128) (⟨(i 2).val, (i 2).isLt⟩ : Fin 128))
/-- The sub-block scale row a block loads. -/
def sfF (x : Vec F S12x16x512 .i8) (sub : Fin 2) (j : Fin 8) (B b : Fin 4) : Vec F S1x1x256 .f32 := fun i =>
  scV (scW x sub) j (ix3 (0 : Fin 1) (⟨4 * B.val + b.val, by omega⟩ : Fin 16) (⟨(i 2).val, (i 2).isLt⟩ : Fin 256))
/-- The factor row a block loads. -/
def dfF (x : Vec F S16x512 .i16) (sub : Fin 2) (B b : Fin 4) : Vec F S1x256 .f32 := fun i =>
  f16V (dmW x sub) (ix2 (⟨4 * B.val + b.val, by omega⟩ : Fin 16) (⟨(i 1).val, (i 1).isLt⟩ : Fin 256))
/-- The codes' rows a product loads. -/
def lhF (x : Vec F S16x192x256 .bf16) (B c : Fin 4) : Vec F S1x192x256 .bf16 := fun i =>
  x (ix3 (⟨4 * B.val + c.val, by omega⟩ : Fin 16) (⟨(i 1).val, (i 1).isLt⟩ : Fin 192) (⟨(i 2).val, (i 2).isLt⟩ : Fin 256))
/-- The activations' scales a block loads. -/
def asF (x : Vec F S16x24x256 .f32) (B c : Fin 4) : Vec F S1x24x256 .f32 := fun i =>
  x (ix3 (⟨4 * B.val + c.val, by omega⟩ : Fin 16) (⟨(i 1).val, (i 1).isLt⟩ : Fin 24) (⟨(i 2).val, (i 2).isLt⟩ : Fin 256))

/-- The tile over the weights' windows and the kept scratches. -/
def tileC (G : Vec F S24x768 .bf16) (LL : Vec F S16x192x256 .bf16) (AA : Vec F S16x24x256 .f32) (xq : Vec F S512x16x128 .i8)
    (xs : Vec F S12x16x512 .i8) (xd xm : Vec F S16x512 .i16) (sub : Fin 2) : FVec F S24x256 .f32 :=
  tileV G (dmW xm sub) (scW xs sub) (trF xq sub) (lhF LL) (sfF xs sub) (dfF xd sub) (asF AA)

/-- A load through a unit box under a newest piece that holds it. -/
theorem canon_hit {S : Shape} {e : EltTy} (off size : Fin S.rank → ℕ) (inb) (w : (Rect.unit (s := S) off size inb).shape.Idx → Elt F e)
    (L : List (View.Piece (Elt F) S e)) (y : S.Idx) (x : (Rect.unit (s := S) off size inb).shape.Idx) (h : ∀ a, (y a).val = off a + (x a).val) :
    View.canon (⟨Rect.unit (s := S) off size inb, w⟩ :: L) y = w x := by
  have e : y = (Rect.unit (s := S) off size inb).emb x := funext fun a => Fin.ext ((h a).trans (congrArg (off a + ·) (Nat.one_mul (x a).val).symm))
  rw [e]; exact View.canon_cons_emb (Rect.unit (s := S) off size inb) w L x

/-- A newest piece that misses the index on one axis is passed over. -/
theorem canon_miss {S : Shape} {e : EltTy} (off size : Fin S.rank → ℕ) (inb) (w : (Rect.unit (s := S) off size inb).shape.Idx → Elt F e)
    (L : List (View.Piece (Elt F) S e)) (y : S.Idx) (a : Fin S.rank) (h : (y a).val < off a ∨ off a + size a ≤ (y a).val) :
    View.canon (⟨Rect.unit (s := S) off size inb, w⟩ :: L) y = View.canon L y := by
  refine View.canon_cons_of_not_mem _ L ?_
  exact Rect.not_mem_set_of_axis (r := Rect.unit (s := S) off size inb) y a (off a) (size a) rfl rfl rfl h

theorem trR_eq (M : Memref sig .tc .vmem S2x128x128 .i32) (X0 X1 : Vec F S1x128x128 .i32) (L T : List (View.Piece (Elt F) S2x128x128 .i32))
    (i1 i0) (hL : L = (⟨Rect.unit (s := S2x128x128) ![1, 0, 0] S1x128x128.size i1, X1⟩ : View.Piece (Elt F) S2x128x128 .i32) :: (⟨Rect.unit (s := S2x128x128) ![0, 0, 0] S1x128x128.size i0, X0⟩ : View.Piece (Elt F) S2x128x128 .i32) :: T)
    (LL : Fin 4 → List (View.Piece (Elt F) S2x128x128 .i32)) (B c : Fin 4) (hB : LL B = L) (h : Fin 2) :
    trR M LL B c h = fun i => (![X0, X1] h) (ix3 (0 : Fin 1) (⟨32 * c.val + (i 1).val, by have h0 : (i 1).val < 32 := (i 1).isLt; omega⟩ : Fin 128) (⟨(i 2).val, (i 2).isLt⟩ : Fin 128)) := by
  unfold trR; rw [hB, hL, View.readCov_eq_canon']
  funext i
  have b1 : (i 1).val < 32 := (i 1).isLt
  have b0 : (i 0).val < 1 := (i 0).isLt
  fin_cases h
  · refine (canon_miss _ _ _ _ _ _ (0 : Fin 3) (Or.inl ?_)).trans (canon_hit _ _ _ _ _ _ _ fun a => ?_)
    · show 0 + 1 * (i 0).val < 1; omega
    · match a with
      | ⟨0, _⟩ => show 0 + 1 * (i 0).val = 0 + 0; omega
      | ⟨1, _⟩ => show 32 * c.val + 1 * (i 1).val = 0 + (32 * c.val + (i 1).val); omega
      | ⟨2, _⟩ => show 0 + 1 * (i 2).val = 0 + (i 2).val; omega
  · refine canon_hit _ _ _ _ _ _ _ fun a => ?_
    match a with
      | ⟨0, _⟩ => show 1 + 1 * (i 0).val = 1 + 0; omega
      | ⟨1, _⟩ => show 32 * c.val + 1 * (i 1).val = 0 + (32 * c.val + (i 1).val); omega
      | ⟨2, _⟩ => show 0 + 1 * (i 2).val = 0 + (i 2).val; omega

theorem dfR_eq (M : Memref sig .tc .vmem S16x256 .f32) (X : Vec F S16x256 .f32) (L T : List (View.Piece (Elt F) S16x256 .f32))
    (i0) (hL : L = (⟨Rect.unit (s := S16x256) ![0, 0] S16x256.size i0, X⟩ : View.Piece (Elt F) S16x256 .f32) :: T) (B b : Fin 4) :
    dfR M L B b = fun i => X (ix2 (⟨4 * B.val + b.val, by omega⟩ : Fin 16) (⟨(i 1).val, (i 1).isLt⟩ : Fin 256)) := by
  unfold dfR; rw [hL, View.readCov_eq_canon']
  funext i
  have b0 : (i 0).val < 1 := (i 0).isLt
  refine canon_hit _ _ _ _ _ _ _ fun a => ?_
  match a with
  | ⟨0, _⟩ => show 4 * B.val + b.val + 1 * (i 0).val = 0 + (4 * B.val + b.val); omega
  | ⟨1, _⟩ => show 0 + 1 * (i 1).val = 0 + (i 1).val; omega

/-- Row `j` of the scale scratch under its eight stores. -/
def sfL (P : Fin 8 → Vec F S1x16x256 .f32) (i : (j : Fin 8) → ∀ a, (![j.val, 0, 0] : Fin 3 → ℕ) a + S1x16x256.size a ≤ S8x16x256.size a)
    (T : List (View.Piece (Elt F) S8x16x256 .f32)) : List (View.Piece (Elt F) S8x16x256 .f32) :=
  let p (j : Fin 8) : View.Piece (Elt F) S8x16x256 .f32 := ⟨Rect.unit (s := S8x16x256) ![j.val, 0, 0] S1x16x256.size (i j), P j⟩
  p 7 :: p 6 :: p 5 :: p 4 :: p 3 :: p 2 :: p 1 :: p 0 :: T

theorem sfR_eq (M : Memref sig .tc .vmem S8x16x256 .f32) (P : Fin 8 → Vec F S1x16x256 .f32) (i) (T : List (View.Piece (Elt F) S8x16x256 .f32))
    (L : List (View.Piece (Elt F) S8x16x256 .f32)) (hL : L = sfL P i T) (j : Fin 8) (B b : Fin 4) :
    sfR M L j B b = fun x => P j (ix3 (0 : Fin 1) (⟨4 * B.val + b.val, by omega⟩ : Fin 16) (⟨(x 2).val, (x 2).isLt⟩ : Fin 256)) := by
  unfold sfR; rw [hL, View.readCov_eq_canon']
  funext x
  have b0 : (x 0).val < 1 := (x 0).isLt
  have b1 : (x 1).val < 1 := (x 1).isLt
  have hit : ∀ T', View.canon ((⟨Rect.unit (s := S8x16x256) ![j.val, 0, 0] S1x16x256.size (i j), P j⟩ : View.Piece (Elt F) S8x16x256 .f32) :: T')
      ((Rect.unit (s := S8x16x256) ![j.val, 4 * B.val + b.val, 0] S1x1x256.size (fun a => match a with
      | ⟨0, _⟩ => (by show j.val + 1 ≤ 8; omega) | ⟨1, _⟩ => (by show 4 * B.val + b.val + 1 ≤ 16; omega) | ⟨2, _⟩ => (by show 0 + 256 ≤ 256; omega))).toLoadRect.idx x) = P j (ix3 (0 : Fin 1) (⟨4 * B.val + b.val, by omega⟩ : Fin 16) (⟨(x 2).val, (x 2).isLt⟩ : Fin 256)) := fun T' => by
    refine canon_hit _ _ _ _ _ _ _ fun a => ?_
    match a with
    | ⟨0, _⟩ => show j.val + 1 * (x 0).val = j.val + 0; omega
    | ⟨1, _⟩ => show 4 * B.val + b.val + 1 * (x 1).val = 0 + (4 * B.val + b.val); omega
    | ⟨2, _⟩ => show 0 + 1 * (x 2).val = 0 + (x 2).val; omega
  have miss : ∀ (k : Fin 8) T', j.val < k.val → View.canon ((⟨Rect.unit (s := S8x16x256) ![k.val, 0, 0] S1x16x256.size (i k), P k⟩ : View.Piece (Elt F) S8x16x256 .f32) :: T')
      ((Rect.unit (s := S8x16x256) ![j.val, 4 * B.val + b.val, 0] S1x1x256.size (fun a => match a with
      | ⟨0, _⟩ => (by show j.val + 1 ≤ 8; omega) | ⟨1, _⟩ => (by show 4 * B.val + b.val + 1 ≤ 16; omega) | ⟨2, _⟩ => (by show 0 + 256 ≤ 256; omega))).toLoadRect.idx x) = View.canon T' _ := fun k T' hk =>
    canon_miss _ _ _ _ _ _ (0 : Fin 3) (Or.inl (by show j.val + 1 * (x 0).val < k.val; omega))
  unfold sfL
  dsimp only
  fin_cases j
  · exact (miss 7 _ (by decide)).trans ((miss 6 _ (by decide)).trans ((miss 5 _ (by decide)).trans ((miss 4 _ (by decide)).trans ((miss 3 _ (by decide)).trans ((miss 2 _ (by decide)).trans ((miss 1 _ (by decide)).trans (hit _)))))))
  · exact (miss 7 _ (by decide)).trans ((miss 6 _ (by decide)).trans ((miss 5 _ (by decide)).trans ((miss 4 _ (by decide)).trans ((miss 3 _ (by decide)).trans ((miss 2 _ (by decide)).trans (hit _))))))
  · exact (miss 7 _ (by decide)).trans ((miss 6 _ (by decide)).trans ((miss 5 _ (by decide)).trans ((miss 4 _ (by decide)).trans ((miss 3 _ (by decide)).trans (hit _)))))
  · exact (miss 7 _ (by decide)).trans ((miss 6 _ (by decide)).trans ((miss 5 _ (by decide)).trans ((miss 4 _ (by decide)).trans (hit _))))
  · exact (miss 7 _ (by decide)).trans ((miss 6 _ (by decide)).trans ((miss 5 _ (by decide)).trans (hit _)))
  · exact (miss 7 _ (by decide)).trans ((miss 6 _ (by decide)).trans (hit _))
  · exact (miss 7 _ (by decide)).trans (hit _)
  · exact hit _

theorem lhA_eq (M : Memref sig .tc .vmem S16x192x256 .bf16) (L : List (View.Piece (Elt F) S16x192x256 .bf16)) : lhA M L = lhF (View.canon L) := by
  funext B c
  unfold lhA; rw [View.readCov_eq_canon']
  exact funext fun i => congrArg (View.canon L) (funext fun a => match a with
    | ⟨0, _⟩ => Fin.ext (by have h0 : (i 0).val < 1 := (i 0).isLt; show 4 * B.val + c.val + 1 * (i 0).val = 4 * B.val + c.val; omega)
    | ⟨1, _⟩ => Fin.ext (by show 0 + 1 * (i 1).val = (i 1).val; omega)
    | ⟨2, _⟩ => Fin.ext (by show 0 + 1 * (i 2).val = (i 2).val; omega))
theorem lhB_eq (M : Memref sig .tc .vmem S16x192x256 .bf16) (hM : M.IsWhole) (x : Vec F S16x192x256 .bf16) : lhB M hM x = lhF x := by
  funext B c
  unfold lhB; rw [View.readAt_eq_ld, hM.read_unread]
  exact funext fun i => congrArg x (funext fun a => match a with
    | ⟨0, _⟩ => Fin.ext (by have h0 : (i 0).val < 1 := (i 0).isLt; show 4 * B.val + c.val + 1 * (i 0).val = 4 * B.val + c.val; omega)
    | ⟨1, _⟩ => Fin.ext (by show 0 + 1 * (i 1).val = (i 1).val; omega)
    | ⟨2, _⟩ => Fin.ext (by show 0 + 1 * (i 2).val = (i 2).val; omega))
theorem asA_eq (M : Memref sig .tc .vmem S16x24x256 .f32) (L : List (View.Piece (Elt F) S16x24x256 .f32)) : asA M L = asF (View.canon L) := by
  funext B c
  unfold asA; rw [View.readCov_eq_canon']
  exact funext fun i => congrArg (View.canon L) (funext fun a => match a with
    | ⟨0, _⟩ => Fin.ext (by have h0 : (i 0).val < 1 := (i 0).isLt; show 4 * B.val + c.val + 1 * (i 0).val = 4 * B.val + c.val; omega)
    | ⟨1, _⟩ => Fin.ext (by show 0 + 1 * (i 1).val = (i 1).val; omega)
    | ⟨2, _⟩ => Fin.ext (by show 0 + 1 * (i 2).val = (i 2).val; omega))
theorem asB_eq (M : Memref sig .tc .vmem S16x24x256 .f32) (hM : M.IsWhole) (x : Vec F S16x24x256 .f32) : asB M hM x = asF x := by
  funext B c
  unfold asB; rw [View.readAt_eq_ld, hM.read_unread]
  exact funext fun i => congrArg x (funext fun a => match a with
    | ⟨0, _⟩ => Fin.ext (by have h0 : (i 0).val < 1 := (i 0).isLt; show 4 * B.val + c.val + 1 * (i 0).val = 4 * B.val + c.val; omega)
    | ⟨1, _⟩ => Fin.ext (by show 0 + 1 * (i 1).val = (i 1).val; omega)
    | ⟨2, _⟩ => Fin.ext (by show 0 + 1 * (i 2).val = (i 2).val; omega))
theorem gA_eq (M : Memref sig .tc .vmem S24x768 .bf16) (L : List (View.Piece (Elt F) S24x768 .bf16)) : gA M L = View.canon L := by
  unfold gA; rw [View.readCov_eq_canon']
  exact funext fun i => congrArg (View.canon L) (funext fun a => match a with
    | ⟨0, _⟩ => Fin.ext (by show 0 + 1 * (i 0).val = (i 0).val; omega)
    | ⟨1, _⟩ => Fin.ext (by show 0 + 1 * (i 1).val = (i 1).val; omega))
theorem gB_eq (M : Memref sig .tc .vmem S24x768 .bf16) (hM : M.IsWhole) (x : Vec F S24x768 .bf16) : gB M hM x = x := by
  unfold gB; rw [View.readAt_eq_ld, hM.read_unread]
  exact funext fun i => congrArg x (funext fun a => match a with
    | ⟨0, _⟩ => Fin.ext (by show 0 + 1 * (i 0).val = (i 0).val; omega)
    | ⟨1, _⟩ => Fin.ext (by show 0 + 1 * (i 1).val = (i 1).val; omega))

/-- What a list of stores into the word scratch shows: the newest two are the words of one half each. -/
def TrOk (M3 : Memref sig .tc .vmem S512x16x128 .i8) (h3 : M3.IsWhole) (xq : Vec F S512x16x128 .i8) (sub : Fin 2) (B : Fin 4)
    (L : List (View.Piece (Elt F) S2x128x128 .i32)) : Prop :=
  ∃ i1 i0 T, L = (⟨Rect.unit (s := S2x128x128) ![1, 0, 0] S1x128x128.size i1, wordsV (qR M3 h3 xq sub B 1)⟩ : View.Piece (Elt F) S2x128x128 .i32) ::
    (⟨Rect.unit (s := S2x128x128) ![0, 0, 0] S1x128x128.size i0, wordsV (qR M3 h3 xq sub B 0)⟩ : View.Piece (Elt F) S2x128x128 .i32) :: T

theorem sfInb (j : Fin 8) : ∀ a, (![j.val, 0, 0] : Fin 3 → ℕ) a + S1x16x256.size a ≤ S8x16x256.size a := fun a => match a with
  | ⟨0, _⟩ => (by show j.val + 1 ≤ 8; omega) | ⟨1, _⟩ => (by show 0 + 16 ≤ 16; omega) | ⟨2, _⟩ => (by show 0 + 256 ≤ 256; omega)

theorem forall4 {p : Fin 4 → Prop} (h0 : p 0) (h1 : p 1) (h2 : p 2) (h3 : p 3) : ∀ B, p B := fun B => match B with
  | ⟨0, _⟩ => h0 | ⟨1, _⟩ => h1 | ⟨2, _⟩ => h2 | ⟨3, _⟩ => h3

theorem pair_eq {α : Type} (f : Fin 2 → α) : ![f 0, f 1] = f := funext (Fin.forall_fin_two.mpr ⟨rfl, rfl⟩)

theorem tileV_eq (G : Vec F S24x768 .bf16) (LL : Vec F S16x192x256 .bf16) (AA : Vec F S16x24x256 .f32)
    (M18 : Memref sig .tc .vmem S2x128x128 .i32) (M19 : Memref sig .tc .vmem S8x16x256 .f32) (M20 : Memref sig .tc .vmem S16x256 .f32)
    (M3 : Memref sig .tc .vmem S512x16x128 .i8) (h3 : M3.IsWhole) (M4 : Memref sig .tc .vmem S12x16x512 .i8) (h4 : M4.IsWhole)
    (M5 : Memref sig .tc .vmem S16x512 .i16) (h5 : M5.IsWhole) (M6 : Memref sig .tc .vmem S16x512 .i16) (h6 : M6.IsWhole)
    (xq : Vec F S512x16x128 .i8) (xs : Vec F S12x16x512 .i8) (xd xm : Vec F S16x512 .i16) (sub : Fin 2)
    (TL : Fin 4 → List (View.Piece (Elt F) S2x128x128 .i32)) (hT : ∀ B, TrOk M3 h3 xq sub B (TL B))
    (SL : List (View.Piece (Elt F) S8x16x256 .f32)) (hS : ∃ T, SL = sfL (scV (scR M4 h4 xs sub)) sfInb T)
    (DL : List (View.Piece (Elt F) S16x256 .f32)) (hD : ∃ i0 T, DL = (⟨Rect.unit (s := S16x256) ![0, 0] S16x256.size i0, shapeCast S16x256 (f16V (dmR M5 h5 xd sub)) shapeCasts_S16x256_S16x256⟩ : View.Piece (Elt F) S16x256 .f32) :: T) :
    tileV G (dmR M6 h6 xm sub) (scR M4 h4 xs sub) (trR M18 TL) (lhF LL) (sfR M19 SL) (dfR M20 DL) (asF AA) = tileC G LL AA xq xs xd xm sub := by
  have eT : trR M18 TL = trF xq sub := by
    funext B c h
    obtain ⟨i1, i0, T, e⟩ := hT B
    rw [trR_eq M18 _ _ _ T i1 i0 e TL B c rfl h, qR_eq, qR_eq]
    rw [show (![wordsV (qW xq sub B 0), wordsV (qW xq sub B 1)] : Fin 2 → IVec S1x128x128 32) = _ from pair_eq (fun h => wordsV (qW xq sub B h))]
    rfl
  have eS : sfR M19 SL = sfF xs sub := by
    obtain ⟨T, e⟩ := hS
    funext j B b
    rw [sfR_eq M19 _ sfInb T SL e, scR_eq]; rfl
  have eD : dfR M20 DL = dfF xd sub := by
    obtain ⟨i0, T, e⟩ := hD
    funext B b
    rw [dfR_eq M20 _ DL T i0 e, dmR_eq, shapeCast_self]; rfl
  rw [eT, eS, eD, dmR_eq, scR_eq]; rfl

/-- The activation tile of half a window. -/
def gluC (G : Vec F S24x768 .bf16) (LL : Vec F S16x192x256 .bf16) (AA : Vec F S16x24x256 .f32) (gq : Vec F S512x16x128 .i8)
    (gs : Vec F S12x16x512 .i8) (gd gm : Vec F S16x512 .i16) (uq : Vec F S512x16x128 .i8) (us : Vec F S12x16x512 .i8) (ud um : Vec F S16x512 .i16)
    (sub : Fin 2) : FVec F S24x256 .f32 :=
  glu (tileC G LL AA gq gs gd gm sub) (tileC G LL AA uq us ud um sub)

/-- Two tiles of codes side by side. -/
def codes12 (f : Fin 2 → Vec F S24x256 .i8) : Vec F S24x512 .i8 := fun y =>
  f (⟨(y 1).val / 256, by have h : (y 1).val < 512 := (y 1).isLt; omega⟩ : Fin 2) (ix2 (⟨(y 0).val, (y 0).isLt⟩ : Fin 24) (⟨(y 1).val % 256, by omega⟩ : Fin 256))

theorem canon12 (f : Fin 2 → Vec F S24x256 .i8) (i1 i0) :
    View.canon [(⟨Rect.unit (s := S24x512) ![0, 256] S24x256.size i1, f 1⟩ : View.Piece (Elt F) S24x512 .i8), (⟨Rect.unit (s := S24x512) ![0, 0] S24x256.size i0, f 0⟩ : View.Piece (Elt F) S24x512 .i8)] = codes12 f := by
  funext y
  have b : (y 1).val < 512 := (y 1).isLt
  unfold codes12
  rcases Nat.lt_or_ge (y 1).val 256 with h | h
  · rw [show (⟨(y 1).val / 256, by omega⟩ : Fin 2) = 0 from Fin.ext (by show (y 1).val / 256 = 0; omega)]
    refine (canon_miss _ _ _ _ _ _ (1 : Fin 2) (Or.inl h)).trans (canon_hit _ _ _ _ _ _ _ fun a => ?_)
    match a with
    | ⟨0, _⟩ => show (y 0).val = 0 + (y 0).val; omega
    | ⟨1, _⟩ => show (y 1).val = 0 + (y 1).val % 256; omega
  · rw [show (⟨(y 1).val / 256, by omega⟩ : Fin 2) = 1 from Fin.ext (by show (y 1).val / 256 = 1; omega)]
    refine canon_hit _ _ _ _ _ _ _ fun a => ?_
    match a with
    | ⟨0, _⟩ => show (y 0).val = 0 + (y 0).val; omega
    | ⟨1, _⟩ => show (y 1).val = 256 + (y 1).val % 256; omega

theorem canon13 (i0) (w : Vec F S24x56 .f32) (T : List (View.Piece (Elt F) S24x56 .f32)) :
    View.canon ((⟨Rect.unit (s := S24x56) ![0, 0] S24x56.size i0, w⟩ : View.Piece (Elt F) S24x56 .f32) :: T) = w :=
  View.canon_cons_unit_zero (S := S24x56) (off := ![0, 0]) (funext (by decide)) _ _ _

theorem readCov13 (M : Memref sig .tc .vmem S24x56 .f32) (i0 j0) (w : Vec F S24x56 .f32) (T : List (View.Piece (Elt F) S24x56 .f32)) :
    View.readCov M.view ((⟨Rect.unit (s := S24x56) ![0, 0] S24x56.size i0, w⟩ : View.Piece (Elt F) S24x56 .f32) :: T) (Rect.unit (s := S24x56) ![0, 0] S24x56.size j0).toLoadRect = w :=
  View.readCov_cons_toLoadRect M.view _ _ _

theorem readAt13 (M : Memref sig .tc .vmem S24x56 .f32) (hM : M.IsWhole) (j0) (x : Vec F S24x56 .f32) :
    View.readAt (Elt F) M.view (Rect.unit (s := S24x56) ![0, 0] S24x56.size j0).toLoadRect (hM.unread x) = x := by
  rw [View.readAt_eq_ld, hM.read_unread]
  exact View.ld_unit_zero (funext (by decide)) _ x

end Cert.KernelIdeal.Gen

end
-- ==== Proof.LinkA.lean ====
/- The found terms of case A, matched with the tile. -/
module

public import proofs.«01_k».proof.Proof.Leaf
public import proofs.«01_k».proof.Proof.RunA

@[expose] public section

set_option maxRecDepth 16384

noncomputable section

namespace Cert.KernelIdeal.Gen

open Idealize.ShloMosaic

variable {F : FTy → Type} [FloatOps F]

/-- The codes case A stores. -/
theorem linkA_12 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.1 =
      [⟨Rect.unit (s := S24x512) ![0, 256] S24x256.size inb_S24x512_S24x256_0_256, actC (glu (tileV (gA arg17 (kernelRun0_A.sl.HS2_6 c arg1 harg1 arg2 harg2 x0 x1)) (dmR arg6 harg6 x5 1) (scR arg4 harg4 x3 1) (trR arg18 (![kernelRun0_A.sl.HS3_18 c arg3 harg3 arg7 harg7 x2 x6, kernelRun0_A.sl.HS3_20 c arg3 harg3 arg7 harg7 x2 x6, kernelRun0_A.sl.HS3_22 c arg3 harg3 arg7 harg7 x2 x6, kernelRun0_A.sl.HS3_24 c arg3 harg3 arg7 harg7 x2 x6])) (lhA arg15 (kernelRun0_A.sl.HS0_16 c arg1 harg1 arg2 harg2 x0 x1)) (sfR arg19 (kernelRun0_A.sl.HS4_24 c arg4 harg4 arg8 harg8 x3 x7)) (dfR arg20 (kernelRun0_A.sl.HS5_3 c arg5 harg5 arg9 harg9 x4 x8)) (asA arg16 (kernelRun0_A.sl.HS1_16 c arg1 harg1 arg2 harg2 x0 x1))) (tileV (gA arg17 (kernelRun0_A.sl.HS2_6 c arg1 harg1 arg2 harg2 x0 x1)) (dmR arg10 harg10 x9 1) (scR arg8 harg8 x7 1) (trR arg18 (![kernelRun0_A.sl.HS3_26 c arg3 harg3 arg7 harg7 x2 x6, kernelRun0_A.sl.HS3_28 c arg3 harg3 arg7 harg7 x2 x6, kernelRun0_A.sl.HS3_30 c arg3 harg3 arg7 harg7 x2 x6, kernelRun0_A.sl.HS3_32 c arg3 harg3 arg7 harg7 x2 x6])) (lhA arg15 (kernelRun0_A.sl.HS0_16 c arg1 harg1 arg2 harg2 x0 x1)) (sfR arg19 (kernelRun0_A.sl.HS4_32 c arg4 harg4 arg8 harg8 x3 x7)) (dfR arg20 (kernelRun0_A.sl.HS5_4 c arg5 harg5 arg9 harg9 x4 x8)) (asA arg16 (kernelRun0_A.sl.HS1_16 c arg1 harg1 arg2 harg2 x0 x1))))⟩,
       ⟨Rect.unit (s := S24x512) ![0, 0] S24x256.size inb_S24x512_S24x256_0_0, actC (glu (tileV (gA arg17 (kernelRun0_A.sl.HS2_6 c arg1 harg1 arg2 harg2 x0 x1)) (dmR arg6 harg6 x5 0) (scR arg4 harg4 x3 0) (trR arg18 (![kernelRun0_A.sl.HS3_2 c arg3 harg3 x2, kernelRun0_A.sl.HS3_4 c arg3 harg3 x2, kernelRun0_A.sl.HS3_6 c arg3 harg3 x2, kernelRun0_A.sl.HS3_8 c arg3 harg3 x2])) (lhA arg15 (kernelRun0_A.sl.HS0_16 c arg1 harg1 arg2 harg2 x0 x1)) (sfR arg19 (kernelRun0_A.sl.HS4_8 c arg4 harg4 x3)) (dfR arg20 (kernelRun0_A.sl.HS5_1 c arg5 harg5 x4)) (asA arg16 (kernelRun0_A.sl.HS1_16 c arg1 harg1 arg2 harg2 x0 x1))) (tileV (gA arg17 (kernelRun0_A.sl.HS2_6 c arg1 harg1 arg2 harg2 x0 x1)) (dmR arg10 harg10 x9 0) (scR arg8 harg8 x7 0) (trR arg18 (![kernelRun0_A.sl.HS3_10 c arg3 harg3 arg7 harg7 x2 x6, kernelRun0_A.sl.HS3_12 c arg3 harg3 arg7 harg7 x2 x6, kernelRun0_A.sl.HS3_14 c arg3 harg3 arg7 harg7 x2 x6, kernelRun0_A.sl.HS3_16 c arg3 harg3 arg7 harg7 x2 x6])) (lhA arg15 (kernelRun0_A.sl.HS0_16 c arg1 harg1 arg2 harg2 x0 x1)) (sfR arg19 (kernelRun0_A.sl.HS4_16 c arg4 harg4 arg8 harg8 x3 x7)) (dfR arg20 (kernelRun0_A.sl.HS5_2 c arg5 harg5 arg9 harg9 x4 x8)) (asA arg16 (kernelRun0_A.sl.HS1_16 c arg1 harg1 arg2 harg2 x0 x1))))⟩] := rfl

/-- The scales case A stores. -/
theorem linkA_13 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.1 =
      ⟨Rect.unit (s := S24x56) ![0, 0] S24x56.size inb_S24x56_S24x56_0_0, colV (Scalar.addi (Scalar.muli (BitVec.ofNat 32 (i 0).val) 2#32) 1#32) (View.readCov arg14.view (⟨Rect.unit (s := S24x56) ![0, 0] S24x56.size inb_S24x56_S24x56_0_0, colV (Scalar.addi (Scalar.muli (BitVec.ofNat 32 (i 0).val) 2#32) 0#32) (View.readCov arg14.view [⟨Rect.unit (s := S24x56) ![0, 0] S24x56.size inb_S24x56_S24x56_0_0, broadcast S24x56 (Scalar.ofBits .f32 0x00000000#32)⟩] (Rect.unit (s := S24x56) ![0, 0] S24x56.size inb_S24x56_S24x56_0_0).toLoadRect) (actS (glu (tileV (gA arg17 (kernelRun0_A.sl.HS2_6 c arg1 harg1 arg2 harg2 x0 x1)) (dmR arg6 harg6 x5 0) (scR arg4 harg4 x3 0) (trR arg18 (![kernelRun0_A.sl.HS3_2 c arg3 harg3 x2, kernelRun0_A.sl.HS3_4 c arg3 harg3 x2, kernelRun0_A.sl.HS3_6 c arg3 harg3 x2, kernelRun0_A.sl.HS3_8 c arg3 harg3 x2])) (lhA arg15 (kernelRun0_A.sl.HS0_16 c arg1 harg1 arg2 harg2 x0 x1)) (sfR arg19 (kernelRun0_A.sl.HS4_8 c arg4 harg4 x3)) (dfR arg20 (kernelRun0_A.sl.HS5_1 c arg5 harg5 x4)) (asA arg16 (kernelRun0_A.sl.HS1_16 c arg1 harg1 arg2 harg2 x0 x1))) (tileV (gA arg17 (kernelRun0_A.sl.HS2_6 c arg1 harg1 arg2 harg2 x0 x1)) (dmR arg10 harg10 x9 0) (scR arg8 harg8 x7 0) (trR arg18 (![kernelRun0_A.sl.HS3_10 c arg3 harg3 arg7 harg7 x2 x6, kernelRun0_A.sl.HS3_12 c arg3 harg3 arg7 harg7 x2 x6, kernelRun0_A.sl.HS3_14 c arg3 harg3 arg7 harg7 x2 x6, kernelRun0_A.sl.HS3_16 c arg3 harg3 arg7 harg7 x2 x6])) (lhA arg15 (kernelRun0_A.sl.HS0_16 c arg1 harg1 arg2 harg2 x0 x1)) (sfR arg19 (kernelRun0_A.sl.HS4_16 c arg4 harg4 arg8 harg8 x3 x7)) (dfR arg20 (kernelRun0_A.sl.HS5_2 c arg5 harg5 arg9 harg9 x4 x8)) (asA arg16 (kernelRun0_A.sl.HS1_16 c arg1 harg1 arg2 harg2 x0 x1)))))⟩ :: [⟨Rect.unit (s := S24x56) ![0, 0] S24x56.size inb_S24x56_S24x56_0_0, broadcast S24x56 (Scalar.ofBits .f32 0x00000000#32)⟩]) (Rect.unit (s := S24x56) ![0, 0] S24x56.size inb_S24x56_S24x56_0_0).toLoadRect) (actS (glu (tileV (gA arg17 (kernelRun0_A.sl.HS2_6 c arg1 harg1 arg2 harg2 x0 x1)) (dmR arg6 harg6 x5 1) (scR arg4 harg4 x3 1) (trR arg18 (![kernelRun0_A.sl.HS3_18 c arg3 harg3 arg7 harg7 x2 x6, kernelRun0_A.sl.HS3_20 c arg3 harg3 arg7 harg7 x2 x6, kernelRun0_A.sl.HS3_22 c arg3 harg3 arg7 harg7 x2 x6, kernelRun0_A.sl.HS3_24 c arg3 harg3 arg7 harg7 x2 x6])) (lhA arg15 (kernelRun0_A.sl.HS0_16 c arg1 harg1 arg2 harg2 x0 x1)) (sfR arg19 (kernelRun0_A.sl.HS4_24 c arg4 harg4 arg8 harg8 x3 x7)) (dfR arg20 (kernelRun0_A.sl.HS5_3 c arg5 harg5 arg9 harg9 x4 x8)) (asA arg16 (kernelRun0_A.sl.HS1_16 c arg1 harg1 arg2 harg2 x0 x1))) (tileV (gA arg17 (kernelRun0_A.sl.HS2_6 c arg1 harg1 arg2 harg2 x0 x1)) (dmR arg10 harg10 x9 1) (scR arg8 harg8 x7 1) (trR arg18 (![kernelRun0_A.sl.HS3_26 c arg3 harg3 arg7 harg7 x2 x6, kernelRun0_A.sl.HS3_28 c arg3 harg3 arg7 harg7 x2 x6, kernelRun0_A.sl.HS3_30 c arg3 harg3 arg7 harg7 x2 x6, kernelRun0_A.sl.HS3_32 c arg3 harg3 arg7 harg7 x2 x6])) (lhA arg15 (kernelRun0_A.sl.HS0_16 c arg1 harg1 arg2 harg2 x0 x1)) (sfR arg19 (kernelRun0_A.sl.HS4_32 c arg4 harg4 arg8 harg8 x3 x7)) (dfR arg20 (kernelRun0_A.sl.HS5_4 c arg5 harg5 arg9 harg9 x4 x8)) (asA arg16 (kernelRun0_A.sl.HS1_16 c arg1 harg1 arg2 harg2 x0 x1)))))⟩ :: (⟨Rect.unit (s := S24x56) ![0, 0] S24x56.size inb_S24x56_S24x56_0_0, colV (Scalar.addi (Scalar.muli (BitVec.ofNat 32 (i 0).val) 2#32) 0#32) (View.readCov arg14.view [⟨Rect.unit (s := S24x56) ![0, 0] S24x56.size inb_S24x56_S24x56_0_0, broadcast S24x56 (Scalar.ofBits .f32 0x00000000#32)⟩] (Rect.unit (s := S24x56) ![0, 0] S24x56.size inb_S24x56_S24x56_0_0).toLoadRect) (actS (glu (tileV (gA arg17 (kernelRun0_A.sl.HS2_6 c arg1 harg1 arg2 harg2 x0 x1)) (dmR arg6 harg6 x5 0) (scR arg4 harg4 x3 0) (trR arg18 (![kernelRun0_A.sl.HS3_2 c arg3 harg3 x2, kernelRun0_A.sl.HS3_4 c arg3 harg3 x2, kernelRun0_A.sl.HS3_6 c arg3 harg3 x2, kernelRun0_A.sl.HS3_8 c arg3 harg3 x2])) (lhA arg15 (kernelRun0_A.sl.HS0_16 c arg1 harg1 arg2 harg2 x0 x1)) (sfR arg19 (kernelRun0_A.sl.HS4_8 c arg4 harg4 x3)) (dfR arg20 (kernelRun0_A.sl.HS5_1 c arg5 harg5 x4)) (asA arg16 (kernelRun0_A.sl.HS1_16 c arg1 harg1 arg2 harg2 x0 x1))) (tileV (gA arg17 (kernelRun0_A.sl.HS2_6 c arg1 harg1 arg2 harg2 x0 x1)) (dmR arg10 harg10 x9 0) (scR arg8 harg8 x7 0) (trR arg18 (![kernelRun0_A.sl.HS3_10 c arg3 harg3 arg7 harg7 x2 x6, kernelRun0_A.sl.HS3_12 c arg3 harg3 arg7 harg7 x2 x6, kernelRun0_A.sl.HS3_14 c arg3 harg3 arg7 harg7 x2 x6, kernelRun0_A.sl.HS3_16 c arg3 harg3 arg7 harg7 x2 x6])) (lhA arg15 (kernelRun0_A.sl.HS0_16 c arg1 harg1 arg2 harg2 x0 x1)) (sfR arg19 (kernelRun0_A.sl.HS4_16 c arg4 harg4 arg8 harg8 x3 x7)) (dfR arg20 (kernelRun0_A.sl.HS5_2 c arg5 harg5 arg9 harg9 x4 x8)) (asA arg16 (kernelRun0_A.sl.HS1_16 c arg1 harg1 arg2 harg2 x0 x1)))))⟩ :: [⟨Rect.unit (s := S24x56) ![0, 0] S24x56.size inb_S24x56_S24x56_0_0, broadcast S24x56 (Scalar.ofBits .f32 0x00000000#32)⟩]) := rfl

end Cert.KernelIdeal.Gen

end
-- ==== Proof.BodyA.lean ====
/- What the body leaves, case A. -/
module

public import proofs.«01_k».proof.Proof.Close
public import proofs.«01_k».proof.Proof.LinkA

@[expose] public section

set_option maxRecDepth 16384

noncomputable section

namespace Cert.KernelIdeal.Gen

open Idealize.ShloMosaic

variable {F : FTy → Type} [FloatOps F]

theorem soutA_0_canon (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) :
    View.canon (kernelRun0_A.sl.HS0_16 c arg1 harg1 arg2 harg2 x0 x1) = sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 := by
  unfold sout0_A_0
  rw [View.read_writes_junk_eq_canon]
  rfl

theorem soutA_1_canon (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) :
    View.canon (kernelRun0_A.sl.HS1_16 c arg1 harg1 arg2 harg2 x0 x1) = sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 := by
  unfold sout0_A_1
  rw [View.read_writes_junk_eq_canon]
  rfl

theorem soutA_2_canon (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) :
    View.canon (kernelRun0_A.sl.HS2_6 c arg1 harg1 arg2 harg2 x0 x1) = sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 := by
  unfold sout0_A_2
  rw [View.read_writes_junk_eq_canon]
  rfl

theorem tileA_0 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) :
    (tileV (gA arg17 (kernelRun0_A.sl.HS2_6 c arg1 harg1 arg2 harg2 x0 x1)) (dmR arg6 harg6 x5 0) (scR arg4 harg4 x3 0) (trR arg18 (![kernelRun0_A.sl.HS3_2 c arg3 harg3 x2, kernelRun0_A.sl.HS3_4 c arg3 harg3 x2, kernelRun0_A.sl.HS3_6 c arg3 harg3 x2, kernelRun0_A.sl.HS3_8 c arg3 harg3 x2])) (lhA arg15 (kernelRun0_A.sl.HS0_16 c arg1 harg1 arg2 harg2 x0 x1)) (sfR arg19 (kernelRun0_A.sl.HS4_8 c arg4 harg4 x3)) (dfR arg20 (kernelRun0_A.sl.HS5_1 c arg5 harg5 x4)) (asA arg16 (kernelRun0_A.sl.HS1_16 c arg1 harg1 arg2 harg2 x0 x1))) = tileC (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) x2 x3 x4 x5 0 := by
  rw [gA_eq, lhA_eq, asA_eq, soutA_0_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9, soutA_1_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9, soutA_2_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9]
  exact tileV_eq _ _ _ arg18 arg19 arg20 arg3 harg3 arg4 harg4 arg5 harg5 arg6 harg6 x2 x3 x4 x5 0 _ (forall4 ⟨_, _, _, rfl⟩ ⟨_, _, _, rfl⟩ ⟨_, _, _, rfl⟩ ⟨_, _, _, rfl⟩) _ ⟨[], rfl⟩ _ ⟨_, _, rfl⟩

theorem tileA_1 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) :
    (tileV (gA arg17 (kernelRun0_A.sl.HS2_6 c arg1 harg1 arg2 harg2 x0 x1)) (dmR arg10 harg10 x9 0) (scR arg8 harg8 x7 0) (trR arg18 (![kernelRun0_A.sl.HS3_10 c arg3 harg3 arg7 harg7 x2 x6, kernelRun0_A.sl.HS3_12 c arg3 harg3 arg7 harg7 x2 x6, kernelRun0_A.sl.HS3_14 c arg3 harg3 arg7 harg7 x2 x6, kernelRun0_A.sl.HS3_16 c arg3 harg3 arg7 harg7 x2 x6])) (lhA arg15 (kernelRun0_A.sl.HS0_16 c arg1 harg1 arg2 harg2 x0 x1)) (sfR arg19 (kernelRun0_A.sl.HS4_16 c arg4 harg4 arg8 harg8 x3 x7)) (dfR arg20 (kernelRun0_A.sl.HS5_2 c arg5 harg5 arg9 harg9 x4 x8)) (asA arg16 (kernelRun0_A.sl.HS1_16 c arg1 harg1 arg2 harg2 x0 x1))) = tileC (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) x6 x7 x8 x9 0 := by
  rw [gA_eq, lhA_eq, asA_eq, soutA_0_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9, soutA_1_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9, soutA_2_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9]
  exact tileV_eq _ _ _ arg18 arg19 arg20 arg7 harg7 arg8 harg8 arg9 harg9 arg10 harg10 x6 x7 x8 x9 0 _ (forall4 ⟨_, _, _, rfl⟩ ⟨_, _, _, rfl⟩ ⟨_, _, _, rfl⟩ ⟨_, _, _, rfl⟩) _ ⟨(kernelRun0_A.sl.HS4_8 c arg4 harg4 x3), rfl⟩ _ ⟨_, _, rfl⟩

theorem tileA_2 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) :
    (tileV (gA arg17 (kernelRun0_A.sl.HS2_6 c arg1 harg1 arg2 harg2 x0 x1)) (dmR arg6 harg6 x5 1) (scR arg4 harg4 x3 1) (trR arg18 (![kernelRun0_A.sl.HS3_18 c arg3 harg3 arg7 harg7 x2 x6, kernelRun0_A.sl.HS3_20 c arg3 harg3 arg7 harg7 x2 x6, kernelRun0_A.sl.HS3_22 c arg3 harg3 arg7 harg7 x2 x6, kernelRun0_A.sl.HS3_24 c arg3 harg3 arg7 harg7 x2 x6])) (lhA arg15 (kernelRun0_A.sl.HS0_16 c arg1 harg1 arg2 harg2 x0 x1)) (sfR arg19 (kernelRun0_A.sl.HS4_24 c arg4 harg4 arg8 harg8 x3 x7)) (dfR arg20 (kernelRun0_A.sl.HS5_3 c arg5 harg5 arg9 harg9 x4 x8)) (asA arg16 (kernelRun0_A.sl.HS1_16 c arg1 harg1 arg2 harg2 x0 x1))) = tileC (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) x2 x3 x4 x5 1 := by
  rw [gA_eq, lhA_eq, asA_eq, soutA_0_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9, soutA_1_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9, soutA_2_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9]
  exact tileV_eq _ _ _ arg18 arg19 arg20 arg3 harg3 arg4 harg4 arg5 harg5 arg6 harg6 x2 x3 x4 x5 1 _ (forall4 ⟨_, _, _, rfl⟩ ⟨_, _, _, rfl⟩ ⟨_, _, _, rfl⟩ ⟨_, _, _, rfl⟩) _ ⟨(kernelRun0_A.sl.HS4_16 c arg4 harg4 arg8 harg8 x3 x7), rfl⟩ _ ⟨_, _, rfl⟩

theorem tileA_3 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) :
    (tileV (gA arg17 (kernelRun0_A.sl.HS2_6 c arg1 harg1 arg2 harg2 x0 x1)) (dmR arg10 harg10 x9 1) (scR arg8 harg8 x7 1) (trR arg18 (![kernelRun0_A.sl.HS3_26 c arg3 harg3 arg7 harg7 x2 x6, kernelRun0_A.sl.HS3_28 c arg3 harg3 arg7 harg7 x2 x6, kernelRun0_A.sl.HS3_30 c arg3 harg3 arg7 harg7 x2 x6, kernelRun0_A.sl.HS3_32 c arg3 harg3 arg7 harg7 x2 x6])) (lhA arg15 (kernelRun0_A.sl.HS0_16 c arg1 harg1 arg2 harg2 x0 x1)) (sfR arg19 (kernelRun0_A.sl.HS4_32 c arg4 harg4 arg8 harg8 x3 x7)) (dfR arg20 (kernelRun0_A.sl.HS5_4 c arg5 harg5 arg9 harg9 x4 x8)) (asA arg16 (kernelRun0_A.sl.HS1_16 c arg1 harg1 arg2 harg2 x0 x1))) = tileC (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) x6 x7 x8 x9 1 := by
  rw [gA_eq, lhA_eq, asA_eq, soutA_0_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9, soutA_1_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9, soutA_2_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9]
  exact tileV_eq _ _ _ arg18 arg19 arg20 arg7 harg7 arg8 harg8 arg9 harg9 arg10 harg10 x6 x7 x8 x9 1 _ (forall4 ⟨_, _, _, rfl⟩ ⟨_, _, _, rfl⟩ ⟨_, _, _, rfl⟩ ⟨_, _, _, rfl⟩) _ ⟨(kernelRun0_A.sl.HS4_24 c arg4 harg4 arg8 harg8 x3 x7), rfl⟩ _ ⟨_, _, rfl⟩

/-- Case A leaves the codes of the two activation tiles. -/
theorem outA_12 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = codes12 (fun sub => actC (gluC (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) x2 x3 x4 x5 x6 x7 x8 x9  sub)) := by
  unfold out0_A_12
  rw [View.read_writes_junk_eq_canon, linkA_12, tileA_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9, tileA_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9, tileA_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9, tileA_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9]
  exact canon12 (fun sub => actC (gluC (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) x2 x3 x4 x5 x6 x7 x8 x9  sub)) _ _

/-- Case A replaces the two tiles' scale columns. -/
theorem outA_13 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = colV (Scalar.addi (Scalar.muli (BitVec.ofNat 32 (i 0).val) 2#32) 1#32) (colV (Scalar.addi (Scalar.muli (BitVec.ofNat 32 (i 0).val) 2#32) 0#32) (broadcast S24x56 (Scalar.ofBits .f32 0x00000000#32)) (actS (gluC (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) x2 x3 x4 x5 x6 x7 x8 x9  0))) (actS (gluC (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9) x2 x3 x4 x5 x6 x7 x8 x9  1)) := by
  unfold out0_A_13
  rw [View.read_writes_junk_eq_canon, linkA_13, tileA_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9, tileA_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9, tileA_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9, tileA_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9]
  refine (canon13 _ _ _).trans ?_
  rw [readCov13, readCov13]
  rfl

end Cert.KernelIdeal.Gen

end
-- ==== Proof.LinkB.lean ====
/- The found terms of case B, matched with the tile. -/
module

public import proofs.«01_k».proof.Proof.Leaf
public import proofs.«01_k».proof.Proof.RunB

@[expose] public section

set_option maxRecDepth 16384

noncomputable section

namespace Cert.KernelIdeal.Gen

open Idealize.ShloMosaic

variable {F : FTy → Type} [FloatOps F]

/-- The codes case B stores. -/
theorem linkB_12 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2).2.2.1 =
      [⟨Rect.unit (s := S24x512) ![0, 256] S24x256.size inb_S24x512_S24x256_0_256, actC (glu (tileV (gB arg17 harg17 xs2) (dmR arg6 harg6 x5 1) (scR arg4 harg4 x3 1) (trR arg18 (![kernelRun0_B.sl.HS3_18 c arg3 harg3 arg7 harg7 x2 x6, kernelRun0_B.sl.HS3_20 c arg3 harg3 arg7 harg7 x2 x6, kernelRun0_B.sl.HS3_22 c arg3 harg3 arg7 harg7 x2 x6, kernelRun0_B.sl.HS3_24 c arg3 harg3 arg7 harg7 x2 x6])) (lhB arg15 harg15 xs0) (sfR arg19 (kernelRun0_B.sl.HS4_24 c arg4 harg4 arg8 harg8 x3 x7)) (dfR arg20 (kernelRun0_B.sl.HS5_3 c arg5 harg5 arg9 harg9 x4 x8)) (asB arg16 harg16 xs1)) (tileV (gB arg17 harg17 xs2) (dmR arg10 harg10 x9 1) (scR arg8 harg8 x7 1) (trR arg18 (![kernelRun0_B.sl.HS3_26 c arg3 harg3 arg7 harg7 x2 x6, kernelRun0_B.sl.HS3_28 c arg3 harg3 arg7 harg7 x2 x6, kernelRun0_B.sl.HS3_30 c arg3 harg3 arg7 harg7 x2 x6, kernelRun0_B.sl.HS3_32 c arg3 harg3 arg7 harg7 x2 x6])) (lhB arg15 harg15 xs0) (sfR arg19 (kernelRun0_B.sl.HS4_32 c arg4 harg4 arg8 harg8 x3 x7)) (dfR arg20 (kernelRun0_B.sl.HS5_4 c arg5 harg5 arg9 harg9 x4 x8)) (asB arg16 harg16 xs1)))⟩,
       ⟨Rect.unit (s := S24x512) ![0, 0] S24x256.size inb_S24x512_S24x256_0_0, actC (glu (tileV (gB arg17 harg17 xs2) (dmR arg6 harg6 x5 0) (scR arg4 harg4 x3 0) (trR arg18 (![kernelRun0_B.sl.HS3_2 c arg3 harg3 x2, kernelRun0_B.sl.HS3_4 c arg3 harg3 x2, kernelRun0_B.sl.HS3_6 c arg3 harg3 x2, kernelRun0_B.sl.HS3_8 c arg3 harg3 x2])) (lhB arg15 harg15 xs0) (sfR arg19 (kernelRun0_B.sl.HS4_8 c arg4 harg4 x3)) (dfR arg20 (kernelRun0_B.sl.HS5_1 c arg5 harg5 x4)) (asB arg16 harg16 xs1)) (tileV (gB arg17 harg17 xs2) (dmR arg10 harg10 x9 0) (scR arg8 harg8 x7 0) (trR arg18 (![kernelRun0_B.sl.HS3_10 c arg3 harg3 arg7 harg7 x2 x6, kernelRun0_B.sl.HS3_12 c arg3 harg3 arg7 harg7 x2 x6, kernelRun0_B.sl.HS3_14 c arg3 harg3 arg7 harg7 x2 x6, kernelRun0_B.sl.HS3_16 c arg3 harg3 arg7 harg7 x2 x6])) (lhB arg15 harg15 xs0) (sfR arg19 (kernelRun0_B.sl.HS4_16 c arg4 harg4 arg8 harg8 x3 x7)) (dfR arg20 (kernelRun0_B.sl.HS5_2 c arg5 harg5 arg9 harg9 x4 x8)) (asB arg16 harg16 xs1)))⟩] := rfl

/-- The scales case B stores. -/
theorem linkB_13 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2).2.2.2.1 =
      ⟨Rect.unit (s := S24x56) ![0, 0] S24x56.size inb_S24x56_S24x56_0_0, colV (Scalar.addi (Scalar.muli (BitVec.ofNat 32 (i 0).val) 2#32) 1#32) (View.readCov arg14.view (⟨Rect.unit (s := S24x56) ![0, 0] S24x56.size inb_S24x56_S24x56_0_0, colV (Scalar.addi (Scalar.muli (BitVec.ofNat 32 (i 0).val) 2#32) 0#32) (View.readAt (Elt F) arg14.view (Rect.unit (s := S24x56) ![0, 0] S24x56.size inb_S24x56_S24x56_0_0).toLoadRect (harg14.unread xo13)) (actS (glu (tileV (gB arg17 harg17 xs2) (dmR arg6 harg6 x5 0) (scR arg4 harg4 x3 0) (trR arg18 (![kernelRun0_B.sl.HS3_2 c arg3 harg3 x2, kernelRun0_B.sl.HS3_4 c arg3 harg3 x2, kernelRun0_B.sl.HS3_6 c arg3 harg3 x2, kernelRun0_B.sl.HS3_8 c arg3 harg3 x2])) (lhB arg15 harg15 xs0) (sfR arg19 (kernelRun0_B.sl.HS4_8 c arg4 harg4 x3)) (dfR arg20 (kernelRun0_B.sl.HS5_1 c arg5 harg5 x4)) (asB arg16 harg16 xs1)) (tileV (gB arg17 harg17 xs2) (dmR arg10 harg10 x9 0) (scR arg8 harg8 x7 0) (trR arg18 (![kernelRun0_B.sl.HS3_10 c arg3 harg3 arg7 harg7 x2 x6, kernelRun0_B.sl.HS3_12 c arg3 harg3 arg7 harg7 x2 x6, kernelRun0_B.sl.HS3_14 c arg3 harg3 arg7 harg7 x2 x6, kernelRun0_B.sl.HS3_16 c arg3 harg3 arg7 harg7 x2 x6])) (lhB arg15 harg15 xs0) (sfR arg19 (kernelRun0_B.sl.HS4_16 c arg4 harg4 arg8 harg8 x3 x7)) (dfR arg20 (kernelRun0_B.sl.HS5_2 c arg5 harg5 arg9 harg9 x4 x8)) (asB arg16 harg16 xs1))))⟩ :: []) (Rect.unit (s := S24x56) ![0, 0] S24x56.size inb_S24x56_S24x56_0_0).toLoadRect) (actS (glu (tileV (gB arg17 harg17 xs2) (dmR arg6 harg6 x5 1) (scR arg4 harg4 x3 1) (trR arg18 (![kernelRun0_B.sl.HS3_18 c arg3 harg3 arg7 harg7 x2 x6, kernelRun0_B.sl.HS3_20 c arg3 harg3 arg7 harg7 x2 x6, kernelRun0_B.sl.HS3_22 c arg3 harg3 arg7 harg7 x2 x6, kernelRun0_B.sl.HS3_24 c arg3 harg3 arg7 harg7 x2 x6])) (lhB arg15 harg15 xs0) (sfR arg19 (kernelRun0_B.sl.HS4_24 c arg4 harg4 arg8 harg8 x3 x7)) (dfR arg20 (kernelRun0_B.sl.HS5_3 c arg5 harg5 arg9 harg9 x4 x8)) (asB arg16 harg16 xs1)) (tileV (gB arg17 harg17 xs2) (dmR arg10 harg10 x9 1) (scR arg8 harg8 x7 1) (trR arg18 (![kernelRun0_B.sl.HS3_26 c arg3 harg3 arg7 harg7 x2 x6, kernelRun0_B.sl.HS3_28 c arg3 harg3 arg7 harg7 x2 x6, kernelRun0_B.sl.HS3_30 c arg3 harg3 arg7 harg7 x2 x6, kernelRun0_B.sl.HS3_32 c arg3 harg3 arg7 harg7 x2 x6])) (lhB arg15 harg15 xs0) (sfR arg19 (kernelRun0_B.sl.HS4_32 c arg4 harg4 arg8 harg8 x3 x7)) (dfR arg20 (kernelRun0_B.sl.HS5_4 c arg5 harg5 arg9 harg9 x4 x8)) (asB arg16 harg16 xs1))))⟩ :: (⟨Rect.unit (s := S24x56) ![0, 0] S24x56.size inb_S24x56_S24x56_0_0, colV (Scalar.addi (Scalar.muli (BitVec.ofNat 32 (i 0).val) 2#32) 0#32) (View.readAt (Elt F) arg14.view (Rect.unit (s := S24x56) ![0, 0] S24x56.size inb_S24x56_S24x56_0_0).toLoadRect (harg14.unread xo13)) (actS (glu (tileV (gB arg17 harg17 xs2) (dmR arg6 harg6 x5 0) (scR arg4 harg4 x3 0) (trR arg18 (![kernelRun0_B.sl.HS3_2 c arg3 harg3 x2, kernelRun0_B.sl.HS3_4 c arg3 harg3 x2, kernelRun0_B.sl.HS3_6 c arg3 harg3 x2, kernelRun0_B.sl.HS3_8 c arg3 harg3 x2])) (lhB arg15 harg15 xs0) (sfR arg19 (kernelRun0_B.sl.HS4_8 c arg4 harg4 x3)) (dfR arg20 (kernelRun0_B.sl.HS5_1 c arg5 harg5 x4)) (asB arg16 harg16 xs1)) (tileV (gB arg17 harg17 xs2) (dmR arg10 harg10 x9 0) (scR arg8 harg8 x7 0) (trR arg18 (![kernelRun0_B.sl.HS3_10 c arg3 harg3 arg7 harg7 x2 x6, kernelRun0_B.sl.HS3_12 c arg3 harg3 arg7 harg7 x2 x6, kernelRun0_B.sl.HS3_14 c arg3 harg3 arg7 harg7 x2 x6, kernelRun0_B.sl.HS3_16 c arg3 harg3 arg7 harg7 x2 x6])) (lhB arg15 harg15 xs0) (sfR arg19 (kernelRun0_B.sl.HS4_16 c arg4 harg4 arg8 harg8 x3 x7)) (dfR arg20 (kernelRun0_B.sl.HS5_2 c arg5 harg5 arg9 harg9 x4 x8)) (asB arg16 harg16 xs1))))⟩ :: []) := rfl

end Cert.KernelIdeal.Gen

end
-- ==== Proof.BodyB.lean ====
/- What the body leaves, case B. -/
module

public import proofs.«01_k».proof.Proof.Close
public import proofs.«01_k».proof.Proof.LinkB

@[expose] public section

set_option maxRecDepth 16384

noncomputable section

namespace Cert.KernelIdeal.Gen

open Idealize.ShloMosaic

variable {F : FTy → Type} [FloatOps F]

theorem tileB_0 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) :
    (tileV (gB arg17 harg17 xs2) (dmR arg6 harg6 x5 0) (scR arg4 harg4 x3 0) (trR arg18 (![kernelRun0_B.sl.HS3_2 c arg3 harg3 x2, kernelRun0_B.sl.HS3_4 c arg3 harg3 x2, kernelRun0_B.sl.HS3_6 c arg3 harg3 x2, kernelRun0_B.sl.HS3_8 c arg3 harg3 x2])) (lhB arg15 harg15 xs0) (sfR arg19 (kernelRun0_B.sl.HS4_8 c arg4 harg4 x3)) (dfR arg20 (kernelRun0_B.sl.HS5_1 c arg5 harg5 x4)) (asB arg16 harg16 xs1)) = tileC xs2 xs0 xs1 x2 x3 x4 x5 0 := by
  rw [gB_eq, lhB_eq, asB_eq]
  exact tileV_eq _ _ _ arg18 arg19 arg20 arg3 harg3 arg4 harg4 arg5 harg5 arg6 harg6 x2 x3 x4 x5 0 _ (forall4 ⟨_, _, _, rfl⟩ ⟨_, _, _, rfl⟩ ⟨_, _, _, rfl⟩ ⟨_, _, _, rfl⟩) _ ⟨[], rfl⟩ _ ⟨_, _, rfl⟩

theorem tileB_1 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) :
    (tileV (gB arg17 harg17 xs2) (dmR arg10 harg10 x9 0) (scR arg8 harg8 x7 0) (trR arg18 (![kernelRun0_B.sl.HS3_10 c arg3 harg3 arg7 harg7 x2 x6, kernelRun0_B.sl.HS3_12 c arg3 harg3 arg7 harg7 x2 x6, kernelRun0_B.sl.HS3_14 c arg3 harg3 arg7 harg7 x2 x6, kernelRun0_B.sl.HS3_16 c arg3 harg3 arg7 harg7 x2 x6])) (lhB arg15 harg15 xs0) (sfR arg19 (kernelRun0_B.sl.HS4_16 c arg4 harg4 arg8 harg8 x3 x7)) (dfR arg20 (kernelRun0_B.sl.HS5_2 c arg5 harg5 arg9 harg9 x4 x8)) (asB arg16 harg16 xs1)) = tileC xs2 xs0 xs1 x6 x7 x8 x9 0 := by
  rw [gB_eq, lhB_eq, asB_eq]
  exact tileV_eq _ _ _ arg18 arg19 arg20 arg7 harg7 arg8 harg8 arg9 harg9 arg10 harg10 x6 x7 x8 x9 0 _ (forall4 ⟨_, _, _, rfl⟩ ⟨_, _, _, rfl⟩ ⟨_, _, _, rfl⟩ ⟨_, _, _, rfl⟩) _ ⟨(kernelRun0_B.sl.HS4_8 c arg4 harg4 x3), rfl⟩ _ ⟨_, _, rfl⟩

theorem tileB_2 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) :
    (tileV (gB arg17 harg17 xs2) (dmR arg6 harg6 x5 1) (scR arg4 harg4 x3 1) (trR arg18 (![kernelRun0_B.sl.HS3_18 c arg3 harg3 arg7 harg7 x2 x6, kernelRun0_B.sl.HS3_20 c arg3 harg3 arg7 harg7 x2 x6, kernelRun0_B.sl.HS3_22 c arg3 harg3 arg7 harg7 x2 x6, kernelRun0_B.sl.HS3_24 c arg3 harg3 arg7 harg7 x2 x6])) (lhB arg15 harg15 xs0) (sfR arg19 (kernelRun0_B.sl.HS4_24 c arg4 harg4 arg8 harg8 x3 x7)) (dfR arg20 (kernelRun0_B.sl.HS5_3 c arg5 harg5 arg9 harg9 x4 x8)) (asB arg16 harg16 xs1)) = tileC xs2 xs0 xs1 x2 x3 x4 x5 1 := by
  rw [gB_eq, lhB_eq, asB_eq]
  exact tileV_eq _ _ _ arg18 arg19 arg20 arg3 harg3 arg4 harg4 arg5 harg5 arg6 harg6 x2 x3 x4 x5 1 _ (forall4 ⟨_, _, _, rfl⟩ ⟨_, _, _, rfl⟩ ⟨_, _, _, rfl⟩ ⟨_, _, _, rfl⟩) _ ⟨(kernelRun0_B.sl.HS4_16 c arg4 harg4 arg8 harg8 x3 x7), rfl⟩ _ ⟨_, _, rfl⟩

theorem tileB_3 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) :
    (tileV (gB arg17 harg17 xs2) (dmR arg10 harg10 x9 1) (scR arg8 harg8 x7 1) (trR arg18 (![kernelRun0_B.sl.HS3_26 c arg3 harg3 arg7 harg7 x2 x6, kernelRun0_B.sl.HS3_28 c arg3 harg3 arg7 harg7 x2 x6, kernelRun0_B.sl.HS3_30 c arg3 harg3 arg7 harg7 x2 x6, kernelRun0_B.sl.HS3_32 c arg3 harg3 arg7 harg7 x2 x6])) (lhB arg15 harg15 xs0) (sfR arg19 (kernelRun0_B.sl.HS4_32 c arg4 harg4 arg8 harg8 x3 x7)) (dfR arg20 (kernelRun0_B.sl.HS5_4 c arg5 harg5 arg9 harg9 x4 x8)) (asB arg16 harg16 xs1)) = tileC xs2 xs0 xs1 x6 x7 x8 x9 1 := by
  rw [gB_eq, lhB_eq, asB_eq]
  exact tileV_eq _ _ _ arg18 arg19 arg20 arg7 harg7 arg8 harg8 arg9 harg9 arg10 harg10 x6 x7 x8 x9 1 _ (forall4 ⟨_, _, _, rfl⟩ ⟨_, _, _, rfl⟩ ⟨_, _, _, rfl⟩ ⟨_, _, _, rfl⟩) _ ⟨(kernelRun0_B.sl.HS4_24 c arg4 harg4 arg8 harg8 x3 x7), rfl⟩ _ ⟨_, _, rfl⟩

/-- Case B leaves the codes of the two activation tiles. -/
theorem outB_12 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2 = codes12 (fun sub => actC (gluC xs2 xs0 xs1 x2 x3 x4 x5 x6 x7 x8 x9  sub)) := by
  unfold out0_B_12
  rw [View.read_writes_junk_eq_canon, linkB_12, tileB_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2, tileB_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2, tileB_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2, tileB_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2]
  exact canon12 (fun sub => actC (gluC xs2 xs0 xs1 x2 x3 x4 x5 x6 x7 x8 x9  sub)) _ _

/-- Case B replaces the two tiles' scale columns. -/
theorem outB_13 (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) (xo10 : Vec F S24x4096 .i8) (xo11 : Vec F S24x16 .f32) (xo13 : Vec F S24x56 .f32) (xs0 : Vec F S16x192x256 .bf16) (xs1 : Vec F S16x24x256 .f32) (xs2 : Vec F S24x768 .bf16) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2 = colV (Scalar.addi (Scalar.muli (BitVec.ofNat 32 (i 0).val) 2#32) 1#32) (colV (Scalar.addi (Scalar.muli (BitVec.ofNat 32 (i 0).val) 2#32) 0#32) xo13 (actS (gluC xs2 xs0 xs1 x2 x3 x4 x5 x6 x7 x8 x9  0))) (actS (gluC xs2 xs0 xs1 x2 x3 x4 x5 x6 x7 x8 x9  1)) := by
  unfold out0_B_13
  rw [View.read_writes_junk_eq_canon, linkB_13, tileB_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2, tileB_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2, tileB_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2, tileB_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xo10 xo11 xo13 xs0 xs1 xs2]
  refine (canon13 _ _ _).trans ?_
  rw [readCov13, readAt13]
  rfl

end Cert.KernelIdeal.Gen

end
-- ==== Proof.Scratch.lean ====
/- The kept scratches the first grid point fills, written once over the normed row. -/
module

public import proofs.«01_k».proof.Proof.RunA
public import proofs.«01_k».proof.Proof.Quant

@[expose] public section

set_option maxRecDepth 16384

noncomputable section

namespace Cert.KernelIdeal.Gen

open Idealize.ShloMosaic

variable {F : FTy → Type} [FloatOps F]

theorem blk_slices (j : Fin 16) : S24x4096.Slices ![0, 256 * j.val] S24x256 :=
  ⟨rfl, fun a => match a with | ⟨0, _⟩ => (by show 0 + 24 ≤ 24; omega) | ⟨1, _⟩ => (by show 256 * j.val + 256 ≤ 4096; omega)⟩
theorem row_slices (B : Fin 4) : S96x256.Slices ![24 * B.val, 0] S24x256 :=
  ⟨rfl, fun a => match a with | ⟨0, _⟩ => (by show 24 * B.val + 24 ≤ 96; omega) | ⟨1, _⟩ => (by show 0 + 256 ≤ 256; omega)⟩

/-- Block `j` of the row. -/
def blkX (X : FVec F S24x4096 .f32) (j : Fin 16) : FVec F S24x256 .f32 := extractStridedSlice S24x256 ![0, 256 * j.val] X (blk_slices j)
/-- The block's rounded values and its scales. -/
def codB (X : FVec F S24x4096 .f32) (j : Fin 16) : FVec F S24x256 .f32 := kbVal (blkX X j)
def sclB (X : FVec F S24x4096 .f32) (j : Fin 16) : FVec F S24x1 .f32 := kbScale (blkX X j)

/-- Blocks b, 4+b, 8+b and 12+b, one over the other. -/
def xsV (X : FVec F S24x4096 .f32) (b : Fin 4) : FVec F S96x256 .bf16 :=
  truncf .bf16 (concatenate S96x256 0 [⟨S24x256, codB X ⟨b.val, by omega⟩⟩, ⟨S24x256, codB X ⟨4 + b.val, by omega⟩⟩, ⟨S24x256, codB X ⟨8 + b.val, by omega⟩⟩, ⟨S24x256, codB X ⟨12 + b.val, by omega⟩⟩] concatenates_S24x256_S24x256_S24x256_S24x256_S96x256_d0) bitsLt_bf16_f32

/-- The one-hot of chunk `c` and byte `b`. -/
def hitI (c b : Fin 4) : IVec S256x256 1 :=
  have k : IVec S256x256 32 := iota .tc S256x256 32 [0] iota_S256x256_d0_w32
  have r : IVec S256x256 32 := iota .tc S256x256 32 [1] iota_S256x256_d1_w32
  andi (cmpi .eq k (addi (addi (broadcast S256x256 (BitVec.ofNat 32 (64 * c.val))) (muli (andi r (broadcast S256x256 1#32)) (broadcast S256x256 32#32))) (shrsi r (broadcast S256x256 3#32))))
    (cmpi .eq (andi (shrsi r (broadcast S256x256 1#32)) (broadcast S256x256 3#32)) (broadcast S256x256 (BitVec.ofNat 32 b.val)))
def hitV (c b : Fin 4) : FVec F S256x256 .bf16 := truncf .bf16 (sitofp .f32 (extui 32 (hitI c b) natLt_1_32)) bitsLt_bf16_f32

/-- The codes gathered for chunk `c`. -/
def pV (X : FVec F S24x4096 .f32) (c b : Fin 4) : FVec F S96x256 .f32 :=
  matmul dot_S96x256_S256x256_S96x256_1_0_0_1_n_n none (xsV X b) (hitV c b) (constant S96x256 .f32 0x00000000#32)
def aV (X : FVec F S24x4096 .f32) (c : Fin 4) : FVec F S96x256 .f32 :=
  addf (addf (addf (pV X c 0) (pV X c 1)) (pV X c 2)) (pV X c 3)

/-- The lanes of row group `g`. -/
def grpV (a : FVec F S24x256 .f32) (g : Fin 8) : FVec F S24x256 .f32 :=
  select (cmpi .eq (andi (iota .tc S24x256 32 [1] iota_S24x256_d1_w32) (broadcast S24x256 7#32)) (broadcast S24x256 (BitVec.ofNat 32 g.val))) a (broadcast S24x256 (Scalar.ofBits .f32 0x00000000#32))

/-- The codes' rows of chunk (B, c). -/
def rowsV (X : FVec F S24x4096 .f32) (B c : Fin 4) : FVec F S1x192x256 .bf16 :=
  have a : FVec F S24x256 .f32 := extractStridedSlice S24x256 ![24 * B.val, 0] (aV X c) (row_slices B)
  shapeCast S1x192x256 (truncf .bf16 (concatenate S192x256 0 [⟨S24x256, grpV a 0⟩, ⟨S24x256, grpV a 1⟩, ⟨S24x256, grpV a 2⟩, ⟨S24x256, grpV a 3⟩, ⟨S24x256, grpV a 4⟩, ⟨S24x256, grpV a 5⟩, ⟨S24x256, grpV a 6⟩, ⟨S24x256, grpV a 7⟩] concatenates_S24x256_S24x256_S24x256_S24x256_S24x256_S24x256_S24x256_S24x256_S192x256_d0) bitsLt_bf16_f32) shapeCasts_S192x256_S1x192x256

/-- A block's scale across the lanes. -/
def asV (X : FVec F S24x4096 .f32) (j : Fin 16) : FVec F S1x24x256 .f32 :=
  shapeCast S1x24x256 (broadcastTo S24x256 (shapeCast S24x1 (sclB X j) shapeCasts_S24x1_S24x1) broadcasts_S24x1_S24x256) shapeCasts_S24x256_S1x24x256

/-- The sub-block sums of block `j`, times its scale, on the block's lanes. -/
def indI (j : Fin 16) : IVec S256x128 1 :=
  have k : IVec S256x128 32 := iota .tc S256x128 32 [0] iota_S256x128_d0_w32
  have l : IVec S256x128 32 := iota .tc S256x128 32 [1] iota_S256x128_d1_w32
  andi (cmpi .eq (andi l (broadcast S256x128 15#32)) (broadcast S256x128 (BitVec.ofNat 32 j.val))) (cmpi .eq (shrsi l (broadcast S256x128 4#32)) (shrsi k (broadcast S256x128 5#32)))
def sumV (X : FVec F S24x4096 .f32) (j : Fin 16) : FVec F S24x128 .f32 :=
  select (cmpi .eq (andi (iota .tc S24x128 32 [1] iota_S24x128_d1_w32) (broadcast S24x128 15#32)) (broadcast S24x128 (BitVec.ofNat 32 j.val)))
    (mulf (matmul dot_S24x256_S256x128_S24x128_1_0_0_1_n_n none (truncf .bf16 (codB X j) bitsLt_bf16_f32) (truncf .bf16 (sitofp .f32 (extui 32 (indI j) natLt_1_32)) bitsLt_bf16_f32) (constant S24x128 .f32 0x00000000#32))
      (broadcastTo S24x128 (sclB X j) broadcasts_S24x1_S24x128)) (broadcast S24x128 (Scalar.ofBits .f32 0x00000000#32))
def gSum (X : FVec F S24x4096 .f32) : FVec F S24x128 .f32 :=
  addf (addf (addf (addf (addf (addf (addf (addf (addf (addf (addf (addf (addf (addf (addf (addf (broadcast S24x128 (Scalar.ofBits .f32 0x00000000#32)) (sumV X 0)) (sumV X 1)) (sumV X 2)) (sumV X 3)) (sumV X 4)) (sumV X 5)) (sumV X 6)) (sumV X 7)) (sumV X 8)) (sumV X 9)) (sumV X 10)) (sumV X 11)) (sumV X 12)) (sumV X 13)) (sumV X 14)) (sumV X 15)

/-- The three parts of the sums, as stored. -/
def gHi (x : FVec F S24x128 .f32) : FVec F S24x128 .bf16 := truncf .bf16 x bitsLt_bf16_f32
def gRes (x : FVec F S24x128 .f32) : FVec F S24x128 .f32 := subf x (extf .f32 (gHi x) bitsLt_bf16_f32)
def gPart (X : FVec F S24x4096 .f32) : Fin 6 → FVec F S24x128 .bf16
  | 0 => shapeCast S24x128 (gHi (gSum X)) shapeCasts_S24x128_S24x128
  | 1 => shapeCast S24x128 (gHi (gRes (gSum X))) shapeCasts_S24x128_S24x128
  | 2 => shapeCast S24x128 (gHi (gRes (gRes (gSum X)))) shapeCasts_S24x128_S24x128
  | 3 => shapeCast S24x128 (gHi (gSum X)) shapeCasts_S24x128_S24x128
  | 4 => shapeCast S24x128 (gHi (gRes (gSum X))) shapeCasts_S24x128_S24x128
  | 5 => shapeCast S24x128 (gHi (gSum X)) shapeCasts_S24x128_S24x128

def hs0 (X : FVec F S24x4096 .f32) : List (View.Piece (Elt F) S16x192x256 .bf16) :=
      [⟨Rect.unit (s := S16x192x256) ![15, 0, 0] S1x192x256.size inb_S16x192x256_S1x192x256_15_0_0, rowsV X 3 3⟩,
       ⟨Rect.unit (s := S16x192x256) ![11, 0, 0] S1x192x256.size inb_S16x192x256_S1x192x256_11_0_0, rowsV X 2 3⟩,
       ⟨Rect.unit (s := S16x192x256) ![7, 0, 0] S1x192x256.size inb_S16x192x256_S1x192x256_7_0_0, rowsV X 1 3⟩,
       ⟨Rect.unit (s := S16x192x256) ![3, 0, 0] S1x192x256.size inb_S16x192x256_S1x192x256_3_0_0, rowsV X 0 3⟩,
       ⟨Rect.unit (s := S16x192x256) ![14, 0, 0] S1x192x256.size inb_S16x192x256_S1x192x256_14_0_0, rowsV X 3 2⟩,
       ⟨Rect.unit (s := S16x192x256) ![10, 0, 0] S1x192x256.size inb_S16x192x256_S1x192x256_10_0_0, rowsV X 2 2⟩,
       ⟨Rect.unit (s := S16x192x256) ![6, 0, 0] S1x192x256.size inb_S16x192x256_S1x192x256_6_0_0, rowsV X 1 2⟩,
       ⟨Rect.unit (s := S16x192x256) ![2, 0, 0] S1x192x256.size inb_S16x192x256_S1x192x256_2_0_0, rowsV X 0 2⟩,
       ⟨Rect.unit (s := S16x192x256) ![13, 0, 0] S1x192x256.size inb_S16x192x256_S1x192x256_13_0_0, rowsV X 3 1⟩,
       ⟨Rect.unit (s := S16x192x256) ![9, 0, 0] S1x192x256.size inb_S16x192x256_S1x192x256_9_0_0, rowsV X 2 1⟩,
       ⟨Rect.unit (s := S16x192x256) ![5, 0, 0] S1x192x256.size inb_S16x192x256_S1x192x256_5_0_0, rowsV X 1 1⟩,
       ⟨Rect.unit (s := S16x192x256) ![1, 0, 0] S1x192x256.size inb_S16x192x256_S1x192x256_1_0_0, rowsV X 0 1⟩,
       ⟨Rect.unit (s := S16x192x256) ![12, 0, 0] S1x192x256.size inb_S16x192x256_S1x192x256_12_0_0, rowsV X 3 0⟩,
       ⟨Rect.unit (s := S16x192x256) ![8, 0, 0] S1x192x256.size inb_S16x192x256_S1x192x256_8_0_0, rowsV X 2 0⟩,
       ⟨Rect.unit (s := S16x192x256) ![4, 0, 0] S1x192x256.size inb_S16x192x256_S1x192x256_4_0_0, rowsV X 1 0⟩,
       ⟨Rect.unit (s := S16x192x256) ![0, 0, 0] S1x192x256.size inb_S16x192x256_S1x192x256_0_0_0, rowsV X 0 0⟩]
def hs1 (X : FVec F S24x4096 .f32) : List (View.Piece (Elt F) S16x24x256 .f32) :=
      [⟨Rect.unit (s := S16x24x256) ![15, 0, 0] S1x24x256.size inb_S16x24x256_S1x24x256_15_0_0, asV X 15⟩,
       ⟨Rect.unit (s := S16x24x256) ![14, 0, 0] S1x24x256.size inb_S16x24x256_S1x24x256_14_0_0, asV X 14⟩,
       ⟨Rect.unit (s := S16x24x256) ![13, 0, 0] S1x24x256.size inb_S16x24x256_S1x24x256_13_0_0, asV X 13⟩,
       ⟨Rect.unit (s := S16x24x256) ![12, 0, 0] S1x24x256.size inb_S16x24x256_S1x24x256_12_0_0, asV X 12⟩,
       ⟨Rect.unit (s := S16x24x256) ![11, 0, 0] S1x24x256.size inb_S16x24x256_S1x24x256_11_0_0, asV X 11⟩,
       ⟨Rect.unit (s := S16x24x256) ![10, 0, 0] S1x24x256.size inb_S16x24x256_S1x24x256_10_0_0, asV X 10⟩,
       ⟨Rect.unit (s := S16x24x256) ![9, 0, 0] S1x24x256.size inb_S16x24x256_S1x24x256_9_0_0, asV X 9⟩,
       ⟨Rect.unit (s := S16x24x256) ![8, 0, 0] S1x24x256.size inb_S16x24x256_S1x24x256_8_0_0, asV X 8⟩,
       ⟨Rect.unit (s := S16x24x256) ![7, 0, 0] S1x24x256.size inb_S16x24x256_S1x24x256_7_0_0, asV X 7⟩,
       ⟨Rect.unit (s := S16x24x256) ![6, 0, 0] S1x24x256.size inb_S16x24x256_S1x24x256_6_0_0, asV X 6⟩,
       ⟨Rect.unit (s := S16x24x256) ![5, 0, 0] S1x24x256.size inb_S16x24x256_S1x24x256_5_0_0, asV X 5⟩,
       ⟨Rect.unit (s := S16x24x256) ![4, 0, 0] S1x24x256.size inb_S16x24x256_S1x24x256_4_0_0, asV X 4⟩,
       ⟨Rect.unit (s := S16x24x256) ![3, 0, 0] S1x24x256.size inb_S16x24x256_S1x24x256_3_0_0, asV X 3⟩,
       ⟨Rect.unit (s := S16x24x256) ![2, 0, 0] S1x24x256.size inb_S16x24x256_S1x24x256_2_0_0, asV X 2⟩,
       ⟨Rect.unit (s := S16x24x256) ![1, 0, 0] S1x24x256.size inb_S16x24x256_S1x24x256_1_0_0, asV X 1⟩,
       ⟨Rect.unit (s := S16x24x256) ![0, 0, 0] S1x24x256.size inb_S16x24x256_S1x24x256_0_0_0, asV X 0⟩]
def hs2 (X : FVec F S24x4096 .f32) : List (View.Piece (Elt F) S24x768 .bf16) :=
      [⟨Rect.unit (s := S24x768) ![0, 640] S24x128.size inb_S24x768_S24x128_0_640, gPart X 5⟩,
       ⟨Rect.unit (s := S24x768) ![0, 512] S24x128.size inb_S24x768_S24x128_0_512, gPart X 4⟩,
       ⟨Rect.unit (s := S24x768) ![0, 384] S24x128.size inb_S24x768_S24x128_0_384, gPart X 3⟩,
       ⟨Rect.unit (s := S24x768) ![0, 256] S24x128.size inb_S24x768_S24x128_0_256, gPart X 2⟩,
       ⟨Rect.unit (s := S24x768) ![0, 128] S24x128.size inb_S24x768_S24x128_0_128, gPart X 1⟩,
       ⟨Rect.unit (s := S24x768) ![0, 0] S24x128.size inb_S24x768_S24x128_0_0, gPart X 0⟩]

theorem HS0_eq (c : Dev nD) (arg1 : Memref sig .tc .vmem S24x4096 .f32) (harg1 : arg1.IsWhole) (arg2 : Memref sig .tc .vmem S1x4096 .f32) (harg2 : arg2.IsWhole) (x0 : Vec F S24x4096 .f32) (x1 : Vec F S1x4096 .f32) :
    kernelRun0_A.sl.HS0_16 c arg1 harg1 arg2 harg2 x0 x1 = hs0 (k0_pay2 (View.readAt (Elt F) arg1.view (Rect.unit (s := S24x4096) ![0, 0] S24x4096.size inb_S24x4096_S24x4096_0_0).toLoadRect (harg1.unread x0)) (View.readAt (Elt F) arg2.view (Rect.unit (s := S1x4096) ![0, 0] S1x4096.size inb_S1x4096_S1x4096_0_0).toLoadRect (harg2.unread x1))) := rfl
theorem HS1_eq (c : Dev nD) (arg1 : Memref sig .tc .vmem S24x4096 .f32) (harg1 : arg1.IsWhole) (arg2 : Memref sig .tc .vmem S1x4096 .f32) (harg2 : arg2.IsWhole) (x0 : Vec F S24x4096 .f32) (x1 : Vec F S1x4096 .f32) :
    kernelRun0_A.sl.HS1_16 c arg1 harg1 arg2 harg2 x0 x1 = hs1 (k0_pay2 (View.readAt (Elt F) arg1.view (Rect.unit (s := S24x4096) ![0, 0] S24x4096.size inb_S24x4096_S24x4096_0_0).toLoadRect (harg1.unread x0)) (View.readAt (Elt F) arg2.view (Rect.unit (s := S1x4096) ![0, 0] S1x4096.size inb_S1x4096_S1x4096_0_0).toLoadRect (harg2.unread x1))) := rfl
theorem HS2_eq (c : Dev nD) (arg1 : Memref sig .tc .vmem S24x4096 .f32) (harg1 : arg1.IsWhole) (arg2 : Memref sig .tc .vmem S1x4096 .f32) (harg2 : arg2.IsWhole) (x0 : Vec F S24x4096 .f32) (x1 : Vec F S1x4096 .f32) :
    kernelRun0_A.sl.HS2_6 c arg1 harg1 arg2 harg2 x0 x1 = hs2 (k0_pay2 (View.readAt (Elt F) arg1.view (Rect.unit (s := S24x4096) ![0, 0] S24x4096.size inb_S24x4096_S24x4096_0_0).toLoadRect (harg1.unread x0)) (View.readAt (Elt F) arg2.view (Rect.unit (s := S1x4096) ![0, 0] S1x4096.size inb_S1x4096_S1x4096_0_0).toLoadRect (harg2.unread x1))) := rfl

end Cert.KernelIdeal.Gen

end
-- ==== Proof.Alg1.lean ====
/- The kernel's vector operations read at an index, at the ideal instance. -/
module

public import proofs.«01_k».proof.Proof.Scratch
public import proofs.«01_k».proof.Proof.Close

@[expose] public section

set_option maxRecDepth 16384

noncomputable section

namespace Cert.KernelIdeal.Gen

open Idealize.ShloMosaic hiding ix0 ix1 ix2 ix3 ix4 eq_ix1 eq_ix2 eq_ix3 eq_ix4
open Idealize.ShloMosaic.ValueIdx Cert.Ff

theorem mm96 (A : FVec Ideal S96x256 .bf16) (B : FVec Ideal S256x256 .bf16) (r : Fin 96) (n : Fin 256) :
    matmul dot_S96x256_S256x256_S96x256_1_0_0_1_n_n none A B (constant S96x256 .f32 0x00000000#32) (ix2 r n) = ∑ k : Fin 256, (A (ix2 r k) * B (ix2 k n) : EReal) := by
  pointwise
  exact Finset.sum_congr rfl fun k _ => congrArg₂ (· * ·) (congrArg A (funext fun a => match a with | ⟨0, _⟩ => rfl | ⟨1, _⟩ => rfl)) (congrArg B (funext fun a => match a with | ⟨0, _⟩ => rfl | ⟨1, _⟩ => rfl))

theorem mm192 (A : FVec Ideal S192x256 .bf16) (B : FVec Ideal S256x256 .bf16) (r : Fin 192) (n : Fin 256) :
    matmul dot_S192x256_S256x256_S192x256_1_0_0_1_n_n none A B (constant S192x256 .f32 0x00000000#32) (ix2 r n) = ∑ k : Fin 256, (A (ix2 r k) * B (ix2 k n) : EReal) := by
  pointwise
  exact Finset.sum_congr rfl fun k _ => congrArg₂ (· * ·) (congrArg A (funext fun a => match a with | ⟨0, _⟩ => rfl | ⟨1, _⟩ => rfl)) (congrArg B (funext fun a => match a with | ⟨0, _⟩ => rfl | ⟨1, _⟩ => rfl))

theorem mm128 (A : FVec Ideal S24x256 .bf16) (B : FVec Ideal S256x128 .bf16) (r : Fin 24) (n : Fin 128) :
    matmul dot_S24x256_S256x128_S24x128_1_0_0_1_n_n none A B (constant S24x128 .f32 0x00000000#32) (ix2 r n) = ∑ k : Fin 256, (A (ix2 r k) * B (ix2 k n) : EReal) := by
  pointwise
  exact Finset.sum_congr rfl fun k _ => congrArg₂ (· * ·) (congrArg A (funext fun a => match a with | ⟨0, _⟩ => rfl | ⟨1, _⟩ => rfl)) (congrArg B (funext fun a => match a with | ⟨0, _⟩ => rfl | ⟨1, _⟩ => rfl))

theorem mm768 (A : FVec Ideal S24x768 .bf16) (B : FVec Ideal S768x256 .bf16) (r : Fin 24) (n : Fin 256) :
    matmul dot_S24x768_S768x256_S24x256_1_0_0_1_n_n none A B (constant S24x256 .f32 0x00000000#32) (ix2 r n) = ∑ k : Fin 768, (A (ix2 r k) * B (ix2 k n) : EReal) := by
  pointwise
  exact Finset.sum_congr rfl fun k _ => congrArg₂ (· * ·) (congrArg A (funext fun a => match a with | ⟨0, _⟩ => rfl | ⟨1, _⟩ => rfl)) (congrArg B (funext fun a => match a with | ⟨0, _⟩ => rfl | ⟨1, _⟩ => rfl))

/-- Equal blocks of rows, one over the other, read at a row. -/
theorem catRows {α : Type} {N K M C : ℕ} (xs : List ((s : Shape) × (s.Idx → α))) (h : Shape.Concatenates (xs.map (·.1)) ⟨2, ![M, C]⟩ (0 : Fin 2))
    (f : Fin N → ((⟨2, ![K, C]⟩ : Shape).Idx → α)) (hf : xs = List.ofFn fun n : Fin N => (⟨⟨2, ![K, C]⟩, f n⟩ : (s : Shape) × (s.Idx → α)))
    (R : Fin M) (q : Fin N) (r : Fin K) (hR : R.val = K * q.val + r.val) (n : Fin C) :
    concatenate ⟨2, ![M, C]⟩ (0 : Fin 2) xs h (ix2 R n) = f q (ix2 r n) := by
  subst hf
  have hr := r.isLt
  have hK : 0 < K := by omega
  refine concatenate_ofFn_apply (t := ⟨2, ![M, C]⟩) (s₁ := ⟨2, ![K, C]⟩) (0 : Fin 2) f h rfl K rfl (ix2 R n) q ?_ (ix2 r n) ?_ ?_
  · show R.val / K = q.val
    rw [hR, Nat.mul_add_div hK, Nat.div_eq_of_lt hr, Nat.add_zero]
  · show r.val = R.val % K
    rw [hR, Nat.mul_add_mod, Nat.mod_eq_of_lt hr]
  · intro b hb
    match b with
    | ⟨0, _⟩ => exact absurd rfl hb
    | ⟨1, _⟩ => rfl

/-! ## The row's codes and scales as numbers -/

/-- The code at a position, an integer. -/
def cI (X : FVec Ideal S24x4096 .f32) (r : Fin 24) (c : Fin 4096) : ℤ := (cod X r c).toInt

theorem codB_apply (X : FVec Ideal S24x4096 .f32) (j : Fin 16) (r : Fin 24) (k : Fin 256) :
    codB X j (ix2 r k) = ((cI X r (bAt j k) : ℝ) : EReal) := by
  unfold codB blkX
  rw [kbVal_slice X j _ rfl]
  unfold cI cod
  rw [qc_toInt, blkOf_bAt]

theorem sclB_apply (X : FVec Ideal S24x4096 .f32) (j : Fin 16) (r : Fin 24) (z : Fin 1) : sclB X j (ix2 r z) = scl X r j :=
  kbScale_slice X j _ rfl _ r z

/-! ## One-hot products -/

theorem cmpi_eq (n m : ℕ) (hn : n < 2 ^ 32) (hm : m < 2 ^ 32) :
    IntOp.cmpi .eq (BitVec.ofNat 32 n) (BitVec.ofNat 32 m) = if n = m then 1#1 else 0#1 := by
  show BitVec.ofBool (BitVec.ofNat 32 n == BitVec.ofNat 32 m) = _
  by_cases h : n = m
  · subst h; simp
  · have : BitVec.ofNat 32 n ≠ BitVec.ofNat 32 m := fun e => h (by
      have := congrArg BitVec.toNat e
      rwa [BitVec.toNat_ofNat, BitVec.toNat_ofNat, Nat.mod_eq_of_lt hn, Nat.mod_eq_of_lt hm] at this)
    rw [if_neg h, beq_eq_false_iff_ne.mpr this]; rfl

theorem and_ite (p q : Prop) [Decidable p] [Decidable q] : IntOp.andi (if p then 1#1 else 0#1) (if q then 1#1 else 0#1) = if p ∧ q then 1#1 else 0#1 := by
  by_cases h : p <;> by_cases h' : q <;> simp [h, h', IntOp.andi]

theorem oneHot (p : Prop) [Decidable p] : ((((if p then 1#1 else 0#1 : BitVec 1).setWidth 32).toInt : ℝ) : EReal) = if p then 1 else 0 := by
  by_cases h : p
  · rw [if_pos h, if_pos h, show ((1#1 : BitVec 1).setWidth 32).toInt = 1 from by decide]; simp
  · rw [if_neg h, if_neg h, show ((0#1 : BitVec 1).setWidth 32).toInt = 0 from by decide]; simp

theorem lanePos : ∀ (c : Fin 4) (n : Fin 256), IntOp.addi (IntOp.addi (BitVec.ofNat 32 (64 * c.val)) (IntOp.muli (IntOp.andi (BitVec.ofNat 32 n.val) 1#32) 32#32))
    (IntOp.shrsi .vector (BitVec.ofNat 32 n.val) 3#32) = BitVec.ofNat 32 (64 * c.val + n.val % 2 * 32 + n.val / 8) := by decide +kernel
theorem laneByte : ∀ (n : Fin 256), IntOp.andi (IntOp.shrsi .vector (BitVec.ofNat 32 n.val) 1#32) 3#32 = BitVec.ofNat 32 (n.val / 2 % 4) := by decide +kernel
theorem laneGrp : ∀ (n : Fin 256), IntOp.andi (BitVec.ofNat 32 n.val) 7#32 = BitVec.ofNat 32 (n.val % 8) := by decide +kernel
theorem lane15 : ∀ (n : Fin 128), IntOp.andi (BitVec.ofNat 32 n.val) 15#32 = BitVec.ofNat 32 (n.val % 16) := by decide +kernel
theorem laneSub : ∀ (n : Fin 128), IntOp.shrsi .vector (BitVec.ofNat 32 n.val) 4#32 = BitVec.ofNat 32 (n.val / 16) := by decide +kernel
theorem posSub : ∀ (n : Fin 256), IntOp.shrsi .vector (BitVec.ofNat 32 n.val) 5#32 = BitVec.ofNat 32 (n.val / 32) := by decide +kernel

theorem hitI_apply (c b : Fin 4) (k n : Fin 256) : hitI c b (ix2 k n) = if k.val = 64 * c.val + n.val % 2 * 32 + n.val / 8 ∧ n.val / 2 % 4 = b.val then 1#1 else 0#1 := by
  have e : hitI c b (ix2 k n) = IntOp.andi (IntOp.cmpi .eq (BitVec.ofNat 32 (0 * 256 + k.val)) (IntOp.addi (IntOp.addi (BitVec.ofNat 32 (64 * c.val)) (IntOp.muli (IntOp.andi (BitVec.ofNat 32 (0 * 256 + n.val)) 1#32) 32#32))
      (IntOp.shrsi .vector (BitVec.ofNat 32 (0 * 256 + n.val)) 3#32)))
      (IntOp.cmpi .eq (IntOp.andi (IntOp.shrsi .vector (BitVec.ofNat 32 (0 * 256 + n.val)) 1#32) 3#32) (BitVec.ofNat 32 b.val)) := rfl
  rw [e]
  simp only [Nat.zero_mul, Nat.zero_add]
  rw [lanePos, laneByte, cmpi_eq _ _ (by omega) (by omega), cmpi_eq _ _ (by omega) (by omega), and_ite]

theorem hitV_apply (c b : Fin 4) (k n : Fin 256) : hitV (F := Ideal) c b (ix2 k n) = if k.val = 64 * c.val + n.val % 2 * 32 + n.val / 8 ∧ n.val / 2 % 4 = b.val then 1 else 0 := by
  have e : hitV (F := Ideal) c b (ix2 k n) = ((((hitI c b (ix2 k n)).setWidth 32).toInt : ℝ) : EReal) := rfl
  rw [e, hitI_apply, oneHot]

theorem xsV_apply (X : FVec Ideal S24x4096 .f32) (b B : Fin 4) (r : Fin 24) (k : Fin 256) (R : Fin 96) (hR : R.val = 24 * B.val + r.val) :
    xsV X b (ix2 R k) = ((cI X r (bAt (⟨4 * B.val + b.val, by omega⟩ : Fin 16) k) : ℝ) : EReal) := by
  have e := catRows (N := 4) (K := 24) (M := 96) (C := 256) [⟨S24x256, codB X ⟨b.val, by omega⟩⟩, ⟨S24x256, codB X ⟨4 + b.val, by omega⟩⟩, ⟨S24x256, codB X ⟨8 + b.val, by omega⟩⟩, ⟨S24x256, codB X ⟨12 + b.val, by omega⟩⟩]
    concatenates_S24x256_S24x256_S24x256_S24x256_S96x256_d0 ![codB X ⟨b.val, by omega⟩, codB X ⟨4 + b.val, by omega⟩, codB X ⟨8 + b.val, by omega⟩, codB X ⟨12 + b.val, by omega⟩] rfl R B r hR k
  refine Eq.trans (b := _) e ?_
  have e2 : ∀ B : Fin 4, (![codB X ⟨b.val, by omega⟩, codB X ⟨4 + b.val, by omega⟩, codB X ⟨8 + b.val, by omega⟩, codB X ⟨12 + b.val, by omega⟩] : Fin 4 → FVec Ideal S24x256 .f32) B = codB X (⟨4 * B.val + b.val, by omega⟩ : Fin 16) :=
    forall4 (congrArg (codB X) (Fin.ext (by show b.val = 4 * 0 + b.val; omega))) (congrArg (codB X) (Fin.ext (by show 4 + b.val = 4 * 1 + b.val; omega)))
      (congrArg (codB X) (Fin.ext (by show 8 + b.val = 4 * 2 + b.val; omega))) (congrArg (codB X) (Fin.ext (by show 12 + b.val = 4 * 3 + b.val; omega)))
  exact (congrFun (e2 B) (ix2 r k)).trans (codB_apply X _ r k)

theorem pV_apply (X : FVec Ideal S24x4096 .f32) (c b B : Fin 4) (r : Fin 24) (n : Fin 256) (R : Fin 96) (hR : R.val = 24 * B.val + r.val) :
    pV X c b (ix2 R n) = if n.val / 2 % 4 = b.val then ((cI X r (bAt (⟨4 * B.val + b.val, by omega⟩ : Fin 16) (⟨64 * c.val + n.val % 2 * 32 + n.val / 8, by omega⟩ : Fin 256)) : ℝ) : EReal) else 0 := by
  refine (mm96 (xsV X b) (hitV c b) R n).trans ?_
  simp only [xsV_apply X b B r _ R hR, hitV_apply]
  by_cases h : n.val / 2 % 4 = b.val
  · rw [if_pos h, Finset.sum_eq_single (⟨64 * c.val + n.val % 2 * 32 + n.val / 8, by omega⟩ : Fin 256)]
    · rw [if_pos ⟨rfl, h⟩, mul_one]
    · intro k _ hk
      rw [if_neg (fun e => hk (Fin.ext e.1)), mul_zero]
    · intro h; exact absurd (Finset.mem_univ _) h
  · rw [if_neg h]
    refine Finset.sum_eq_zero fun k _ => ?_
    rw [if_neg (fun e => h e.2), mul_zero]

theorem aV_apply (X : FVec Ideal S24x4096 .f32) (c B : Fin 4) (r : Fin 24) (n : Fin 256) (R : Fin 96) (hR : R.val = 24 * B.val + r.val) :
    aV X c (ix2 R n) = ((cI X r (bAt (⟨4 * B.val + n.val / 2 % 4, by omega⟩ : Fin 16) (⟨64 * c.val + n.val % 2 * 32 + n.val / 8, by omega⟩ : Fin 256)) : ℝ) : EReal) := by
  have e : aV X c (ix2 R n) = pV X c 0 (ix2 R n) + pV X c 1 (ix2 R n) + pV X c 2 (ix2 R n) + pV X c 3 (ix2 R n) := rfl
  rw [e, pV_apply X c 0 B r n R hR, pV_apply X c 1 B r n R hR, pV_apply X c 2 B r n R hR, pV_apply X c 3 B r n R hR]
  have key : ∀ (b : Fin 4), n.val / 2 % 4 = b.val → (⟨4 * B.val + n.val / 2 % 4, by omega⟩ : Fin 16) = ⟨4 * B.val + b.val, by omega⟩ := fun b h => Fin.ext (by show 4 * B.val + _ = 4 * B.val + _; rw [h])
  have h4 : n.val / 2 % 4 = 0 ∨ n.val / 2 % 4 = 1 ∨ n.val / 2 % 4 = 2 ∨ n.val / 2 % 4 = 3 := by omega
  rcases h4 with h | h | h | h
  · rw [key 0 h, if_pos (show n.val / 2 % 4 = (0 : Fin 4).val from h), if_neg (show ¬ n.val / 2 % 4 = (1 : Fin 4).val from by rw [h]; decide), if_neg (show ¬ n.val / 2 % 4 = (2 : Fin 4).val from by rw [h]; decide), if_neg (show ¬ n.val / 2 % 4 = (3 : Fin 4).val from by rw [h]; decide)]
    simp only [add_zero]
  · rw [key 1 h, if_pos (show n.val / 2 % 4 = (1 : Fin 4).val from h), if_neg (show ¬ n.val / 2 % 4 = (0 : Fin 4).val from by rw [h]; decide), if_neg (show ¬ n.val / 2 % 4 = (2 : Fin 4).val from by rw [h]; decide), if_neg (show ¬ n.val / 2 % 4 = (3 : Fin 4).val from by rw [h]; decide)]
    simp only [add_zero, zero_add]
  · rw [key 2 h, if_pos (show n.val / 2 % 4 = (2 : Fin 4).val from h), if_neg (show ¬ n.val / 2 % 4 = (0 : Fin 4).val from by rw [h]; decide), if_neg (show ¬ n.val / 2 % 4 = (1 : Fin 4).val from by rw [h]; decide), if_neg (show ¬ n.val / 2 % 4 = (3 : Fin 4).val from by rw [h]; decide)]
    simp only [add_zero, zero_add]
  · rw [key 3 h, if_pos (show n.val / 2 % 4 = (3 : Fin 4).val from h), if_neg (show ¬ n.val / 2 % 4 = (0 : Fin 4).val from by rw [h]; decide), if_neg (show ¬ n.val / 2 % 4 = (1 : Fin 4).val from by rw [h]; decide), if_neg (show ¬ n.val / 2 % 4 = (2 : Fin 4).val from by rw [h]; decide)]
    simp only [add_zero, zero_add]

theorem grpV_apply (a : FVec Ideal S24x256 .f32) (g : Fin 8) (r : Fin 24) (n : Fin 256) : grpV a g (ix2 r n) = if n.val % 8 = g.val then a (ix2 r n) else 0 := by
  have e : grpV a g (ix2 r n) = Scalar.select (IntOp.cmpi .eq (IntOp.andi (BitVec.ofNat 32 (0 * 256 + n.val)) 7#32) (BitVec.ofNat 32 g.val)) (a (ix2 r n)) (Ideal.ofBits .f32 0x00000000#32) := rfl
  rw [e, Nat.zero_mul, Nat.zero_add, laneGrp, cmpi_eq _ _ (by omega) (by omega), lit0]
  by_cases h : n.val % 8 = g.val <;> simp [h, Scalar.select]

theorem rowsV_apply (X : FVec Ideal S24x4096 .f32) (B c : Fin 4) (g : Fin 8) (r : Fin 24) (n : Fin 256) (R : Fin 192) (hR : R.val = 24 * g.val + r.val) :
    rowsV X B c (ix3 (0 : Fin 1) R n) = if n.val % 8 = g.val then ((cI X r (bAt (⟨4 * B.val + n.val / 2 % 4, by omega⟩ : Fin 16) (⟨64 * c.val + n.val % 2 * 32 + n.val / 8, by omega⟩ : Fin 256)) : ℝ) : EReal) else 0 := by
  unfold rowsV
  generalize ha : extractStridedSlice S24x256 ![24 * B.val, 0] (aV X c) (row_slices B) = a
  refine (shapeCast_apply _ _ (ix3 (0 : Fin 1) R n) (ix2 R n) ?_).trans ?_
  · rw [Shape.rowMajor_val_two, Shape.rowMajor_val_three]; show R.val * 256 + n.val = (0 * 192 + R.val) * 256 + n.val; omega
  have e := catRows (N := 8) (K := 24) (M := 192) (C := 256) [⟨S24x256, grpV a 0⟩, ⟨S24x256, grpV a 1⟩, ⟨S24x256, grpV a 2⟩, ⟨S24x256, grpV a 3⟩, ⟨S24x256, grpV a 4⟩, ⟨S24x256, grpV a 5⟩, ⟨S24x256, grpV a 6⟩, ⟨S24x256, grpV a 7⟩]
    concatenates_S24x256_S24x256_S24x256_S24x256_S24x256_S24x256_S24x256_S24x256_S192x256_d0 (fun g => grpV a g) rfl R g r hR n
  refine Eq.trans (b := _) e ?_
  rw [grpV_apply]
  have e2 : a (ix2 r n) = aV X c (ix2 (⟨24 * B.val + r.val, by omega⟩ : Fin 96) n) := by
    rw [← ha]
    exact congrArg (aV X c) (funext fun a => match a with | ⟨0, _⟩ => rfl | ⟨1, _⟩ => Fin.ext (Nat.zero_add _))
  rw [e2, aV_apply X c B r n _ rfl]

theorem asV_apply (X : FVec Ideal S24x4096 .f32) (j : Fin 16) (r : Fin 24) (n : Fin 256) : asV X j (ix3 (0 : Fin 1) r n) = scl X r j := by
  unfold asV
  refine (shapeCast_apply _ _ (ix3 (0 : Fin 1) r n) (ix2 r n) ?_).trans ?_
  · rw [Shape.rowMajor_val_two, Shape.rowMajor_val_three]; show r.val * 256 + n.val = (0 * 24 + r.val) * 256 + n.val; omega
  rw [shapeCast_self]
  refine Eq.trans ?_ (sclB_apply X j r 0)
  exact congrArg (sclB X j) (funext fun a => match a with | ⟨0, _⟩ => rfl | ⟨1, _⟩ => rfl)

theorem indI_apply (j : Fin 16) (k : Fin 256) (n : Fin 128) : indI j (ix2 k n) = if n.val % 16 = j.val ∧ n.val / 16 = k.val / 32 then 1#1 else 0#1 := by
  have e : indI j (ix2 k n) = IntOp.andi (IntOp.cmpi .eq (IntOp.andi (BitVec.ofNat 32 (0 * 128 + n.val)) 15#32) (BitVec.ofNat 32 j.val))
      (IntOp.cmpi .eq (IntOp.shrsi .vector (BitVec.ofNat 32 (0 * 128 + n.val)) 4#32) (IntOp.shrsi .vector (BitVec.ofNat 32 (0 * 256 + k.val)) 5#32)) := rfl
  rw [e]
  simp only [Nat.zero_mul, Nat.zero_add]
  rw [lane15, laneSub, posSub, cmpi_eq _ _ (by omega) (by omega), cmpi_eq _ _ (by omega) (by omega), and_ite]

end Cert.KernelIdeal.Gen

end
-- ==== Proof.Words.lean ====
/- The weights' bytes as numbers: six-bit scales and minima, nibbles, half-precision factors. -/
module

public import proofs.«01_k».proof.Proof.Quant

@[expose] public section

set_option maxRecDepth 16384

noncomputable section

namespace Cert.Ff

open Idealize.ShloMosaic hiding ix0 ix1 ix2 ix3 ix4 eq_ix1 eq_ix2 eq_ix3 eq_ix4
open Idealize.ShloMosaic.ValueIdx

/-- The low six bits of a byte. -/
def lo6 (a : BitVec 8) : BitVec 32 := IntOp.andi (a.setWidth 32) 63#32
/-- A high sub-block's scale: a byte's low half below another's high two bits. -/
def loHi (a b : BitVec 8) : BitVec 32 := IntOp.ori (IntOp.andi (b.setWidth 32) 15#32) (IntOp.shli .vector (IntOp.shrsi .vector (a.setWidth 32) 6#32) 4#32)
/-- A high sub-block's minimum: a byte's high half below another's high two bits. -/
def hiHi (a b : BitVec 8) : BitVec 32 := IntOp.ori (IntOp.shrsi .vector (b.setWidth 32) 4#32) (IntOp.shli .vector (IntOp.shrsi .vector (a.setWidth 32) 6#32) 4#32)

/-- The scale of sub-block `j`, of a block's twelve scale bytes. -/
def scB (y : Fin 12 → BitVec 8) : Fin 8 → BitVec 32
  | 0 => lo6 (y 0) | 1 => lo6 (y 1) | 2 => lo6 (y 2) | 3 => lo6 (y 3)
  | 4 => loHi (y 0) (y 8) | 5 => loHi (y 1) (y 9) | 6 => loHi (y 2) (y 10) | 7 => loHi (y 3) (y 11)
/-- The minimum of sub-block `j`. -/
def mnB (y : Fin 12 → BitVec 8) : Fin 8 → BitVec 32
  | 0 => lo6 (y 4) | 1 => lo6 (y 5) | 2 => lo6 (y 6) | 3 => lo6 (y 7)
  | 4 => hiHi (y 4) (y 8) | 5 => hiHi (y 5) (y 9) | 6 => hiHi (y 6) (y 10) | 7 => hiHi (y 7) (y 11)

theorem byteCase (P : BitVec 8 → Prop) (h : ∀ n : Fin 256, P (BitVec.ofNat 8 n.val)) (a : BitVec 8) : P a := by
  have := h ⟨a.toNat, a.isLt⟩
  rwa [BitVec.ofNat_toNat, BitVec.setWidth_eq] at this

theorem lo6_lt (a : BitVec 8) : (lo6 a).toNat < 64 :=
  byteCase (fun a => (lo6 a).toNat < 64) (by decide +kernel) a
theorem p1 (a : BitVec 8) : (IntOp.andi (a.setWidth 32) 15#32).toNat < 64 :=
  byteCase (fun a => (IntOp.andi (a.setWidth 32) 15#32).toNat < 64) (by decide +kernel) a
theorem p2 (a : BitVec 8) : (IntOp.shrsi .vector (a.setWidth 32) 4#32).toNat < 64 :=
  byteCase (fun a => (IntOp.shrsi .vector (a.setWidth 32) 4#32).toNat < 64) (by decide +kernel) a
theorem p3 (a : BitVec 8) : (IntOp.shli .vector (IntOp.shrsi .vector (a.setWidth 32) 6#32) 4#32).toNat < 64 :=
  byteCase (fun a => (IntOp.shli .vector (IntOp.shrsi .vector (a.setWidth 32) 6#32) 4#32).toNat < 64) (by decide +kernel) a
theorem loHi_lt (a b : BitVec 8) : (loHi a b).toNat < 64 := by
  unfold loHi IntOp.ori; rw [BitVec.toNat_or]; exact Nat.or_lt_two_pow (n := 6) (p1 b) (p3 a)
theorem hiHi_lt (a b : BitVec 8) : (hiHi a b).toNat < 64 := by
  unfold hiHi IntOp.ori; rw [BitVec.toNat_or]; exact Nat.or_lt_two_pow (n := 6) (p2 b) (p3 a)

theorem forall8 {P : Fin 8 → Prop} (h0 : P 0) (h1 : P 1) (h2 : P 2) (h3 : P 3) (h4 : P 4) (h5 : P 5) (h6 : P 6) (h7 : P 7) : ∀ j, P j
  | 0 => h0 | 1 => h1 | 2 => h2 | 3 => h3 | 4 => h4 | 5 => h5 | 6 => h6 | 7 => h7

theorem scB_lt (y : Fin 12 → BitVec 8) (j : Fin 8) : (scB y j).toNat < 64 := by
  revert j
  exact forall8 (lo6_lt _) (lo6_lt _) (lo6_lt _) (lo6_lt _) (loHi_lt _ _) (loHi_lt _ _) (loHi_lt _ _) (loHi_lt _ _)

theorem toInt_small {w : ℕ} (x : BitVec w) (n : ℕ) (h : x.toNat = n) (hn : 2 * n < 2 ^ w) : x.toInt = n := by
  subst h; exact BitVec.toInt_eq_toNat_of_lt hn

/-- The scale and the minimum as natural numbers. -/
def scN (y : Fin 12 → BitVec 8) (j : Fin 8) : ℕ := (scB y j).toNat
def mnZ (y : Fin 12 → BitVec 8) (j : Fin 8) : ℤ := (mnB y j).toInt
theorem scB_toInt (y : Fin 12 → BitVec 8) (j : Fin 8) : (scB y j).toInt = (scN y j : ℤ) :=
  toInt_small _ _ rfl (by have := scB_lt y j; unfold scN; omega)

/-- The nibble of a byte: the low half for `s = 0`, the high half for `s = 1`. -/
def nibN (y : BitVec 8) (s : ℕ) : ℕ := y.toNat / 2 ^ (4 * s) % 16
theorem nibN_lt (y : BitVec 8) (s : ℕ) : nibN y s < 16 := Nat.mod_lt _ (by norm_num)

theorem nib_word (w : BitVec 32) (y : BitVec 8) (g : ℕ) (h : ∀ i, i < 4 → w.getLsbD (4 * g + i) = y.getLsbD (4 * (g % 2) + i)) :
    w.toNat / 2 ^ (4 * g) % 16 = nibN y (g % 2) := by
  unfold nibN
  rw [show 16 = 2 ^ 4 from rfl]
  refine Nat.eq_of_testBit_eq fun i => ?_
  rw [Nat.testBit_mod_two_pow, Nat.testBit_mod_two_pow, Nat.testBit_div_two_pow, Nat.testBit_div_two_pow]
  by_cases hi : i < 4
  · have := h i hi
    simp only [BitVec.getLsbD] at this
    rw [Nat.add_comm i, Nat.add_comm i, this]
  · simp [hi]

theorem shiftAmt : ∀ k : Fin 256, IntOp.muli (IntOp.andi (BitVec.ofNat 32 k.val) 7#32) 4#32 = BitVec.ofNat 32 (4 * (k.val % 8)) := by decide +kernel

/-- What a lane of the unpacked words is: the nibble of the byte it lies in. -/
theorem unpack_toInt (w : BitVec 32) (g : ℕ) (hg : g < 8) :
    (IntOp.andi (IntOp.shrui .vector w (BitVec.ofNat 32 (4 * g))) 15#32).toInt = ((w.toNat / 2 ^ (4 * g) % 16 : ℕ) : ℤ) := by
  have e : (BitVec.ofNat 32 (4 * g)).toNat = 4 * g := by rw [BitVec.toNat_ofNat, Nat.mod_eq_of_lt (by omega)]
  refine toInt_small _ _ ?_ (by have := Nat.mod_lt (w.toNat / 2 ^ (4 * g)) (show 0 < 16 by norm_num); omega)
  unfold IntOp.andi IntOp.shrui
  rw [e, if_pos (by omega), BitVec.toNat_and]
  have e2 : (w >>> BitVec.ofNat 32 (4 * g)).toNat = w.toNat / 2 ^ (4 * g) := by
    rw [BitVec.ushiftRight_eq', BitVec.toNat_ushiftRight, e, Nat.shiftRight_eq_div_pow]
  rw [e2]
  exact Nat.and_two_pow_sub_one_eq_mod _ 4

/-- The reference's two halves of a byte. -/
theorem nib_low (y : BitVec 8) : IntOp.andi (y.setWidth 32) 15#32 = BitVec.ofNat 32 (nibN y 0) :=
  byteCase (fun y => IntOp.andi (y.setWidth 32) 15#32 = BitVec.ofNat 32 (nibN y 0)) (by decide +kernel) y
theorem nib_high (y : BitVec 8) : IntOp.shrsi .host (y.setWidth 32) 4#32 = BitVec.ofNat 32 (nibN y 1) :=
  byteCase (fun y => IntOp.shrsi .host (y.setWidth 32) 4#32 = BitVec.ofNat 32 (nibN y 1)) (by decide +kernel) y

/-- A product of a scale and a nibble is its high part times 128 and its low part. -/
theorem split_field : ∀ p : Fin 1024, 128 * (IntOp.shrsi .host (BitVec.ofNat 32 p.val) 7#32).toInt + (IntOp.andi (BitVec.ofNat 32 p.val) 127#32).toInt = (p.val : ℤ)
    ∧ 0 ≤ (IntOp.shrsi .host (BitVec.ofNat 32 p.val) 7#32).toInt ∧ (IntOp.shrsi .host (BitVec.ofNat 32 p.val) 7#32).toInt < 8
    ∧ 0 ≤ (IntOp.andi (BitVec.ofNat 32 p.val) 127#32).toInt ∧ (IntOp.andi (BitVec.ofNat 32 p.val) 127#32).toInt < 128 := by decide +kernel

/-- The half-precision bits as a number, the sign dropped. -/
def hF (b : BitVec 16) : EReal :=
  Scalar.select (IntOp.cmpi .eq (IntOp.andi (IntOp.shrsi .vector (b.setWidth 32) 10#32) 31#32) 0#32)
    (((IntOp.andi (b.setWidth 32) 1023#32).toInt : ℝ) * Ideal.ofBits .f32 0x33800000#32)
    (Ideal.ofBits .f32 (IntOp.addi (IntOp.shli .vector (IntOp.andi (b.setWidth 32) 32767#32) 13#32) 939524096#32))

theorem ofBits_real (w : BitVec 32) (h : w.toNat / 2 ^ 23 % 256 ≠ 255) : ∃ x : ℝ, Ideal.ofBits .f32 w = (x : EReal) := by
  have e : (w.extractLsb' 23 8).toNat ≠ 2 ^ 8 - 1 := by
    rw [BitVec.extractLsb'_toNat, Nat.shiftRight_eq_div_pow]; exact h
  unfold Ideal.ofBits Ideal.ieee
  dsimp only
  rw [if_neg e]
  split_ifs
  · exact ⟨_, rfl⟩
  · exact ⟨_, rfl⟩
  · exact ⟨_, rfl⟩
  · exact ⟨_, rfl⟩

theorem hF_real (b : BitVec 16) : ∃ x : ℝ, hF b = (x : EReal) := by
  unfold hF Scalar.select
  split_ifs
  · obtain ⟨x, hx⟩ := ofBits_real 0x33800000#32 (by decide)
    rw [hx]
    exact ⟨_, (EReal.coe_mul _ _).symm⟩
  · refine ofBits_real _ ?_
    have e : (IntOp.addi (IntOp.shli .vector (IntOp.andi (b.setWidth 32) 32767#32) 13#32) 939524096#32).toNat = b.toNat % 32768 * 8192 + 939524096 := by
      have hb := b.isLt
      have e1 : (IntOp.andi (b.setWidth 32) 32767#32).toNat = b.toNat % 32768 := by
        unfold IntOp.andi
        rw [BitVec.toNat_and, BitVec.toNat_setWidth, Nat.mod_eq_of_lt (by omega)]
        exact Nat.and_two_pow_sub_one_eq_mod _ 15
      unfold IntOp.addi IntOp.shli
      rw [if_pos (by decide), BitVec.toNat_add, BitVec.shiftLeft_eq', BitVec.toNat_shiftLeft, e1, Nat.shiftLeft_eq]
      show (b.toNat % 32768 * 2 ^ 13 % 2 ^ 32 + 939524096) % 2 ^ 32 = _
      omega
    rw [e]; omega

/-- That number as a real. -/
def hR (b : BitVec 16) : ℝ := (hF b).toReal
theorem hF_eq (b : BitVec 16) : hF b = ((hR b : ℝ) : EReal) := by
  obtain ⟨x, hx⟩ := hF_real b
  unfold hR; rw [hx, EReal.toReal_coe]

end Cert.Ff

end
-- ==== Proof.Alg2.lean ====
/- The kept scratches as numbers. -/
module

public import proofs.«01_k».proof.Proof.Alg1
public import proofs.«01_k».proof.Proof.Words

@[expose] public section

set_option maxRecDepth 16384

noncomputable section

namespace Cert.Ff

open Idealize.ShloMosaic hiding ix0 ix1 ix2 ix3 ix4 eq_ix1 eq_ix2 eq_ix3 eq_ix4
open Idealize.ShloMosaic.ValueIdx

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over a product of two ranges, by rows. -/
theorem sumSplit {M : Type} [AddCommMonoid M] (N K : ℕ) {T : ℕ} (h : N * K = T) (f : Fin T → M) :
    ∑ q, f q = ∑ i : Fin N, ∑ p : Fin K, f ⟨K * i.val + p.val, by
      have hi := i.isLt; have hp := p.isLt
      calc K * i.val + p.val < K * i.val + K := by omega
        _ = K * (i.val + 1) := by ring
        _ ≤ K * N := Nat.mul_le_mul_left K hi
        _ = T := by rw [Nat.mul_comm, h]⟩ := by
  subst h
  rw [← finProdFinEquiv.sum_comp, Fintype.sum_prod_type]
  exact Finset.sum_congr rfl fun i _ => Finset.sum_congr rfl fun p _ => congrArg f (Fin.ext (Nat.add_comm p.val (K * i.val)))

theorem sum16 {M : Type} [AddCommMonoid M] (f : Fin 16 → M) :
    ∑ j, f j = 0 + f 0 + f 1 + f 2 + f 3 + f 4 + f 5 + f 6 + f 7 + f 8 + f 9 + f 10 + f 11 + f 12 + f 13 + f 14 + f 15 := by
  simp only [Fin.sum_univ_castSucc, Finset.univ_eq_empty, Finset.sum_empty]
  rfl

theorem div_inf (x s : EReal) (h : s = ⊤ ∨ s = ⊥) : Ideal.div x s = 0 := by
  rcases h with h | h <;> subst h <;> simp [Ideal.div]

theorem qv_inf (x s : EReal) (h : s = ⊤ ∨ s = ⊥) : qv x s = 0 := by
  unfold qv
  rw [div_inf x s h]
  have : Ideal.liftRound Ideal.roundHalfEven (0 : EReal) = 0 := by
    have e : (0 : EReal) = ((0 : ℝ) : EReal) := rfl
    rw [e]; show (((Ideal.roundHalfEven (0 : ℝ) : ℤ) : ℝ) : EReal) = _; simp [Ideal.roundHalfEven]
  rw [this]
  rw [max_eq_right (by norm_num : ((-127 : ℝ) : EReal) ≤ 0), min_eq_right (by norm_num : (0 : EReal) ≤ ((127 : ℝ) : EReal))]

/-- A finite number that vanishes with an infinite scale, times the scale. -/
theorem mul_scale (s : EReal) (y : ℝ) (h : s = ⊤ ∨ s = ⊥ → y = 0) : (y : EReal) * s = ((y * s.toReal : ℝ) : EReal) := by
  induction s using EReal.rec with
  | bot => rw [h (Or.inr rfl)]; simp
  | top => rw [h (Or.inl rfl)]; simp
  | coe x => rw [EReal.toReal_coe, EReal.coe_mul]

end Cert.Ff

namespace Cert.KernelIdeal.Gen

open Idealize.ShloMosaic hiding ix0 ix1 ix2 ix3 ix4 eq_ix1 eq_ix2 eq_ix3 eq_ix4
open Idealize.ShloMosaic.ValueIdx Cert.Ff

/-- The scale as a real. -/
def sR (X : FVec Ideal S24x4096 .f32) (r : Fin 24) (j : Fin 16) : ℝ := (scl X r j).toReal

theorem cI_inf (X : FVec Ideal S24x4096 .f32) (r : Fin 24) (j : Fin 16) (k : Fin 256) (h : scl X r j = ⊤ ∨ scl X r j = ⊥) : cI X r (bAt j k) = 0 := by
  have e := qc_toInt (X (ix2 r (bAt j k))) (scl X r j)
  rw [qv_inf _ _ h] at e
  unfold cI cod
  rw [blkOf_bAt]
  have : (((qc (X (ix2 r (bAt j k))) (scl X r j)).toInt : ℝ)) = 0 := by exact_mod_cast e
  exact_mod_cast this

/-! ## The sub-block sums -/

/-- The sum of a sub-block's codes. -/
def zI (X : FVec Ideal S24x4096 .f32) (r : Fin 24) (p : Fin 128) : ℤ :=
  ∑ l : Fin 32, cI X r (bAt (⟨p.val % 16, by omega⟩ : Fin 16) (⟨32 * (p.val / 16) + l.val, by omega⟩ : Fin 256))

theorem sumV_apply (X : FVec Ideal S24x4096 .f32) (j : Fin 16) (r : Fin 24) (n : Fin 128) :
    sumV X j (ix2 r n) = if n.val % 16 = j.val then ((zI X r n * sR X r (⟨n.val % 16, by omega⟩ : Fin 16) : ℝ) : EReal) else 0 := by
  have e : sumV X j (ix2 r n) = Scalar.select (IntOp.cmpi .eq (IntOp.andi (BitVec.ofNat 32 (0 * 128 + n.val)) 15#32) (BitVec.ofNat 32 j.val))
      (matmul dot_S24x256_S256x128_S24x128_1_0_0_1_n_n none (truncf .bf16 (codB X j) bitsLt_bf16_f32) (truncf .bf16 (sitofp .f32 (extui 32 (indI j) natLt_1_32)) bitsLt_bf16_f32) (constant S24x128 .f32 0x00000000#32) (ix2 r n)
        * broadcastTo S24x128 (sclB X j) broadcasts_S24x1_S24x128 (ix2 r n) : EReal) (Ideal.ofBits .f32 0x00000000#32) := rfl
  rw [e, Nat.zero_mul, Nat.zero_add, lane15, cmpi_eq _ _ (by omega) (by omega), lit0]
  by_cases h : n.val % 16 = j.val
  · rw [if_pos h, if_pos h]
    refine Eq.trans (b := _) (if_pos rfl) ?_
    have hj : (⟨n.val % 16, by omega⟩ : Fin 16) = j := Fin.ext h
    have e1 : broadcastTo S24x128 (sclB X j) broadcasts_S24x1_S24x128 (ix2 r n) = scl X r j := by
      refine Eq.trans ?_ (sclB_apply X j r 0)
      exact congrArg (sclB X j) (funext fun a => match a with | ⟨0, _⟩ => rfl | ⟨1, _⟩ => rfl)
    have e2 : matmul dot_S24x256_S256x128_S24x128_1_0_0_1_n_n none (truncf .bf16 (codB X j) bitsLt_bf16_f32) (truncf .bf16 (sitofp .f32 (extui 32 (indI j) natLt_1_32)) bitsLt_bf16_f32) (constant S24x128 .f32 0x00000000#32) (ix2 r n)
        = ((zI X r n : ℝ) : EReal) := by
      refine (mm128 _ _ r n).trans ?_
      have term : ∀ k : Fin 256, (truncf (F := Ideal) .bf16 (codB X j) bitsLt_bf16_f32 (ix2 r k) * truncf (F := Ideal) .bf16 (sitofp .f32 (extui 32 (indI j) natLt_1_32)) bitsLt_bf16_f32 (ix2 k n) : EReal)
          = if n.val / 16 = k.val / 32 then ((cI X r (bAt j k) : ℝ) : EReal) else 0 := fun k => by
        have a1 : (truncf .bf16 (codB X j) bitsLt_bf16_f32 (ix2 r k) : EReal) = ((cI X r (bAt j k) : ℝ) : EReal) := codB_apply X j r k
        have a2 : (truncf (F := Ideal) .bf16 (sitofp .f32 (extui 32 (indI j) natLt_1_32)) bitsLt_bf16_f32 (ix2 k n) : EReal) = ((((indI j (ix2 k n)).setWidth 32).toInt : ℝ) : EReal) := rfl
        rw [indI_apply, oneHot] at a2
        refine (congrArg₂ (· * ·) a1 a2).trans ?_
        by_cases hk : n.val / 16 = k.val / 32
        · rw [if_pos ⟨h, hk⟩, if_pos hk, mul_one]
        · rw [if_neg (fun e => hk e.2), if_neg hk, mul_zero]
      rw [Finset.sum_congr rfl fun k _ => term k, sumSplit 8 32 rfl]
      rw [Finset.sum_eq_single (⟨n.val / 16, by omega⟩ : Fin 8)]
      · unfold zI
        rw [Int.cast_sum, coe_sum]
        refine Finset.sum_congr rfl fun l _ => ?_
        rw [if_pos (by show n.val / 16 = (32 * (n.val / 16) + l.val) / 32; omega)]
        simp only [hj]
      · intro b _ hb
        refine Finset.sum_eq_zero fun l _ => if_neg fun e => hb (Fin.ext ?_)
        have e' : n.val / 16 = (32 * b.val + l.val) / 32 := e
        show b.val = n.val / 16; omega
      · intro h; exact absurd (Finset.mem_univ _) h
    refine (congrArg₂ (· * ·) e2 e1).trans ?_
    rw [hj]
    refine mul_scale _ _ fun hs => ?_
    unfold zI
    rw [hj, Finset.sum_eq_zero fun l _ => cI_inf X r j _ hs]
    exact Int.cast_zero
  · rw [if_neg h, if_neg h]
    exact if_neg (by decide)

/-- A lane of the sums. -/
def gR (X : FVec Ideal S24x4096 .f32) (r : Fin 24) (p : Fin 128) : ℝ := zI X r p * sR X r (⟨p.val % 16, by omega⟩ : Fin 16)

theorem gSum_apply (X : FVec Ideal S24x4096 .f32) (r : Fin 24) (n : Fin 128) : gSum X (ix2 r n) = ((gR X r n : ℝ) : EReal) := by
  have e : gSum X (ix2 r n) = (Ideal.ofBits .f32 0x00000000#32 : EReal) + sumV X 0 (ix2 r n) + sumV X 1 (ix2 r n) + sumV X 2 (ix2 r n) + sumV X 3 (ix2 r n) + sumV X 4 (ix2 r n) + sumV X 5 (ix2 r n) + sumV X 6 (ix2 r n) + sumV X 7 (ix2 r n)
      + sumV X 8 (ix2 r n) + sumV X 9 (ix2 r n) + sumV X 10 (ix2 r n) + sumV X 11 (ix2 r n) + sumV X 12 (ix2 r n) + sumV X 13 (ix2 r n) + sumV X 14 (ix2 r n) + sumV X 15 (ix2 r n) := rfl
  rw [e, lit0]
  refine (sum16 (M := EReal) fun j => sumV X j (ix2 r n)).symm.trans ?_
  rw [Finset.sum_eq_single (⟨n.val % 16, by omega⟩ : Fin 16)]
  · exact (sumV_apply X _ r n).trans (if_pos rfl)
  · intro b _ hb
    exact (sumV_apply X b r n).trans (if_neg fun e => hb (Fin.ext e.symm))
  · intro h; exact absurd (Finset.mem_univ _) h

theorem gPart_apply (X : FVec Ideal S24x4096 .f32) (i : Fin 6) (r : Fin 24) (n : Fin 128) :
    gPart X i (ix2 r n) = if i.val = 0 ∨ i.val = 3 ∨ i.val = 5 then ((gR X r n : ℝ) : EReal) else 0 := by
  have h0 : gSum X (ix2 r n) = ((gR X r n : ℝ) : EReal) := gSum_apply X r n
  have h1 : gRes (gSum X) (ix2 r n) = (0 : EReal) := by
    have e : gRes (gSum X) (ix2 r n) = (gSum X (ix2 r n) - gSum X (ix2 r n) : EReal) := rfl
    rw [e, h0, ← EReal.coe_sub, sub_self]; rfl
  have h2 : gRes (gRes (gSum X)) (ix2 r n) = (0 : EReal) := by
    have e : gRes (gRes (gSum X)) (ix2 r n) = (gRes (gSum X) (ix2 r n) - gRes (gSum X) (ix2 r n) : EReal) := rfl
    rw [e, h1, sub_zero]
  match i with
  | 0 => exact (congrFun (shapeCast_self _ _) _).trans (h0.trans (if_pos (Or.inl rfl)).symm)
  | 1 => exact (congrFun (shapeCast_self _ _) _).trans (h1.trans (if_neg (by decide)).symm)
  | 2 => exact (congrFun (shapeCast_self _ _) _).trans (h2.trans (if_neg (by decide)).symm)
  | 3 => exact (congrFun (shapeCast_self _ _) _).trans (h0.trans (if_pos (by decide)).symm)
  | 4 => exact (congrFun (shapeCast_self _ _) _).trans (h1.trans (if_neg (by decide)).symm)
  | 5 => exact (congrFun (shapeCast_self _ _) _).trans (h0.trans (if_pos (by decide)).symm)

/-! ## The scratches read back -/

/-- The whole scratch of its rows. -/
def lhT (w : Fin 4 → Fin 4 → Vec Ideal S1x192x256 .bf16) : Vec Ideal S16x192x256 .bf16 := fun y => w (⟨(y 0).val / 4, by have h0 : (y 0).val < 16 := (y 0).isLt; omega⟩ : Fin 4) (⟨(y 0).val % 4, by omega⟩ : Fin 4) (ix3 (0 : Fin 1) (⟨(y 1).val, (y 1).isLt⟩ : Fin 192) (⟨(y 2).val, (y 2).isLt⟩ : Fin 256))

theorem lh_piece (w : Fin 4 → Fin 4 → Vec Ideal S1x192x256 .bf16) (B c : Fin 4) (o : ℕ) (ho : o = 4 * B.val + c.val) (inb : ∀ a, (![o, 0, 0] : Fin 3 → ℕ) a + S1x192x256.size a ≤ S16x192x256.size a) (x : S1x192x256.Idx) :
    w B c x = lhT w ((Rect.unit (s := S16x192x256) ![o, 0, 0] S1x192x256.size inb).emb x) := by
  have b0 : (x 0).val < 1 := (x 0).isLt
  unfold lhT
  refine congr (congrArg₂ w (Fin.ext ?_) (Fin.ext ?_)) ?_
  · show B.val = (o + 1 * (x 0).val) / 4; omega
  · show c.val = (o + 1 * (x 0).val) % 4; omega
  · exact funext fun a => match a with
    | ⟨0, _⟩ => Fin.ext (by show (x 0).val = 0; omega)
    | ⟨1, _⟩ => Fin.ext (by show (x 1).val = 0 + 1 * (x 1).val; omega)
    | ⟨2, _⟩ => Fin.ext (by show (x 2).val = 0 + 1 * (x 2).val; omega)

theorem lh_gen (w : Fin 4 → Fin 4 → Vec Ideal S1x192x256 .bf16) : View.canon (
      [⟨Rect.unit (s := S16x192x256) ![15, 0, 0] S1x192x256.size inb_S16x192x256_S1x192x256_15_0_0, w 3 3⟩,
       ⟨Rect.unit (s := S16x192x256) ![11, 0, 0] S1x192x256.size inb_S16x192x256_S1x192x256_11_0_0, w 2 3⟩,
       ⟨Rect.unit (s := S16x192x256) ![7, 0, 0] S1x192x256.size inb_S16x192x256_S1x192x256_7_0_0, w 1 3⟩,
       ⟨Rect.unit (s := S16x192x256) ![3, 0, 0] S1x192x256.size inb_S16x192x256_S1x192x256_3_0_0, w 0 3⟩,
       ⟨Rect.unit (s := S16x192x256) ![14, 0, 0] S1x192x256.size inb_S16x192x256_S1x192x256_14_0_0, w 3 2⟩,
       ⟨Rect.unit (s := S16x192x256) ![10, 0, 0] S1x192x256.size inb_S16x192x256_S1x192x256_10_0_0, w 2 2⟩,
       ⟨Rect.unit (s := S16x192x256) ![6, 0, 0] S1x192x256.size inb_S16x192x256_S1x192x256_6_0_0, w 1 2⟩,
       ⟨Rect.unit (s := S16x192x256) ![2, 0, 0] S1x192x256.size inb_S16x192x256_S1x192x256_2_0_0, w 0 2⟩,
       ⟨Rect.unit (s := S16x192x256) ![13, 0, 0] S1x192x256.size inb_S16x192x256_S1x192x256_13_0_0, w 3 1⟩,
       ⟨Rect.unit (s := S16x192x256) ![9, 0, 0] S1x192x256.size inb_S16x192x256_S1x192x256_9_0_0, w 2 1⟩,
       ⟨Rect.unit (s := S16x192x256) ![5, 0, 0] S1x192x256.size inb_S16x192x256_S1x192x256_5_0_0, w 1 1⟩,
       ⟨Rect.unit (s := S16x192x256) ![1, 0, 0] S1x192x256.size inb_S16x192x256_S1x192x256_1_0_0, w 0 1⟩,
       ⟨Rect.unit (s := S16x192x256) ![12, 0, 0] S1x192x256.size inb_S16x192x256_S1x192x256_12_0_0, w 3 0⟩,
       ⟨Rect.unit (s := S16x192x256) ![8, 0, 0] S1x192x256.size inb_S16x192x256_S1x192x256_8_0_0, w 2 0⟩,
       ⟨Rect.unit (s := S16x192x256) ![4, 0, 0] S1x192x256.size inb_S16x192x256_S1x192x256_4_0_0, w 1 0⟩,
       ⟨Rect.unit (s := S16x192x256) ![0, 0, 0] S1x192x256.size inb_S16x192x256_S1x192x256_0_0_0, w 0 0⟩] : List (View.Piece (Elt Ideal) S16x192x256 .bf16)) = lhT w := by
  funext y
  refine View.canon_apply_of_pieces (lhT w) _ ?_ y ?_
  rotate_left
  · exact View.cover_of_tiledL (s := S16x192x256) _ S1x192x256.size (by sl_kernel_rfl) y
  intro p hp
  simp only [List.mem_cons, List.not_mem_nil, or_false] at hp
  rcases hp with rfl | rfl | rfl | rfl | rfl | rfl | rfl | rfl | rfl | rfl | rfl | rfl | rfl | rfl | rfl | rfl
  · exact lh_piece w 3 3 15 rfl inb_S16x192x256_S1x192x256_15_0_0
  · exact lh_piece w 2 3 11 rfl inb_S16x192x256_S1x192x256_11_0_0
  · exact lh_piece w 1 3 7 rfl inb_S16x192x256_S1x192x256_7_0_0
  · exact lh_piece w 0 3 3 rfl inb_S16x192x256_S1x192x256_3_0_0
  · exact lh_piece w 3 2 14 rfl inb_S16x192x256_S1x192x256_14_0_0
  · exact lh_piece w 2 2 10 rfl inb_S16x192x256_S1x192x256_10_0_0
  · exact lh_piece w 1 2 6 rfl inb_S16x192x256_S1x192x256_6_0_0
  · exact lh_piece w 0 2 2 rfl inb_S16x192x256_S1x192x256_2_0_0
  · exact lh_piece w 3 1 13 rfl inb_S16x192x256_S1x192x256_13_0_0
  · exact lh_piece w 2 1 9 rfl inb_S16x192x256_S1x192x256_9_0_0
  · exact lh_piece w 1 1 5 rfl inb_S16x192x256_S1x192x256_5_0_0
  · exact lh_piece w 0 1 1 rfl inb_S16x192x256_S1x192x256_1_0_0
  · exact lh_piece w 3 0 12 rfl inb_S16x192x256_S1x192x256_12_0_0
  · exact lh_piece w 2 0 8 rfl inb_S16x192x256_S1x192x256_8_0_0
  · exact lh_piece w 1 0 4 rfl inb_S16x192x256_S1x192x256_4_0_0
  · exact lh_piece w 0 0 0 rfl inb_S16x192x256_S1x192x256_0_0_0

/-- The whole scratch of its rows. -/
def asT (w : Fin 16 → Vec Ideal S1x24x256 .f32) : Vec Ideal S16x24x256 .f32 := fun y => w (⟨(y 0).val, (y 0).isLt⟩ : Fin 16) (ix3 (0 : Fin 1) (⟨(y 1).val, (y 1).isLt⟩ : Fin 24) (⟨(y 2).val, (y 2).isLt⟩ : Fin 256))

theorem as_piece (w : Fin 16 → Vec Ideal S1x24x256 .f32) (j : Fin 16) (o : ℕ) (ho : o = j.val) (inb : ∀ a, (![o, 0, 0] : Fin 3 → ℕ) a + S1x24x256.size a ≤ S16x24x256.size a) (x : S1x24x256.Idx) :
    w j x = asT w ((Rect.unit (s := S16x24x256) ![o, 0, 0] S1x24x256.size inb).emb x) := by
  have b0 : (x 0).val < 1 := (x 0).isLt
  unfold asT
  refine congr (congrArg w (Fin.ext ?_)) ?_
  · show j.val = o + 1 * (x 0).val; omega
  · exact funext fun a => match a with
    | ⟨0, _⟩ => Fin.ext (by show (x 0).val = 0; omega)
    | ⟨1, _⟩ => Fin.ext (by show (x 1).val = 0 + 1 * (x 1).val; omega)
    | ⟨2, _⟩ => Fin.ext (by show (x 2).val = 0 + 1 * (x 2).val; omega)

theorem as_gen (w : Fin 16 → Vec Ideal S1x24x256 .f32) : View.canon (
      [⟨Rect.unit (s := S16x24x256) ![15, 0, 0] S1x24x256.size inb_S16x24x256_S1x24x256_15_0_0, w 15⟩,
       ⟨Rect.unit (s := S16x24x256) ![14, 0, 0] S1x24x256.size inb_S16x24x256_S1x24x256_14_0_0, w 14⟩,
       ⟨Rect.unit (s := S16x24x256) ![13, 0, 0] S1x24x256.size inb_S16x24x256_S1x24x256_13_0_0, w 13⟩,
       ⟨Rect.unit (s := S16x24x256) ![12, 0, 0] S1x24x256.size inb_S16x24x256_S1x24x256_12_0_0, w 12⟩,
       ⟨Rect.unit (s := S16x24x256) ![11, 0, 0] S1x24x256.size inb_S16x24x256_S1x24x256_11_0_0, w 11⟩,
       ⟨Rect.unit (s := S16x24x256) ![10, 0, 0] S1x24x256.size inb_S16x24x256_S1x24x256_10_0_0, w 10⟩,
       ⟨Rect.unit (s := S16x24x256) ![9, 0, 0] S1x24x256.size inb_S16x24x256_S1x24x256_9_0_0, w 9⟩,
       ⟨Rect.unit (s := S16x24x256) ![8, 0, 0] S1x24x256.size inb_S16x24x256_S1x24x256_8_0_0, w 8⟩,
       ⟨Rect.unit (s := S16x24x256) ![7, 0, 0] S1x24x256.size inb_S16x24x256_S1x24x256_7_0_0, w 7⟩,
       ⟨Rect.unit (s := S16x24x256) ![6, 0, 0] S1x24x256.size inb_S16x24x256_S1x24x256_6_0_0, w 6⟩,
       ⟨Rect.unit (s := S16x24x256) ![5, 0, 0] S1x24x256.size inb_S16x24x256_S1x24x256_5_0_0, w 5⟩,
       ⟨Rect.unit (s := S16x24x256) ![4, 0, 0] S1x24x256.size inb_S16x24x256_S1x24x256_4_0_0, w 4⟩,
       ⟨Rect.unit (s := S16x24x256) ![3, 0, 0] S1x24x256.size inb_S16x24x256_S1x24x256_3_0_0, w 3⟩,
       ⟨Rect.unit (s := S16x24x256) ![2, 0, 0] S1x24x256.size inb_S16x24x256_S1x24x256_2_0_0, w 2⟩,
       ⟨Rect.unit (s := S16x24x256) ![1, 0, 0] S1x24x256.size inb_S16x24x256_S1x24x256_1_0_0, w 1⟩,
       ⟨Rect.unit (s := S16x24x256) ![0, 0, 0] S1x24x256.size inb_S16x24x256_S1x24x256_0_0_0, w 0⟩] : List (View.Piece (Elt Ideal) S16x24x256 .f32)) = asT w := by
  funext y
  refine View.canon_apply_of_pieces (asT w) _ ?_ y ?_
  rotate_left
  · exact View.cover_of_tiledL (s := S16x24x256) _ S1x24x256.size (by sl_kernel_rfl) y
  intro p hp
  simp only [List.mem_cons, List.not_mem_nil, or_false] at hp
  rcases hp with rfl | rfl | rfl | rfl | rfl | rfl | rfl | rfl | rfl | rfl | rfl | rfl | rfl | rfl | rfl | rfl
  · exact as_piece w 15 15 rfl inb_S16x24x256_S1x24x256_15_0_0
  · exact as_piece w 14 14 rfl inb_S16x24x256_S1x24x256_14_0_0
  · exact as_piece w 13 13 rfl inb_S16x24x256_S1x24x256_13_0_0
  · exact as_piece w 12 12 rfl inb_S16x24x256_S1x24x256_12_0_0
  · exact as_piece w 11 11 rfl inb_S16x24x256_S1x24x256_11_0_0
  · exact as_piece w 10 10 rfl inb_S16x24x256_S1x24x256_10_0_0
  · exact as_piece w 9 9 rfl inb_S16x24x256_S1x24x256_9_0_0
  · exact as_piece w 8 8 rfl inb_S16x24x256_S1x24x256_8_0_0
  · exact as_piece w 7 7 rfl inb_S16x24x256_S1x24x256_7_0_0
  · exact as_piece w 6 6 rfl inb_S16x24x256_S1x24x256_6_0_0
  · exact as_piece w 5 5 rfl inb_S16x24x256_S1x24x256_5_0_0
  · exact as_piece w 4 4 rfl inb_S16x24x256_S1x24x256_4_0_0
  · exact as_piece w 3 3 rfl inb_S16x24x256_S1x24x256_3_0_0
  · exact as_piece w 2 2 rfl inb_S16x24x256_S1x24x256_2_0_0
  · exact as_piece w 1 1 rfl inb_S16x24x256_S1x24x256_1_0_0
  · exact as_piece w 0 0 rfl inb_S16x24x256_S1x24x256_0_0_0

/-- The sums' scratch of its parts. -/
def gT (w : Fin 6 → FVec Ideal S24x128 .bf16) : Vec Ideal S24x768 .bf16 := fun y =>
  w (⟨(y 1).val / 128, by have h1 : (y 1).val < 768 := (y 1).isLt; omega⟩ : Fin 6) (ix2 (⟨(y 0).val, (y 0).isLt⟩ : Fin 24) (⟨(y 1).val % 128, by omega⟩ : Fin 128))

theorem g_piece (w : Fin 6 → FVec Ideal S24x128 .bf16) (i : Fin 6) (o : ℕ) (ho : o = 128 * i.val) (inb : ∀ a, (![0, o] : Fin 2 → ℕ) a + S24x128.size a ≤ S24x768.size a) (x : S24x128.Idx) :
    w i x = gT w ((Rect.unit (s := S24x768) ![0, o] S24x128.size inb).emb x) := by
  have b1 : (x 1).val < 128 := (x 1).isLt
  unfold gT
  refine congr (congrArg w (Fin.ext ?_)) ?_
  · show i.val = (o + 1 * (x 1).val) / 128; omega
  · exact funext fun a => match a with
    | ⟨0, _⟩ => Fin.ext (by show (x 0).val = 0 + 1 * (x 0).val; omega)
    | ⟨1, _⟩ => Fin.ext (by show (x 1).val = (o + 1 * (x 1).val) % 128; omega)

theorem g_gen (w : Fin 6 → FVec Ideal S24x128 .bf16) : View.canon (
      [⟨Rect.unit (s := S24x768) ![0, 640] S24x128.size inb_S24x768_S24x128_0_640, w 5⟩,
       ⟨Rect.unit (s := S24x768) ![0, 512] S24x128.size inb_S24x768_S24x128_0_512, w 4⟩,
       ⟨Rect.unit (s := S24x768) ![0, 384] S24x128.size inb_S24x768_S24x128_0_384, w 3⟩,
       ⟨Rect.unit (s := S24x768) ![0, 256] S24x128.size inb_S24x768_S24x128_0_256, w 2⟩,
       ⟨Rect.unit (s := S24x768) ![0, 128] S24x128.size inb_S24x768_S24x128_0_128, w 1⟩,
       ⟨Rect.unit (s := S24x768) ![0, 0] S24x128.size inb_S24x768_S24x128_0_0, w 0⟩] : List (View.Piece (Elt Ideal) S24x768 .bf16)) = gT w := by
  funext y
  refine View.canon_apply_of_pieces (gT w) _ ?_ y ?_
  rotate_left
  · exact View.cover_of_tiledL (s := S24x768) _ S24x128.size (by sl_kernel_rfl) y
  intro p hp
  simp only [List.mem_cons, List.not_mem_nil, or_false] at hp
  rcases hp with rfl | rfl | rfl | rfl | rfl | rfl
  · exact g_piece w 5 640 rfl inb_S24x768_S24x128_0_640
  · exact g_piece w 4 512 rfl inb_S24x768_S24x128_0_512
  · exact g_piece w 3 384 rfl inb_S24x768_S24x128_0_384
  · exact g_piece w 2 256 rfl inb_S24x768_S24x128_0_256
  · exact g_piece w 1 128 rfl inb_S24x768_S24x128_0_128
  · exact g_piece w 0 0 rfl inb_S24x768_S24x128_0_0

theorem lh_at (X : FVec Ideal S24x4096 .f32) (B c : Fin 4) (R : Fin 192) (n : Fin 256) : lhF (View.canon (hs0 X)) B c (ix3 (0 : Fin 1) R n) = rowsV X B c (ix3 (0 : Fin 1) R n) := by
  have e : View.canon (hs0 X) = lhT (rowsV X) := lh_gen (rowsV X)
  rw [e]
  unfold lhF lhT
  refine congr (congrArg₂ (rowsV X) (Fin.ext ?_) (Fin.ext ?_)) rfl
  · show (4 * B.val + c.val) / 4 = B.val; omega
  · show (4 * B.val + c.val) % 4 = c.val; omega
theorem as_at (X : FVec Ideal S24x4096 .f32) (B c : Fin 4) (R : Fin 24) (n : Fin 256) : asF (View.canon (hs1 X)) B c (ix3 (0 : Fin 1) R n) = asV X ⟨4 * B.val + c.val, by omega⟩ (ix3 (0 : Fin 1) R n) := by
  have e : View.canon (hs1 X) = asT (asV X) := as_gen (asV X)
  rw [e]; rfl
theorem g_at (X : FVec Ideal S24x4096 .f32) (i : Fin 6) (r : Fin 24) (p : Fin 128) (q : Fin 768) (hq : q.val = 128 * i.val + p.val) :
    View.canon (hs2 X) (ix2 r q) = gPart X i (ix2 r p) := by
  have e : View.canon (hs2 X) = gT (gPart X) := g_gen (gPart X)
  rw [e]
  unfold gT
  refine congr (congrArg (gPart X) (Fin.ext ?_)) ?_
  · show q.val / 128 = i.val; omega
  · exact funext fun a => match a with
    | ⟨0, _⟩ => rfl
    | ⟨1, _⟩ => Fin.ext (by show q.val % 128 = p.val; omega)

end Cert.KernelIdeal.Gen

end
-- ==== Proof.Alg3.lean ====
/- One weight tile as a number: the blocks' products, scaled. -/
module

public import proofs.«01_k».proof.Proof.Alg2
public import Idealize.ShloMosaic.Lib.BitcastFour

@[expose] public section

set_option maxRecDepth 16384

noncomputable section

namespace Cert.Ff

open Idealize.ShloMosaic hiding ix0 ix1 ix2 ix3 ix4 eq_ix1 eq_ix2 eq_ix3 eq_ix4
open Idealize.ShloMosaic.ValueIdx

/-- A sub-block's product of codes and nibbles. -/
def dotN (k : Fin 256 → ℤ) (y : Fin 128 → BitVec 8) (j : Fin 8) : ℤ :=
  ∑ l : Fin 32, k ⟨32 * j.val + l.val, by omega⟩ * (nibN (y ⟨32 * (j.val / 2) + l.val, by omega⟩) (j.val % 2) : ℤ)
/-- A sub-block's sum of codes. -/
def sumN (k : Fin 256 → ℤ) (j : Fin 8) : ℤ := ∑ l : Fin 32, k ⟨32 * j.val + l.val, by omega⟩

/-- A row of weights times a row of quantised activations: codes `k`, scales `s`, the weights' bytes `y`, scale bytes `t`, factors `d`
    and minimum factors `m`. -/
def rowR (k : Fin 16 → Fin 256 → ℤ) (s : Fin 16 → ℝ) (y : Fin 16 → Fin 128 → BitVec 8) (t : Fin 16 → Fin 12 → BitVec 8) (d m : Fin 16 → BitVec 16) : ℝ :=
  ∑ b, s b * (hR (d b) * ((∑ j, (scN (t b) j : ℤ) * dotN (k b) (y b) j : ℤ) : ℝ) - hR (m b) * ∑ j, (sumN (k b) j : ℝ) * (mnZ (t b) j : ℝ))

/-- Two halves of columns, read at a column. -/
theorem catCols {α : Type} {N K M C : ℕ} (xs : List ((s : Shape) × (s.Idx → α))) (h : Shape.Concatenates (xs.map (·.1)) ⟨2, ![C, M]⟩ (1 : Fin 2))
    (f : Fin N → ((⟨2, ![C, K]⟩ : Shape).Idx → α)) (hf : xs = List.ofFn fun n : Fin N => (⟨⟨2, ![C, K]⟩, f n⟩ : (s : Shape) × (s.Idx → α)))
    (R : Fin M) (q : Fin N) (r : Fin K) (hR : R.val = K * q.val + r.val) (n : Fin C) :
    concatenate ⟨2, ![C, M]⟩ (1 : Fin 2) xs h (ix2 n R) = f q (ix2 n r) := by
  subst hf
  have hr := r.isLt
  have hK : 0 < K := by omega
  refine concatenate_ofFn_apply (t := ⟨2, ![C, M]⟩) (s₁ := ⟨2, ![C, K]⟩) (1 : Fin 2) f h rfl K rfl (ix2 n R) q ?_ (ix2 n r) ?_ ?_
  · show R.val / K = q.val
    rw [hR, Nat.mul_add_div hK, Nat.div_eq_of_lt hr, Nat.add_zero]
  · show r.val = R.val % K
    rw [hR, Nat.mul_add_mod, Nat.mod_eq_of_lt hr]
  · intro b hb
    match b with
    | ⟨1, _⟩ => exact absurd rfl hb
    | ⟨0, _⟩ => rfl

end Cert.Ff

namespace Cert.KernelIdeal.Gen

open Idealize.ShloMosaic hiding ix0 ix1 ix2 ix3 ix4 eq_ix1 eq_ix2 eq_ix3 eq_ix4
open Idealize.ShloMosaic.ValueIdx Cert.Ff

/-! ## The weights' leaves -/

theorem byteV_apply (v : Vec Ideal S1x16x256 .i8) (b : Fin 16) (n : Fin 256) : byteV (F := Ideal) v (ix2 b n) = (v (ix3 (0 : Fin 1) b n)).setWidth 32 := by
  have e : byteV (F := Ideal) v (ix2 b n) = (shapeCast S16x256 v shapeCasts_S1x16x256_S16x256 (ix2 b n)).setWidth 32 := rfl
  rw [e]
  refine congrArg (BitVec.setWidth 32) (shapeCast_apply _ _ (ix2 b n) (ix3 (0 : Fin 1) b n) ?_)
  rw [Shape.rowMajor_val_two, Shape.rowMajor_val_three]; show (0 * 16 + b.val) * 256 + n.val = b.val * 256 + n.val; omega

theorem scI_apply (SC : Fin 12 → Vec Ideal S1x16x256 .i8) (b : Fin 16) (n : Fin 256) (j : Fin 8) :
    scI (F := Ideal) SC j (ix2 b n) = scB (fun i => SC i (ix3 (0 : Fin 1) b n)) j := by
  have h := fun i => byteV_apply (SC i) b n
  revert j
  refine forall8 ?_ ?_ ?_ ?_ ?_ ?_ ?_ ?_
  · exact congrArg (fun x => IntOp.andi x 63#32) (h 0)
  · exact congrArg (fun x => IntOp.andi x 63#32) (h 1)
  · exact congrArg (fun x => IntOp.andi x 63#32) (h 2)
  · exact congrArg (fun x => IntOp.andi x 63#32) (h 3)
  · exact congrArg₂ (fun x y => IntOp.ori (IntOp.andi x 15#32) (IntOp.shli .vector (IntOp.shrsi .vector y 6#32) 4#32)) (h 8) (h 0)
  · exact congrArg₂ (fun x y => IntOp.ori (IntOp.andi x 15#32) (IntOp.shli .vector (IntOp.shrsi .vector y 6#32) 4#32)) (h 9) (h 1)
  · exact congrArg₂ (fun x y => IntOp.ori (IntOp.andi x 15#32) (IntOp.shli .vector (IntOp.shrsi .vector y 6#32) 4#32)) (h 10) (h 2)
  · exact congrArg₂ (fun x y => IntOp.ori (IntOp.andi x 15#32) (IntOp.shli .vector (IntOp.shrsi .vector y 6#32) 4#32)) (h 11) (h 3)

theorem mnI_apply (SC : Fin 12 → Vec Ideal S1x16x256 .i8) (b : Fin 16) (n : Fin 256) (j : Fin 8) :
    mnI (F := Ideal) SC j (ix2 b n) = mnB (fun i => SC i (ix3 (0 : Fin 1) b n)) j := by
  have h := fun i => byteV_apply (SC i) b n
  revert j
  refine forall8 ?_ ?_ ?_ ?_ ?_ ?_ ?_ ?_
  · exact congrArg (fun x => IntOp.andi x 63#32) (h 4)
  · exact congrArg (fun x => IntOp.andi x 63#32) (h 5)
  · exact congrArg (fun x => IntOp.andi x 63#32) (h 6)
  · exact congrArg (fun x => IntOp.andi x 63#32) (h 7)
  · exact congrArg₂ (fun x y => IntOp.ori (IntOp.shrsi .vector x 4#32) (IntOp.shli .vector (IntOp.shrsi .vector y 6#32) 4#32)) (h 8) (h 4)
  · exact congrArg₂ (fun x y => IntOp.ori (IntOp.shrsi .vector x 4#32) (IntOp.shli .vector (IntOp.shrsi .vector y 6#32) 4#32)) (h 9) (h 5)
  · exact congrArg₂ (fun x y => IntOp.ori (IntOp.shrsi .vector x 4#32) (IntOp.shli .vector (IntOp.shrsi .vector y 6#32) 4#32)) (h 10) (h 6)
  · exact congrArg₂ (fun x y => IntOp.ori (IntOp.shrsi .vector x 4#32) (IntOp.shli .vector (IntOp.shrsi .vector y 6#32) 4#32)) (h 11) (h 7)

theorem f16V_apply (v : Vec Ideal S16x256 .i16) (b : Fin 16) (n : Fin 256) : f16V v (ix2 b n) = ((hR (v (ix2 b n)) : ℝ) : EReal) := by
  rw [← hF_eq]
  unfold f16V k0_pay494
  rw [shapeCast_self]
  rfl

theorem scV_apply (SC : Fin 12 → Vec Ideal S1x16x256 .i8) (j : Fin 8) (b : Fin 16) (n : Fin 256) :
    scV SC j (ix3 (0 : Fin 1) b n) = ((((scN (fun i => SC i (ix3 (0 : Fin 1) b n)) j : ℕ) : ℝ)) : EReal) := by
  unfold scV
  refine (shapeCast_apply _ _ (ix3 (0 : Fin 1) b n) (ix2 b n) ?_).trans ?_
  · rw [Shape.rowMajor_val_two, Shape.rowMajor_val_three]; show b.val * 256 + n.val = (0 * 16 + b.val) * 256 + n.val; omega
  have e : sitofp (F := Ideal) .f32 (scI (F := Ideal) SC j) (ix2 b n) = (((scI (F := Ideal) SC j (ix2 b n)).toInt : ℝ) : EReal) := rfl
  rw [e, scI_apply, scB_toInt, Int.cast_natCast]

theorem mnV_apply (DM : Vec Ideal S16x256 .i16) (SC : Fin 12 → Vec Ideal S1x16x256 .i8) (j : Fin 8) (b : Fin 16) (n : Fin 256) :
    mnV DM SC j (ix2 b n) = ((mnZ (fun i => SC i (ix3 (0 : Fin 1) b n)) j * hR (DM (ix2 b n)) : ℝ) : EReal) := by
  have e : mnV DM SC j (ix2 b n) = ((((mnI (F := Ideal) SC j (ix2 b n)).toInt : ℝ) : EReal) * f16V DM (ix2 b n) : EReal) := rfl
  rw [e, mnI_apply, f16V_apply, EReal.coe_mul]; rfl

/-! ## The nibbles -/

theorem wordsV_byte (q : Vec Ideal S128x4x128 .i8) (L n : Fin 128) (g : Fin 8) :
    (wordsV (F := Ideal) q (ix3 (0 : Fin 1) L n)).toNat / 2 ^ (4 * g.val) % 16 = nibN (q (ix3 n (⟨g.val / 2, by omega⟩ : Fin 4) L)) (g.val % 2) := by
  have e : wordsV (F := Ideal) q (ix3 (0 : Fin 1) L n) = bitcast S128x1x128 32 q bitcasts_S128x4x128_w8_S128x1x128_w32 (ix3 n (0 : Fin 1) L) := by
    unfold wordsV
    refine (shapeCast_apply _ _ (ix3 (0 : Fin 1) L n) (ix2 L n) ?_).trans ?_
    · rw [Shape.rowMajor_val_two, Shape.rowMajor_val_three]; show L.val * 128 + n.val = (0 * 128 + L.val) * 128 + n.val; omega
    have e1 : transpose S128x128 [1, 0] (shapeCast S128x128 (bitcast S128x1x128 32 q bitcasts_S128x4x128_w8_S128x1x128_w32) shapeCasts_S128x1x128_S128x128) transposes_S128x128_p1_0_S128x128 (ix2 L n)
        = shapeCast S128x128 (bitcast S128x1x128 32 q bitcasts_S128x4x128_w8_S128x1x128_w32) shapeCasts_S128x1x128_S128x128 (ix2 n L) := by
      unfold transpose
      exact congrArg (shapeCast S128x128 (bitcast S128x1x128 32 q bitcasts_S128x4x128_w8_S128x1x128_w32) shapeCasts_S128x1x128_S128x128) (funext fun a => match a with | ⟨0, _⟩ => rfl | ⟨1, _⟩ => rfl)
    refine e1.trans (shapeCast_apply _ _ (ix2 n L) (ix3 n (0 : Fin 1) L) ?_)
    rw [Shape.rowMajor_val_two, Shape.rowMajor_val_three]; show (n.val * 1 + 0) * 128 + L.val = n.val * 128 + L.val; omega
  rw [e]
  refine nib_word _ _ g.val fun i hi => ?_
  rw [bitcast_8_32_getLsbD q bitcasts_S128x4x128_w8_S128x1x128_w32 _ (4 * g.val + i) (by omega)]
  have h8 : (4 * g.val + i) % 8 = 4 * (g.val % 2) + i := by omega
  rw [h8]
  congr 2
  funext c
  match c with
  | ⟨0, _⟩ => exact Fin.ext ((bitcasts_S128x4x128_w8_S128x1x128_w32.srcIdx_other _ _ _ ⟨0, by decide⟩ (by show ¬ 0 + 2 = 3; omega)))
  | ⟨1, _⟩ => exact Fin.ext ((bitcasts_S128x4x128_w8_S128x1x128_w32.srcIdx_row _ _ _ ⟨1, by decide⟩ rfl).trans (by show 4 * 0 + (4 * g.val + i) / 8 = g.val / 2; omega))
  | ⟨2, _⟩ => exact Fin.ext ((bitcasts_S128x4x128_w8_S128x1x128_w32.srcIdx_other _ _ _ ⟨2, by decide⟩ (by show ¬ 2 + 2 = 3; omega)))

theorem nibV_apply (t0 t1 : Vec Ideal S1x32x128 .i32) (l : Fin 32) (g : Fin 8) (h : Fin 2) (m : Fin 128) (k n : Fin 256) (hk : k.val = 8 * l.val + g.val) (hn : n.val = 128 * h.val + m.val) :
    nibV t0 t1 (ix2 k n) = (((((![t0, t1] : Fin 2 → Vec Ideal S1x32x128 .i32) h (ix3 (0 : Fin 1) l m)).toNat / 2 ^ (4 * g.val) % 16 : ℕ) : ℝ) : EReal) := by
  have hg := g.isLt
  unfold nibV
  generalize hW : (shapeCast S256x256 _ shapeCasts_S32x8x256_S256x256 : Vec Ideal S256x256 .i32) = W
  have e : truncf (F := Ideal) .bf16 (sitofp .f32 (andi (shrui W (muli (andi (iota .tc S256x256 32 [0] iota_S256x256_d0_w32) (broadcast S256x256 7#32)) (broadcast S256x256 4#32))) (broadcast S256x256 15#32))) bitsLt_bf16_f32 (ix2 k n)
      = (((IntOp.andi (IntOp.shrui .vector (W (ix2 k n)) (IntOp.muli (IntOp.andi (BitVec.ofNat 32 (0 * 256 + k.val)) 7#32) 4#32)) 15#32).toInt : ℝ) : EReal) := rfl
  refine Eq.trans (b := _) e ?_
  rw [Nat.zero_mul, Nat.zero_add, shiftAmt, show k.val % 8 = g.val by omega, unpack_toInt _ _ hg, Int.cast_natCast]
  have eW : W (ix2 k n) = (![t0, t1] : Fin 2 → Vec Ideal S1x32x128 .i32) h (ix3 (0 : Fin 1) l m) := by
    rw [← hW]
    refine (shapeCast_apply _ _ (ix2 k n) (ix3 l g n) ?_).trans ?_
    · rw [Shape.rowMajor_val_two, Shape.rowMajor_val_three]; show (l.val * 8 + g.val) * 256 + n.val = k.val * 256 + n.val; omega
    rw [shapeCast_self]
    have e1 : ∀ Z : Vec Ideal S32x1x256 .i32, broadcastTo S32x8x256 Z broadcasts_S32x1x256_S32x8x256 (ix3 l g n) = Z (ix3 l (0 : Fin 1) n) := fun Z =>
      congrArg Z (funext fun a => match a with | ⟨0, _⟩ => rfl | ⟨1, _⟩ => rfl | ⟨2, _⟩ => rfl)
    refine (e1 _).trans ?_
    refine (shapeCast_apply _ _ (ix3 l (0 : Fin 1) n) (ix2 l n) ?_).trans ?_
    · rw [Shape.rowMajor_val_two, Shape.rowMajor_val_three]; show l.val * 256 + n.val = (l.val * 1 + 0) * 256 + n.val; omega
    refine (catCols (N := 2) (K := 128) (M := 256) (C := 32) _ _ (fun h => shapeCast S32x128 ((![t0, t1] : Fin 2 → Vec Ideal S1x32x128 .i32) h) shapeCasts_S1x32x128_S32x128) rfl n h m hn l).trans ?_
    refine shapeCast_apply _ _ (ix2 l m) (ix3 (0 : Fin 1) l m) ?_
    rw [Shape.rowMajor_val_two, Shape.rowMajor_val_three]; show (0 * 32 + l.val) * 128 + m.val = l.val * 128 + m.val; omega
  rw [eW]

theorem pairFun {α : Type} (f : Fin 2 → α) (h : Fin 2) : (![f 0, f 1] : Fin 2 → α) h = f h := match h with | 0 => rfl | 1 => rfl

/-- The nibble a lane of the unpacked words holds. -/
theorem nib_at (xq : Vec Ideal S512x16x128 .i8) (sub : Fin 2) (B c : Fin 4) (l : Fin 32) (g : Fin 8) (k n : Fin 256) (hk : k.val = 8 * l.val + g.val) :
    nibV (trF xq sub B c 0) (trF xq sub B c 1) (ix2 k n)
      = (((nibN (xq (ix3 (⟨256 * sub.val + n.val, by omega⟩ : Fin 512) (⟨4 * B.val + g.val / 2, by omega⟩ : Fin 16) (⟨32 * c.val + l.val, by omega⟩ : Fin 128))) (g.val % 2) : ℕ) : ℝ) : EReal) := by
  refine (nibV_apply _ _ l g ⟨n.val / 128, by omega⟩ ⟨n.val % 128, by omega⟩ k n hk (by show n.val = 128 * (n.val / 128) + n.val % 128; omega)).trans ?_
  have e : ∀ h : Fin 2, (![trF xq sub B c 0, trF xq sub B c 1] : Fin 2 → Vec Ideal S1x32x128 .i32) h = trF xq sub B c h := pairFun (trF xq sub B c)
  rw [e]
  have e2 := wordsV_byte (qW xq sub B (⟨n.val / 128, by omega⟩ : Fin 2)) (⟨32 * c.val + l.val, by omega⟩ : Fin 128) (⟨n.val % 128, by omega⟩ : Fin 128) g
  refine congrArg (fun z : ℕ => (((z : ℝ)) : EReal)) (e2.trans ?_)
  refine congrArg (fun z => nibN z (g.val % 2)) (congrArg xq (funext fun a => match a with
    | ⟨0, _⟩ => Fin.ext (by show 256 * sub.val + 128 * (n.val / 128) + n.val % 128 = 256 * sub.val + n.val; omega)
    | ⟨1, _⟩ => rfl
    | ⟨2, _⟩ => rfl))

/-! ## A chunk's product -/

/-- The bytes of a weight row of half a window. -/
abbrev yW (xq : Vec Ideal S512x16x128 .i8) (sub : Fin 2) (n : Fin 256) (b : Fin 16) (i : Fin 128) : BitVec 8 := xq (ix3 (⟨256 * sub.val + n.val, by omega⟩ : Fin 512) b i)
/-- The scale bytes of a weight row. -/
abbrev tW (xs : Vec Ideal S12x16x512 .i8) (sub : Fin 2) (n : Fin 256) (b : Fin 16) (i : Fin 12) : BitVec 8 := xs (ix3 i b (⟨256 * sub.val + n.val, by omega⟩ : Fin 512))
/-- The factors of a weight row. -/
abbrev dW (xd : Vec Ideal S16x512 .i16) (sub : Fin 2) (n : Fin 256) (b : Fin 16) : BitVec 16 := xd (ix2 b (⟨256 * sub.val + n.val, by omega⟩ : Fin 512))
/-- The codes of a block. -/
abbrev kX (X : FVec Ideal S24x4096 .f32) (r : Fin 24) (b : Fin 16) (i : Fin 256) : ℤ := cI X r (bAt b i)

theorem mmV_apply (X : FVec Ideal S24x4096 .f32) (xq : Vec Ideal S512x16x128 .i8) (sub : Fin 2) (B c : Fin 4) (g : Fin 8) (r : Fin 24) (n : Fin 256) (R : Fin 192) (hR : R.val = 24 * g.val + r.val)
    (b : Fin 16) (hb : b.val = 4 * B.val + g.val / 2) (j : Fin 8) (hj : j.val = 2 * c.val + g.val % 2) :
    mmV (trF xq sub B c 0) (trF xq sub B c 1) (lhF (View.canon (hs0 X)) B c) (ix2 R n) = ((dotN (kX X r b) (yW xq sub n b) j : ℝ) : EReal) := by
  have hg := g.isLt
  refine (mm192 _ _ R n).trans ?_
  rw [sumSplit 32 8 rfl]
  have term : ∀ (l : Fin 32) (g' : Fin 8), ((shapeCast S192x256 (lhF (View.canon (hs0 X)) B c) shapeCasts_S1x192x256_S192x256 (ix2 R (⟨8 * l.val + g'.val, by omega⟩ : Fin 256)) : EReal) * nibV (trF xq sub B c 0) (trF xq sub B c 1) (ix2 (⟨8 * l.val + g'.val, by omega⟩ : Fin 256) n) : EReal)
      = if g' = g then (((kX X r b ⟨32 * j.val + l.val, by omega⟩ * (nibN (yW xq sub n b ⟨32 * (j.val / 2) + l.val, by omega⟩) (j.val % 2) : ℤ) : ℤ) : ℝ) : EReal) else 0 := fun l g' => by
    have hl := l.isLt
    have hg' := g'.isLt
    have a1 : (shapeCast S192x256 (lhF (View.canon (hs0 X)) B c) shapeCasts_S1x192x256_S192x256 (ix2 R (⟨8 * l.val + g'.val, by omega⟩ : Fin 256)) : EReal)
        = if g' = g then ((kX X r b ⟨32 * j.val + l.val, by omega⟩ : ℝ) : EReal) else 0 := by
      refine (shapeCast_apply _ _ (ix2 R (⟨8 * l.val + g'.val, by omega⟩ : Fin 256)) (ix3 (0 : Fin 1) R (⟨8 * l.val + g'.val, by omega⟩ : Fin 256)) ?_).trans ?_
      · rw [Shape.rowMajor_val_two, Shape.rowMajor_val_three]; show (0 * 192 + R.val) * 256 + (8 * l.val + g'.val) = R.val * 256 + (8 * l.val + g'.val); omega
      refine (lh_at X B c R _).trans ((rowsV_apply X B c g r _ R hR).trans ?_)
      by_cases h : g' = g
      · subst h
        rw [if_pos rfl, if_pos (by show (8 * l.val + g'.val) % 8 = g'.val; omega)]
        refine congrArg (fun z : ℤ => ((z : ℝ) : EReal)) (congrArg (cI X r) ?_)
        refine congrArg₂ bAt (Fin.ext ?_) (Fin.ext ?_)
        · show 4 * B.val + (8 * l.val + g'.val) / 2 % 4 = b.val; omega
        · show 64 * c.val + (8 * l.val + g'.val) % 2 * 32 + (8 * l.val + g'.val) / 8 = 32 * j.val + l.val; omega
      · rw [if_neg h, if_neg (fun e => h (Fin.ext (by have e' : (8 * l.val + g'.val) % 8 = g.val := e; omega)))]
    have a2 := nib_at xq sub B c l g' (⟨8 * l.val + g'.val, by omega⟩ : Fin 256) n rfl
    refine (congrArg₂ (· * ·) a1 a2).trans ?_
    by_cases h : g' = g
    · subst h
      rw [if_pos rfl, if_pos rfl, Int.cast_mul, EReal.coe_mul, Int.cast_natCast]
      refine congrArg (fun z : ℕ => (_ * ((z : ℝ) : EReal) : EReal)) ?_
      refine congrArg₂ nibN (congrArg xq (funext fun a => match a with
        | ⟨0, _⟩ => rfl
        | ⟨1, _⟩ => Fin.ext hb.symm
        | ⟨2, _⟩ => Fin.ext (by show 32 * c.val + l.val = 32 * (j.val / 2) + l.val; omega))) (by omega)
    · rw [if_neg h, if_neg h, zero_mul]
  refine (Finset.sum_congr rfl fun l _ => Finset.sum_congr rfl fun g' _ => term l g').trans ?_
  unfold dotN
  rw [Int.cast_sum, coe_sum]
  refine Finset.sum_congr rfl fun l _ => ?_
  rw [Finset.sum_ite_eq' Finset.univ g, if_pos (Finset.mem_univ g)]

/-! ## A block -/

theorem partV_apply (o : ℕ) (h : S192x256.Slices ![o, 0] S24x256) (p : FVec Ideal S192x256 .f32) (s : Vec Ideal S1x1x256 .f32) (r : Fin 24) (n : Fin 256) (R : Fin 192) (hR : R.val = o + r.val) :
    partV o h p s (ix2 r n) = (p (ix2 R n) * s (ix3 (0 : Fin 1) (0 : Fin 1) n) : EReal) := by
  refine congrArg₂ (fun x y : EReal => x * y) (congrArg p (funext fun a => match a with | ⟨0, _⟩ => Fin.ext hR.symm | ⟨1, _⟩ => Fin.ext (Nat.zero_add _))) ?_
  have e : ∀ Z : FVec Ideal S1x256 .f32, broadcastTo S24x256 Z broadcasts_S1x256_S24x256 (ix2 r n) = Z (ix2 (0 : Fin 1) n) := fun Z =>
    congrArg Z (funext fun a => match a with | ⟨0, _⟩ => rfl | ⟨1, _⟩ => rfl)
  refine (e _).trans (shapeCast_apply _ _ (ix2 (0 : Fin 1) n) (ix3 (0 : Fin 1) (0 : Fin 1) n) ?_)
  rw [Shape.rowMajor_val_two, Shape.rowMajor_val_three]; show (0 * 1 + 0) * 256 + n.val = 0 * 256 + n.val; omega

theorem sfF_apply (xs : Vec Ideal S12x16x512 .i8) (sub : Fin 2) (j : Fin 8) (B b : Fin 4) (n : Fin 256) (bb : Fin 16) (hb : bb.val = 4 * B.val + b.val) :
    sfF (F := Ideal) xs sub j B b (ix3 (0 : Fin 1) (0 : Fin 1) n) = (((scN (tW xs sub n bb) j : ℕ) : ℝ) : EReal) := by
  have e := scV_apply (scW xs sub) j (⟨4 * B.val + b.val, by omega⟩ : Fin 16) n
  have hbb : (⟨4 * B.val + b.val, by omega⟩ : Fin 16) = bb := Fin.ext hb.symm
  rw [hbb] at e
  have e2 : sfF (F := Ideal) xs sub j B b (ix3 (0 : Fin 1) (0 : Fin 1) n) = scV (scW xs sub) j (ix3 (0 : Fin 1) (⟨4 * B.val + b.val, by omega⟩ : Fin 16) n) := rfl
  rw [e2, hbb, e]; rfl

/-- The eight sub-blocks' products, scaled. -/
def accN (t : Fin 12 → BitVec 8) (k : Fin 256 → ℤ) (y : Fin 128 → BitVec 8) : ℤ := ∑ j, (scN t j : ℤ) * dotN k y j

theorem accV_apply (X : FVec Ideal S24x4096 .f32) (xq : Vec Ideal S512x16x128 .i8) (xs : Vec Ideal S12x16x512 .i8) (sub : Fin 2) (B b : Fin 4) (bb : Fin 16) (hb : bb.val = 4 * B.val + b.val)
    (o0 o1 : ℕ) (h0 : S192x256.Slices ![o0, 0] S24x256) (h1 : S192x256.Slices ![o1, 0] S24x256) (e0 : o0 = 48 * b.val) (e1 : o1 = 48 * b.val + 24) (r : Fin 24) (n : Fin 256) :
    accV o0 o1 h0 h1 (fun c => mmV (trF xq sub B c 0) (trF xq sub B c 1) (lhF (View.canon (hs0 X)) B c)) (fun j => sfF xs sub j B b) (ix2 r n)
      = ((accN (tW xs sub n bb) (kX X r bb) (yW xq sub n bb) : ℝ) : EReal) := by
  have part : ∀ (c : Fin 4) (z : ℕ) (hz : z < 2) (o : ℕ) (h : S192x256.Slices ![o, 0] S24x256) (ho : o = 48 * b.val + 24 * z) (j : Fin 8) (hj : j.val = 2 * c.val + z),
      partV o h (mmV (trF xq sub B c 0) (trF xq sub B c 1) (lhF (View.canon (hs0 X)) B c)) (sfF xs sub j B b) (ix2 r n)
        = ((((scN (tW xs sub n bb) j : ℤ) * dotN (kX X r bb) (yW xq sub n bb) j : ℤ) : ℝ) : EReal) := fun c z hz o h ho j hj => by
    have hr := r.isLt
    have hbl := b.isLt
    refine (partV_apply o h _ _ r n (⟨o + r.val, by omega⟩ : Fin 192) rfl).trans ?_
    rw [mmV_apply X xq sub B c (⟨2 * b.val + z, by omega⟩ : Fin 8) r n _ (by show o + r.val = 24 * (2 * b.val + z) + r.val; omega) bb (by show bb.val = 4 * B.val + (2 * b.val + z) / 2; omega) j (by show j.val = 2 * c.val + (2 * b.val + z) % 2; omega),
      sfF_apply xs sub j B b n bb hb, ← EReal.coe_mul]
    push_cast
    rw [mul_comm]
  unfold accV
  have e : ∀ a0 a1 a2 a3 a4 a5 a6 a7 : FVec Ideal S24x256 .f32, addf (addf (addf (addf (addf (addf (addf a0 a1) a2) a3) a4) a5) a6) a7 (ix2 r n)
      = (a0 (ix2 r n) + a1 (ix2 r n) + a2 (ix2 r n) + a3 (ix2 r n) + a4 (ix2 r n) + a5 (ix2 r n) + a6 (ix2 r n) + a7 (ix2 r n) : EReal) := fun _ _ _ _ _ _ _ _ => rfl
  rw [e]
  rw [part 0 0 (by omega) o0 h0 (by omega) 0 rfl, part 0 1 (by omega) o1 h1 (by omega) 1 rfl, part 1 0 (by omega) o0 h0 (by omega) 2 rfl, part 1 1 (by omega) o1 h1 (by omega) 3 rfl,
    part 2 0 (by omega) o0 h0 (by omega) 4 rfl, part 2 1 (by omega) o1 h1 (by omega) 5 rfl, part 3 0 (by omega) o0 h0 (by omega) 6 rfl, part 3 1 (by omega) o1 h1 (by omega) 7 rfl]
  simp only [← EReal.coe_add]
  unfold accN
  rw [Fin.sum_univ_eight]
  push_cast
  rfl

theorem accN_inf (X : FVec Ideal S24x4096 .f32) (r : Fin 24) (b : Fin 16) (t : Fin 12 → BitVec 8) (y : Fin 128 → BitVec 8) (h : scl X r b = ⊤ ∨ scl X r b = ⊥) : accN t (kX X r b) y = 0 := by
  unfold accN dotN
  refine Finset.sum_eq_zero fun j _ => ?_
  rw [Finset.sum_eq_zero fun l _ => ?_, mul_zero]
  show cI X r (bAt b _) * _ = 0
  rw [cI_inf X r b _ h, zero_mul]

theorem addV_apply (X : FVec Ideal S24x4096 .f32) (xd : Vec Ideal S16x512 .i16) (sub : Fin 2) (B b : Fin 4) (bb : Fin 16) (hb : bb.val = 4 * B.val + b.val) (tot acc : FVec Ideal S24x256 .f32) (r : Fin 24) (n : Fin 256) (T : ℝ) (A : ℤ)
    (hT : tot (ix2 r n) = ((T : ℝ) : EReal)) (hA : acc (ix2 r n) = ((A : ℝ) : EReal)) (h0 : scl X r bb = ⊤ ∨ scl X r bb = ⊥ → A = 0) :
    addV tot acc (dfF xd sub B b) (asF (View.canon (hs1 X)) B b) (ix2 r n) = ((T + A * hR (dW xd sub n bb) * sR X r bb : ℝ) : EReal) := by
  have hbb : (⟨4 * B.val + b.val, by omega⟩ : Fin 16) = bb := Fin.ext hb.symm
  have e : addV tot acc (dfF xd sub B b) (asF (View.canon (hs1 X)) B b) (ix2 r n) = (tot (ix2 r n) + acc (ix2 r n) * broadcastTo S24x256 (dfF xd sub B b) broadcasts_S1x256_S24x256 (ix2 r n)
      * shapeCast S24x256 (asF (View.canon (hs1 X)) B b) shapeCasts_S1x24x256_S24x256 (ix2 r n) : EReal) := rfl
  have ed : broadcastTo S24x256 (dfF xd sub B b) broadcasts_S1x256_S24x256 (ix2 r n) = ((hR (dW xd sub n bb) : ℝ) : EReal) := by
    have e1 : broadcastTo S24x256 (dfF xd sub B b) broadcasts_S1x256_S24x256 (ix2 r n) = f16V (dmW xd sub) (ix2 (⟨4 * B.val + b.val, by omega⟩ : Fin 16) n) := rfl
    rw [e1, hbb, f16V_apply]; rfl
  have ea : shapeCast S24x256 (asF (View.canon (hs1 X)) B b) shapeCasts_S1x24x256_S24x256 (ix2 r n) = scl X r bb := by
    refine (shapeCast_apply _ _ (ix2 r n) (ix3 (0 : Fin 1) r n) ?_).trans ?_
    · rw [Shape.rowMajor_val_two, Shape.rowMajor_val_three]; show (0 * 24 + r.val) * 256 + n.val = r.val * 256 + n.val; omega
    rw [as_at, hbb, asV_apply]
  rw [e, hT, hA, ed, ea, ← EReal.coe_mul, mul_scale _ _ (fun h => by rw [h0 h]; simp), ← EReal.coe_add]
  rfl

/-! ## The minima -/

theorem minV_apply (X : FVec Ideal S24x4096 .f32) (xs : Vec Ideal S12x16x512 .i8) (xm : Vec Ideal S16x512 .i16) (sub : Fin 2) (r : Fin 24) (n : Fin 256) :
    minV (View.canon (hs2 X)) (dmW xm sub) (scW xs sub) (ix2 r n)
      = ((-(∑ p : Fin 128, gR X r p * (mnZ (tW xs sub n ⟨p.val % 16, by omega⟩) ⟨p.val / 16, by omega⟩ * hR (dW xm sub n ⟨p.val % 16, by omega⟩))) : ℝ) : EReal) := by
  unfold minV
  generalize hM : (concatenate S768x256 0 _ _ : FVec Ideal S768x256 .bf16) = M
  have e : subf (F := Ideal) (broadcast S24x256 (Scalar.ofBits .f32 0x00000000#32)) (matmul (F := Ideal) (φ₁ := .bf16) dot_S24x768_S768x256_S24x256_1_0_0_1_n_n none (View.canon (hs2 X)) M (constant S24x256 .f32 0x00000000#32)) (ix2 r n)
      = (Ideal.ofBits .f32 0x00000000#32 - matmul (F := Ideal) (φ₁ := .bf16) dot_S24x768_S768x256_S24x256_1_0_0_1_n_n none (View.canon (hs2 X)) M (constant S24x256 .f32 0x00000000#32) (ix2 r n) : EReal) := rfl
  rw [e, lit0, mm768, sumSplit 6 128 rfl]
  have mval : ∀ p : Fin 128, mnV (dmW xm sub) (scW xs sub) ⟨p.val / 16, by omega⟩ (ix2 (⟨p.val % 16, by omega⟩ : Fin 16) n)
      = ((mnZ (tW xs sub n ⟨p.val % 16, by omega⟩) ⟨p.val / 16, by omega⟩ * hR (dW xm sub n ⟨p.val % 16, by omega⟩) : ℝ) : EReal) := fun p => mnV_apply _ _ _ _ n
  have res : ∀ (j : Fin 8) (b : Fin 16), resV (mnV (dmW xm sub) (scW xs sub) j) (ix2 b n) = (0 : EReal) := fun j b => by
    have e : resV (mnV (dmW xm sub) (scW xs sub) j) (ix2 b n) = (mnV (dmW xm sub) (scW xs sub) j (ix2 b n) - mnV (dmW xm sub) (scW xs sub) j (ix2 b n) : EReal) := rfl
    rw [e, mnV_apply, ← EReal.coe_sub, sub_self]; rfl
  have res2 : ∀ (j : Fin 8) (b : Fin 16), resV (resV (mnV (dmW xm sub) (scW xs sub) j)) (ix2 b n) = (0 : EReal) := fun j b => by
    have e : resV (resV (mnV (dmW xm sub) (scW xs sub) j)) (ix2 b n) = (resV (mnV (dmW xm sub) (scW xs sub) j) (ix2 b n) - resV (mnV (dmW xm sub) (scW xs sub) j) (ix2 b n) : EReal) := rfl
    rw [e, res, sub_zero]
  have rows : ∀ (i : Fin 6) (p : Fin 128), M (ix2 (⟨128 * i.val + p.val, by omega⟩ : Fin 768) n)
      = (![hiV, hiV, hiV, midV, midV, loV] : Fin 6 → FVec Ideal S16x256 .f32 → FVec Ideal S16x256 .bf16) i (mnV (dmW xm sub) (scW xs sub) ⟨p.val / 16, by omega⟩) (ix2 (⟨p.val % 16, by omega⟩ : Fin 16) n) := fun i p => by
    rw [← hM]
    refine (catRows (N := 48) (K := 16) (M := 768) (C := 256) _ _ (fun q => (![hiV, hiV, hiV, midV, midV, loV] : Fin 6 → FVec Ideal S16x256 .f32 → FVec Ideal S16x256 .bf16) ⟨q.val / 8, by omega⟩ (mnV (dmW xm sub) (scW xs sub) ⟨q.val % 8, by omega⟩)) rfl
      (⟨128 * i.val + p.val, by omega⟩ : Fin 768) (⟨8 * i.val + p.val / 16, by omega⟩ : Fin 48) (⟨p.val % 16, by omega⟩ : Fin 16) (by show 128 * i.val + p.val = 16 * (8 * i.val + p.val / 16) + p.val % 16; omega) n).trans ?_
    have h1 : (⟨(8 * i.val + p.val / 16) / 8, by omega⟩ : Fin 6) = i := Fin.ext (by show (8 * i.val + p.val / 16) / 8 = i.val; omega)
    have h2 : (⟨(8 * i.val + p.val / 16) % 8, by omega⟩ : Fin 8) = ⟨p.val / 16, by omega⟩ := Fin.ext (by show (8 * i.val + p.val / 16) % 8 = p.val / 16; omega)
    dsimp only
    rw [h1, h2]
  have term : ∀ (i : Fin 6) (p : Fin 128), (View.canon (hs2 X) (ix2 r (⟨128 * i.val + p.val, by omega⟩ : Fin 768)) * M (ix2 (⟨128 * i.val + p.val, by omega⟩ : Fin 768) n) : EReal)
      = if i = 0 then ((gR X r p * (mnZ (tW xs sub n ⟨p.val % 16, by omega⟩) ⟨p.val / 16, by omega⟩ * hR (dW xm sub n ⟨p.val % 16, by omega⟩)) : ℝ) : EReal) else 0 := fun i p => by
    have a1 := (g_at X i r p (⟨128 * i.val + p.val, by omega⟩ : Fin 768) rfl).trans (gPart_apply X i r p)
    refine (congrArg₂ (fun x y : EReal => x * y) a1 (rows i p)).trans ?_
    match i with
    | 0 =>
      rw [if_pos (show (0 : Fin 6) = 0 from rfl), if_pos (show (0 : Fin 6).val = 0 ∨ (0 : Fin 6).val = 3 ∨ (0 : Fin 6).val = 5 from Or.inl rfl), EReal.coe_mul]
      exact congrArg (fun z : EReal => ((gR X r p : ℝ) : EReal) * z) (mval p)
    | 1 => rw [if_neg (by decide), if_neg (by decide), zero_mul]
    | 2 => rw [if_neg (by decide), if_neg (by decide), zero_mul]
    | 3 =>
      rw [if_neg (show ¬ (3 : Fin 6) = 0 by decide)]
      refine (congrArg (fun z : EReal => _ * z) (res ⟨p.val / 16, by omega⟩ ⟨p.val % 16, by omega⟩)).trans ?_
      rw [mul_zero]
    | 4 => rw [if_neg (by decide), if_neg (by decide), zero_mul]
    | 5 =>
      rw [if_neg (show ¬ (5 : Fin 6) = 0 by decide)]
      refine (congrArg (fun z : EReal => _ * z) (res2 ⟨p.val / 16, by omega⟩ ⟨p.val % 16, by omega⟩)).trans ?_
      rw [mul_zero]
  rw [Finset.sum_congr rfl fun i _ => Finset.sum_congr rfl fun p _ => term i p, Finset.sum_eq_single (0 : Fin 6)]
  · simp only [if_pos]
    rw [← coe_sum, zero_sub, ← EReal.coe_neg]
  · intro i _ hi
    exact Finset.sum_eq_zero fun p _ => if_neg hi
  · intro h; exact absurd (Finset.mem_univ _) h

/-! ## The tile -/

theorem tileC_apply (X : FVec Ideal S24x4096 .f32) (xq : Vec Ideal S512x16x128 .i8) (xs : Vec Ideal S12x16x512 .i8) (xd xm : Vec Ideal S16x512 .i16) (sub : Fin 2) (r : Fin 24) (n : Fin 256) :
    tileC (View.canon (hs2 X)) (View.canon (hs0 X)) (View.canon (hs1 X)) xq xs xd xm sub (ix2 r n)
      = ((rowR (kX X r) (sR X r) (yW xq sub n) (tW xs sub n) (dW xd sub n) (dW xm sub n) : ℝ) : EReal) := by
  have acc := fun (B b : Fin 4) (bb : Fin 16) (hb : bb.val = 4 * B.val + b.val) (o0 o1 : ℕ) (h0 : S192x256.Slices ![o0, 0] S24x256) (h1 : S192x256.Slices ![o1, 0] S24x256) (e0 : o0 = 48 * b.val) (e1 : o1 = 48 * b.val + 24)
      (tot : FVec Ideal S24x256 .f32) (T : ℝ) (hT : tot (ix2 r n) = ((T : ℝ) : EReal)) =>
    addV_apply X xd sub B b bb hb tot _ r n T _ hT (accV_apply X xq xs sub B b bb hb o0 o1 h0 h1 e0 e1 r n) (accN_inf X r bb _ _)
  have four := fun (B : Fin 4) (b0 b1 b2 b3 : Fin 16) (h0 : b0.val = 4 * B.val) (h1 : b1.val = 4 * B.val + 1) (h2 : b2.val = 4 * B.val + 2) (h3 : b3.val = 4 * B.val + 3)
      (tot : FVec Ideal S24x256 .f32) (T : ℝ) (hT : tot (ix2 r n) = ((T : ℝ) : EReal)) =>
    acc B 3 b3 h3 144 168 slices_S192x256_o144_0_S24x256 slices_S192x256_o168_0_S24x256 rfl rfl _ _ (acc B 2 b2 h2 96 120 slices_S192x256_o96_0_S24x256 slices_S192x256_o120_0_S24x256 rfl rfl _ _
      (acc B 1 b1 h1 48 72 slices_S192x256_o48_0_S24x256 slices_S192x256_o72_0_S24x256 rfl rfl _ _ (acc B 0 b0 h0 0 24 slices_S192x256_o0_0_S24x256 slices_S192x256_o24_0_S24x256 rfl rfl tot T hT)))
  unfold tileC tileV
  refine (four 3 12 13 14 15 rfl rfl rfl rfl _ _ (four 2 8 9 10 11 rfl rfl rfl rfl _ _ (four 1 4 5 6 7 rfl rfl rfl rfl _ _ (four 0 0 1 2 3 rfl rfl rfl rfl _ _ (minV_apply X xs xm sub r n))))).trans ?_
  refine congrArg (fun z : ℝ => (z : EReal)) ?_
  have hmin : (∑ p : Fin 128, gR X r p * (mnZ (tW xs sub n ⟨p.val % 16, by omega⟩) ⟨p.val / 16, by omega⟩ * hR (dW xm sub n ⟨p.val % 16, by omega⟩)))
      = ∑ b : Fin 16, sR X r b * (hR (dW xm sub n b) * ∑ j, (sumN (kX X r b) j : ℝ) * (mnZ (tW xs sub n b) j : ℝ)) := by
    rw [sumSplit 8 16 rfl, Finset.sum_comm]
    refine Finset.sum_congr rfl fun b _ => ?_
    rw [Finset.mul_sum, Finset.mul_sum]
    refine Finset.sum_congr rfl fun j _ => ?_
    have hb : (⟨(16 * j.val + b.val) % 16, by omega⟩ : Fin 16) = b := Fin.ext (by show (16 * j.val + b.val) % 16 = b.val; omega)
    have hj : (⟨(16 * j.val + b.val) / 16, by omega⟩ : Fin 8) = j := Fin.ext (by show (16 * j.val + b.val) / 16 = j.val; omega)
    have hz : zI X r (⟨16 * j.val + b.val, by omega⟩ : Fin 128) = sumN (kX X r b) j := by
      unfold zI sumN
      refine Finset.sum_congr rfl fun l _ => congrArg (cI X r) (congrArg₂ bAt hb (Fin.ext ?_))
      show 32 * ((16 * j.val + b.val) / 16) + l.val = 32 * j.val + l.val; omega
    unfold gR
    simp only [hb, hj, hz]
    ring
  rw [hmin]
  unfold rowR
  have hsplit : ∀ b : Fin 16, sR X r b * (hR (dW xd sub n b) * ((∑ j, (scN (tW xs sub n b) j : ℤ) * dotN (kX X r b) (yW xq sub n b) j : ℤ) : ℝ) - hR (dW xm sub n b) * ∑ j, (sumN (kX X r b) j : ℝ) * (mnZ (tW xs sub n b) j : ℝ))
      = (accN (tW xs sub n b) (kX X r b) (yW xq sub n b) : ℝ) * hR (dW xd sub n b) * sR X r b - sR X r b * (hR (dW xm sub n b) * ∑ j, (sumN (kX X r b) j : ℝ) * (mnZ (tW xs sub n b) j : ℝ)) := fun b => by
    unfold accN; ring
  rw [Finset.sum_congr rfl fun b _ => hsplit b, Finset.sum_sub_distrib, sum16 (fun b : Fin 16 => (accN (tW xs sub n b) (kX X r b) (yW xq sub n b) : ℝ) * hR (dW xd sub n b) * sR X r b)]
  ring

end Cert.KernelIdeal.Gen

end
-- ==== Proof.RefM.lean ====
/- The reference's row product in closed form: for each row of weights, the codes' integer products, scaled. -/
module

public import proofs.«01_k».proof.Proof.Alg3
public import proofs.«01_k».proof.Proof.RefQ

@[expose] public section

set_option maxRecDepth 16384

noncomputable section

namespace Cert.Ff

open Idealize.ShloMosaic hiding ix0 ix1 ix2 ix3 ix4 eq_ix1 eq_ix2 eq_ix3 eq_ix4
open Idealize.ShloMosaic.ValueIdx Cert.ReferenceIdeal Cert.ReferenceIdeal.Gen Cert.ReferenceIdeal.Read
open Cert.KernelIdeal.Gen (scl cod bAt blkOf blkOf_bAt cI sR cI_inf kX)

variable (h : FVec Ideal S24x4096 .f32) (g : FVec Ideal S4096 .f32)
variable (q : Vec Ideal S14336x16x128 .i8) (s : Vec Ideal S14336x16x12 .i8) (d m : Vec Ideal S14336x16 .i16)

/-! ## Integers -/

theorem fptosi_exact (n : ℤ) (h0 : -2147483648 ≤ n) (h1 : n ≤ 2147483647) : Ideal.fptosi 32 ((n : ℝ) : EReal) = BitVec.ofInt 32 n := by
  have e : (if (0 : ℝ) ≤ (n : ℝ) then ⌊(n : ℝ)⌋ else ⌈(n : ℝ)⌉) = n := by simp
  show BitVec.ofInt 32 (max _ (min _ (if (0 : ℝ) ≤ (n : ℝ) then ⌊(n : ℝ)⌋ else ⌈(n : ℝ)⌉))) = _
  rw [e]
  congr 1; norm_num; omega

theorem ofInt_toInt (n : ℤ) (h0 : -2147483648 ≤ n) (h1 : n ≤ 2147483647) : (BitVec.ofInt 32 n).toInt = n := by
  rw [BitVec.toInt_ofInt, Int.bmod_eq_of_le (by norm_num; omega) (by norm_num; omega)]

theorem sum_bound {N : ℕ} (f : Fin N → ℤ) (B : ℤ) (hf : ∀ i, -B ≤ f i ∧ f i ≤ B) : -(N * B) ≤ ∑ i, f i ∧ ∑ i, f i ≤ N * B := by
  constructor
  · have := Finset.card_nsmul_le_sum Finset.univ f (-B) (fun i _ => (hf i).1)
    simp at this; linarith
  · have := Finset.sum_le_card_nsmul Finset.univ f B (fun i _ => (hf i).2)
    simpa using this

theorem mul_bound (a w A W : ℤ) (ha : -A ≤ a ∧ a ≤ A) (hw : 0 ≤ w ∧ w ≤ W) (hA : 0 ≤ A) : -(A * W) ≤ a * w ∧ a * w ≤ A * W := by
  constructor <;> nlinarith [mul_nonneg hA hw.1, ha.1, ha.2, hw.1, hw.2]

theorem code_bound (X : FVec Ideal S24x4096 .f32) (r : Fin 24) (c : Fin 4096) : -128 ≤ cI X r c ∧ cI X r c ≤ 128 := by
  have h1 := BitVec.le_toInt (cod X r c)
  have h2 := BitVec.toInt_lt (x := cod X r c)
  unfold cI
  norm_num at h1 h2
  exact ⟨h1, by omega⟩

/-! ## The operands -/

theorem ref_half (r : Fin 24) (b : Fin 16) (c : Fin 4) (l : Fin 32) :
    val_main_v71 (F := Ideal) h g (ix4 r b c l) = ((cI (val_main_v12 (F := Ideal) h g) r (bAt b ⟨64 * c.val + l.val, by omega⟩) : ℝ) : EReal)
    ∧ val_main_v86 (F := Ideal) h g (ix4 r b c l) = ((cI (val_main_v12 (F := Ideal) h g) r (bAt b ⟨64 * c.val + 32 + l.val, by omega⟩) : ℝ) : EReal) := by
  have hr := r.isLt; have hb := b.isLt; have hc := c.isLt; have hl := l.isLt
  have e : ∀ i (C : Fin 4096), idx_main_v68 i = ix2 r C → val_main_v69 (F := Ideal) h g i = ((cI (val_main_v12 (F := Ideal) h g) r C : ℝ) : EReal) := fun i C hi => by
    rw [val_main_v69_apply, val_main_v68_apply, hi, val_main_v67_apply, ref_code]
    show ((((cod (val_main_v12 (F := Ideal) h g) r C).signExtend 32).toInt : ℝ) : EReal) = _
    rw [BitVec.toInt_signExtend_of_le (by norm_num)]; rfl
  have digits : ∀ x : ℕ, x = ((r.val * 16 + b.val) * 4 + c.val) * 32 + l.val → x / 2048 = r.val ∧ x / 128 % 16 = b.val ∧ x / 32 % 4 = c.val ∧ x % 32 = l.val := fun x hx => by omega
  obtain ⟨d0, d1, d2, d3⟩ := digits _ rfl
  constructor
  · rw [val_main_v71_apply, val_main_v70_apply]
    have p0 : (idx_main_v71 (ix4 r b c l) 0).val = r.val := d0
    have p1 : (idx_main_v71 (ix4 r b c l) 1).val = b.val := d1
    have p2 : (idx_main_v71 (ix4 r b c l) 2).val = c.val := d2
    have p3 : (idx_main_v71 (ix4 r b c l) 3).val = 0 := rfl
    have p4 : (idx_main_v71 (ix4 r b c l) 4).val = l.val := d3
    generalize idx_main_v71 (ix4 r b c l) = P at p0 p1 p2 p3 p4 ⊢
    refine e _ _ (funext fun a => ?_)
    match a with
    | ⟨0, _⟩ => refine Fin.ext ?_; simp only [idx_main_v68, idx_main_v70]; show _ = r.val; omega
    | ⟨1, _⟩ => refine Fin.ext ?_; simp only [idx_main_v68, idx_main_v70]; show _ = 256 * b.val + (64 * c.val + l.val); omega
  · rw [val_main_v86_apply, val_main_v85_apply]
    have p0 : (idx_main_v86 (ix4 r b c l) 0).val = r.val := d0
    have p1 : (idx_main_v86 (ix4 r b c l) 1).val = b.val := d1
    have p2 : (idx_main_v86 (ix4 r b c l) 2).val = c.val := d2
    have p3 : (idx_main_v86 (ix4 r b c l) 3).val = 0 := rfl
    have p4 : (idx_main_v86 (ix4 r b c l) 4).val = l.val := d3
    generalize idx_main_v86 (ix4 r b c l) = P at p0 p1 p2 p3 p4 ⊢
    refine e _ _ (funext fun a => ?_)
    match a with
    | ⟨0, _⟩ => refine Fin.ext ?_; simp only [idx_main_v68, idx_main_v85]; show _ = r.val; omega
    | ⟨1, _⟩ => refine Fin.ext ?_; simp only [idx_main_v68, idx_main_v85]; show _ = 256 * b.val + (64 * c.val + 32 + l.val); omega

theorem ref_sub (n : Fin 14336) (b : Fin 16) (i : Fin 4) :
    val_main_v30 (F := Ideal) s (ix3 n b i) = (s (ix3 n b ⟨i.val, by omega⟩)).setWidth 32
    ∧ val_main_v31 (F := Ideal) s (ix3 n b i) = (s (ix3 n b ⟨4 + i.val, by omega⟩)).setWidth 32
    ∧ val_main_v32 (F := Ideal) s (ix3 n b i) = (s (ix3 n b ⟨8 + i.val, by omega⟩)).setWidth 32 := by
  refine ⟨?_, ?_, ?_⟩
  · rw [val_main_v30_apply, val_main_v29_apply]
    refine congrArg (fun z => BitVec.setWidth 32 (s z)) (funext fun a => match a with | ⟨0, _⟩ => Fin.ext ?_ | ⟨1, _⟩ => Fin.ext ?_ | ⟨2, _⟩ => Fin.ext ?_) <;> (simp only [idx_main_v30]; try dsimp; try omega)
  · rw [val_main_v31_apply, val_main_v29_apply]
    refine congrArg (fun z => BitVec.setWidth 32 (s z)) (funext fun a => match a with | ⟨0, _⟩ => Fin.ext ?_ | ⟨1, _⟩ => Fin.ext ?_ | ⟨2, _⟩ => Fin.ext ?_) <;> (simp only [idx_main_v31]; try dsimp; try omega)
  · rw [val_main_v32_apply, val_main_v29_apply]
    refine congrArg (fun z => BitVec.setWidth 32 (s z)) (funext fun a => match a with | ⟨0, _⟩ => Fin.ext ?_ | ⟨1, _⟩ => Fin.ext ?_ | ⟨2, _⟩ => Fin.ext ?_) <;> (simp only [idx_main_v32]; try dsimp; try omega)

/-- A sub-block index is one of the first four or one of the last four. -/
theorem half8 {P : Fin 8 → Prop} (h0 : ∀ i : Fin 4, P ⟨i.val, by omega⟩) (h1 : ∀ i : Fin 4, P ⟨4 + i.val, by omega⟩) (j : Fin 8) : P j := by
  by_cases hj : j.val < 4
  · exact h0 ⟨j.val, hj⟩
  · have := h1 ⟨j.val - 4, by omega⟩
    have e : (⟨4 + (j.val - 4), by omega⟩ : Fin 8) = j := Fin.ext (by show 4 + (j.val - 4) = j.val; omega)
    rwa [e] at this

theorem cat8 (x y : Vec Ideal S14336x16x4 .i32) (hc : Shape.Concatenates [S14336x16x4, S14336x16x4] S14336x16x8 2) (n : Fin 14336) (b : Fin 16) (i : Fin 4) :
    concatenate S14336x16x8 2 [⟨S14336x16x4, x⟩, ⟨S14336x16x4, y⟩] hc (ix3 n b (⟨i.val, by omega⟩ : Fin 8)) = x (ix3 n b i)
    ∧ concatenate S14336x16x8 2 [⟨S14336x16x4, x⟩, ⟨S14336x16x4, y⟩] hc (ix3 n b (⟨4 + i.val, by omega⟩ : Fin 8)) = y (ix3 n b i) := by
  constructor
  · refine concatenate_pair_apply_left (t := S14336x16x8) (s₁ := S14336x16x4) (s₂ := S14336x16x4) 2 x y hc _ rfl (ix3 n b i) fun a => ?_
    match a with | ⟨0, _⟩ => rfl | ⟨1, _⟩ => rfl | ⟨2, _⟩ => rfl
  · refine concatenate_pair_apply_right (t := S14336x16x8) (s₁ := S14336x16x4) (s₂ := S14336x16x4) 2 x y hc _ rfl rfl (ix3 n b i) (fun a ha => ?_) ?_
    · match a with
      | ⟨0, _⟩ => rfl
      | ⟨1, _⟩ => rfl
      | ⟨2, _⟩ => exact absurd rfl ha
    · show i.val + 4 = 4 + i.val; omega

theorem ref_sc (n : Fin 14336) (b : Fin 16) (j : Fin 8) : val_main_v42 (F := Ideal) s (ix3 n b j) = scB (fun i => s (ix3 n b i)) j := by
  have c1 := fun i => (cat8 (val_main_v34 (F := Ideal) s) (val_main_v41 (F := Ideal) s) concatenates_S14336x16x4_S14336x16x4_S14336x16x8_d2 n b i).1
  have c2 := fun i => (cat8 (val_main_v34 (F := Ideal) s) (val_main_v41 (F := Ideal) s) concatenates_S14336x16x4_S14336x16x4_S14336x16x8_d2 n b i).2
  have e1 : ∀ i : Fin 4, val_main_v34 (F := Ideal) s (ix3 n b i) = lo6 (s (ix3 n b ⟨i.val, by omega⟩)) := fun i => by
    rw [val_main_v34_apply, (ref_sub s n b i).1]; rfl
  have e2 : ∀ i : Fin 4, val_main_v41 (F := Ideal) s (ix3 n b i) = loHi (s (ix3 n b ⟨i.val, by omega⟩)) (s (ix3 n b ⟨8 + i.val, by omega⟩)) := fun i => by
    rw [val_main_v41_apply, val_main_v36_apply, val_main_v40_apply, val_main_v38_apply, (ref_sub s n b i).1, (ref_sub s n b i).2.2]; rfl
  revert j
  refine half8 (fun i => (c1 i).trans ((e1 i).trans ?_)) (fun i => (c2 i).trans ((e2 i).trans ?_))
  · match i with | 0 => rfl | 1 => rfl | 2 => rfl | 3 => rfl
  · match i with | 0 => rfl | 1 => rfl | 2 => rfl | 3 => rfl

theorem ref_mn (n : Fin 14336) (b : Fin 16) (j : Fin 8) : val_main_v52 (F := Ideal) s (ix3 n b j) = mnB (fun i => s (ix3 n b i)) j := by
  have c1 := fun i => (cat8 (val_main_v44 (F := Ideal) s) (val_main_v51 (F := Ideal) s) concatenates_S14336x16x4_S14336x16x4_S14336x16x8_d2 n b i).1
  have c2 := fun i => (cat8 (val_main_v44 (F := Ideal) s) (val_main_v51 (F := Ideal) s) concatenates_S14336x16x4_S14336x16x4_S14336x16x8_d2 n b i).2
  have e1 : ∀ i : Fin 4, val_main_v44 (F := Ideal) s (ix3 n b i) = lo6 (s (ix3 n b ⟨4 + i.val, by omega⟩)) := fun i => by
    rw [val_main_v44_apply, (ref_sub s n b i).2.1]; rfl
  have e2 : ∀ i : Fin 4, val_main_v51 (F := Ideal) s (ix3 n b i) = hiHi (s (ix3 n b ⟨4 + i.val, by omega⟩)) (s (ix3 n b ⟨8 + i.val, by omega⟩)) := fun i => by
    rw [val_main_v51_apply, val_main_v46_apply, val_main_v50_apply, val_main_v48_apply, (ref_sub s n b i).2.1, (ref_sub s n b i).2.2]; rfl
  revert j
  refine half8 (fun i => (c1 i).trans ((e1 i).trans ?_)) (fun i => (c2 i).trans ((e2 i).trans ?_))
  · match i with | 0 => rfl | 1 => rfl | 2 => rfl | 3 => rfl
  · match i with | 0 => rfl | 1 => rfl | 2 => rfl | 3 => rfl

theorem ofNat_mul (x y : BitVec 32) (a b : ℕ) (hx : x = BitVec.ofNat 32 a) (hy : y = BitVec.ofNat 32 b) : IntOp.muli x y = BitVec.ofNat 32 (a * b) := by
  subst hx hy
  unfold IntOp.muli
  apply BitVec.eq_of_toNat_eq
  simp [BitVec.toNat_mul, Nat.mul_mod]

theorem ref_quarter (n : Fin 14336) (b : Fin 16) (c : Fin 4) (l : Fin 32) : val_main_v54 (F := Ideal) q (ix4 n b c l) = (q (ix3 n b ⟨32 * c.val + l.val, by omega⟩)).setWidth 32 := by
  have hn := n.isLt; have hb := b.isLt; have hc := c.isLt; have hl := l.isLt
  rw [val_main_v54_apply, val_main_v53_apply]
  refine congrArg (fun z => BitVec.setWidth 32 (q z)) (funext fun a => ?_)
  match a with
  | ⟨0, _⟩ => exact Fin.ext (by show (((n.val * 16 + b.val) * 4 + c.val) * 32 + l.val) / 2048 = n.val; omega)
  | ⟨1, _⟩ => exact Fin.ext (by show (((n.val * 16 + b.val) * 4 + c.val) * 32 + l.val) / 128 % 16 = b.val; omega)
  | ⟨2, _⟩ => exact Fin.ext (by show (((n.val * 16 + b.val) * 4 + c.val) * 32 + l.val) % 128 = 32 * c.val + l.val; omega)

theorem ref_field (n : Fin 14336) (b : Fin 16) (c : Fin 4) (l : Fin 32) :
    val_main_v60 (F := Ideal) q s (ix4 n b c l) = BitVec.ofNat 32 (scN (fun i => s (ix3 n b i)) ⟨2 * c.val, by omega⟩ * nibN (q (ix3 n b ⟨32 * c.val + l.val, by omega⟩)) 0)
    ∧ val_main_v66 (F := Ideal) q s (ix4 n b c l) = BitVec.ofNat 32 (scN (fun i => s (ix3 n b i)) ⟨2 * c.val + 1, by omega⟩ * nibN (q (ix3 n b ⟨32 * c.val + l.val, by omega⟩)) 1) := by
  constructor
  · rw [val_main_v60_apply]
    refine ofNat_mul _ _ _ _ ?_ ?_
    · rw [val_main_v59_apply, val_main_v56_apply]
      have e : val_main_v55 (F := Ideal) s (idx_main_v56 (idx_main_v59 (ix4 n b c l))) = val_main_v42 (F := Ideal) s (ix3 n b (⟨2 * c.val, by omega⟩ : Fin 8)) := by
        unfold val_main_v55 Host.slice
        refine congrArg (val_main_v42 (F := Ideal) s) (funext fun a => ?_)
        match a with
        | ⟨0, _⟩ => exact Fin.ext (by show 0 + 1 * n.val = n.val; omega)
        | ⟨1, _⟩ => exact Fin.ext (by show 0 + 1 * b.val = b.val; omega)
        | ⟨2, _⟩ => exact Fin.ext (by show 0 + 2 * c.val = 2 * c.val; omega)
      rw [e, ref_sc]
      unfold scN; simp
    · rw [val_main_v58_apply, ref_quarter]; exact nib_low _
  · rw [val_main_v66_apply]
    refine ofNat_mul _ _ _ _ ?_ ?_
    · rw [val_main_v65_apply, val_main_v62_apply]
      have e : val_main_v61 (F := Ideal) s (idx_main_v62 (idx_main_v65 (ix4 n b c l))) = val_main_v42 (F := Ideal) s (ix3 n b (⟨2 * c.val + 1, by omega⟩ : Fin 8)) := by
        unfold val_main_v61 Host.slice
        refine congrArg (val_main_v42 (F := Ideal) s) (funext fun a => ?_)
        match a with
        | ⟨0, _⟩ => exact Fin.ext (by show 0 + 1 * n.val = n.val; omega)
        | ⟨1, _⟩ => exact Fin.ext (by show 0 + 1 * b.val = b.val; omega)
        | ⟨2, _⟩ => exact Fin.ext (by show 1 + 2 * c.val = 2 * c.val + 1; omega)
      rw [e, ref_sc]
      unfold scN; simp
    · rw [val_main_v64_apply, ref_quarter]; exact nib_high _

theorem dot4 (A : FVec Ideal S24x16x4x32 .bf16) (W : FVec Ideal S14336x16x4x32 .bf16) (b : Fin 16) (r : Fin 24) (n : Fin 14336) :
    Host.dotGeneral (F := Ideal) dot_S24x16x4x32_S14336x16x4x32_S16x24x14336_23_23_0_0_1_1 none A W (ix3 b r n) = ∑ c : Fin 4, ∑ l : Fin 32, (A (ix4 r b c l) * W (ix4 n b c l) : EReal) := by
  pointwise
  rfl

/-- A product of integers with fields below 1024, taken in two parts of seven bits, is exact. -/
theorem split_dot (A : FVec Ideal S24x16x4x32 .bf16) (Wh Wl : FVec Ideal S14336x16x4x32 .bf16) (b : Fin 16) (r : Fin 24) (n : Fin 14336) (a : Fin 4 → Fin 32 → ℤ) (p : Fin 4 → Fin 32 → ℕ)
    (ha : ∀ c l, -128 ≤ a c l ∧ a c l ≤ 128) (hp : ∀ c l, p c l < 1024) (hA : ∀ c l, A (ix4 r b c l) = ((a c l : ℝ) : EReal))
    (hh : ∀ c l, Wh (ix4 n b c l) = (((IntOp.shrsi .host (BitVec.ofNat 32 (p c l)) 7#32).toInt : ℝ) : EReal)) (hl : ∀ c l, Wl (ix4 n b c l) = (((IntOp.andi (BitVec.ofNat 32 (p c l)) 127#32).toInt : ℝ) : EReal)) :
    IntOp.addi (IntOp.muli 128#32 (Ideal.fptosi 32 (Host.dotGeneral (F := Ideal) dot_S24x16x4x32_S14336x16x4x32_S16x24x14336_23_23_0_0_1_1 none A Wh (ix3 b r n))))
      (Ideal.fptosi 32 (Host.dotGeneral (F := Ideal) dot_S24x16x4x32_S14336x16x4x32_S16x24x14336_23_23_0_0_1_1 none A Wl (ix3 b r n)))
      = BitVec.ofInt 32 (∑ c, ∑ l, a c l * (p c l : ℤ)) := by
  have one : ∀ (W : FVec Ideal S14336x16x4x32 .bf16) (w : Fin 4 → Fin 32 → ℤ), (∀ c l, 0 ≤ w c l ∧ w c l ≤ 128) → (∀ c l, W (ix4 n b c l) = ((w c l : ℝ) : EReal)) →
      Ideal.fptosi 32 (Host.dotGeneral (F := Ideal) dot_S24x16x4x32_S14336x16x4x32_S16x24x14336_23_23_0_0_1_1 none A W (ix3 b r n)) = BitVec.ofInt 32 (∑ c, ∑ l, a c l * w c l) := fun W w hw hW => by
    have e : Host.dotGeneral (F := Ideal) dot_S24x16x4x32_S14336x16x4x32_S16x24x14336_23_23_0_0_1_1 none A W (ix3 b r n) = (((∑ c, ∑ l, a c l * w c l : ℤ) : ℝ) : EReal) := by
      rw [dot4]
      push_cast
      rw [coe_sum]
      refine Finset.sum_congr rfl fun c _ => ?_
      rw [coe_sum]
      refine Finset.sum_congr rfl fun l _ => ?_
      rw [hA, hW, ← EReal.coe_mul]
    rw [e]
    have hb := sum_bound (fun c => ∑ l, a c l * w c l) (32 * (128 * 128)) fun c => sum_bound (fun l => a c l * w c l) (128 * 128) fun l => mul_bound _ _ 128 128 (ha c l) (hw c l) (by norm_num)
    norm_num at hb
    exact fptosi_exact _ (by omega) (by omega)
  rw [one Wh _ (fun c l => ?_) hh, one Wl _ (fun c l => ?_) hl]
  · unfold IntOp.addi IntOp.muli
    rw [show (128#32 : BitVec 32) = BitVec.ofInt 32 128 from by decide, ← BitVec.ofInt_mul, ← BitVec.ofInt_add]
    congr 1
    rw [Finset.mul_sum, ← Finset.sum_add_distrib]
    refine Finset.sum_congr rfl fun c _ => ?_
    rw [Finset.mul_sum, ← Finset.sum_add_distrib]
    refine Finset.sum_congr rfl fun l _ => ?_
    have e := (split_field ⟨p c l, hp c l⟩).1
    have e' : 128 * (IntOp.shrsi .host (BitVec.ofNat 32 (p c l)) 7#32).toInt + (IntOp.andi (BitVec.ofNat 32 (p c l)) 127#32).toInt = (p c l : ℤ) := e
    rw [← e']; ring
  · have := (split_field ⟨p c l, hp c l⟩).2.2.2; exact ⟨this.1, le_of_lt this.2⟩
  · have := (split_field ⟨p c l, hp c l⟩).2; exact ⟨this.1, le_trans (le_of_lt this.2.1) (by norm_num)⟩

theorem field_lt (y : Fin 12 → BitVec 8) (j : Fin 8) (z : BitVec 8) (i : ℕ) : scN y j * nibN z i < 1024 := by
  have h1 := scB_lt y j
  have h2 := nibN_lt z i
  have h1' : scN y j ≤ 63 := by unfold scN; omega
  have : scN y j * nibN z i ≤ 63 * 15 := Nat.mul_le_mul h1' (by omega)
  omega

/-- The codes' products with the scaled nibbles of a block. -/
theorem ref_dots (b : Fin 16) (r : Fin 24) (n : Fin 14336) :
    val_main_v153 (F := Ideal) h g q s (ix3 b r n)
      = (((∑ j, (scN (fun i => s (ix3 n b i)) j : ℤ) * dotN (kX (val_main_v12 (F := Ideal) h g) r b) (fun i => q (ix3 n b i)) j : ℤ) : ℝ) : EReal) := by
  have hi := split_dot (val_main_v71 (F := Ideal) h g) (val_main_v74 (F := Ideal) q s) (val_main_v78 (F := Ideal) q s) b r n _ _ (fun c l => code_bound _ r _) (fun c l => field_lt _ _ _ _) (fun c l => (ref_half h g r b c l).1)
    (fun c l => by rw [val_main_v74_apply, val_main_v73_apply, (ref_field q s n b c l).1]; rfl) (fun c l => by rw [val_main_v78_apply, val_main_v77_apply, (ref_field q s n b c l).1]; rfl)
  have ho := split_dot (val_main_v86 (F := Ideal) h g) (val_main_v89 (F := Ideal) q s) (val_main_v93 (F := Ideal) q s) b r n _ _ (fun c l => code_bound _ r _) (fun c l => field_lt _ _ _ _) (fun c l => (ref_half h g r b c l).2)
    (fun c l => by rw [val_main_v89_apply, val_main_v88_apply, (ref_field q s n b c l).2]; rfl) (fun c l => by rw [val_main_v93_apply, val_main_v92_apply, (ref_field q s n b c l).2]; rfl)
  rw [val_main_v153_apply]
  have e84 : val_main_v84 (F := Ideal) h g q s (ix3 b r n) = _ := hi
  have e99 : val_main_v99 (F := Ideal) h g q s (ix3 b r n) = _ := ho
  rw [val_main_v100_apply, e84, e99]
  unfold IntOp.addi
  rw [← BitVec.ofInt_add]
  have bh := sum_bound (fun c : Fin 4 => ∑ l : Fin 32, cI (val_main_v12 (F := Ideal) h g) r (bAt b ⟨64 * c.val + l.val, by omega⟩) * ((scN (fun i => s (ix3 n b i)) ⟨2 * c.val, by omega⟩ * nibN (q (ix3 n b ⟨32 * c.val + l.val, by omega⟩)) 0 : ℕ) : ℤ)) (32 * (128 * 1024))
    fun c => sum_bound (N := 32) _ (128 * 1024) fun l : Fin 32 => mul_bound _ _ 128 1024 (code_bound _ _ _) ⟨Int.natCast_nonneg _, by have := field_lt (fun i => s (ix3 n b i)) ⟨2 * c.val, by omega⟩ (q (ix3 n b ⟨32 * c.val + l.val, by omega⟩)) 0; omega⟩ (by norm_num)
  have bo := sum_bound (fun c : Fin 4 => ∑ l : Fin 32, cI (val_main_v12 (F := Ideal) h g) r (bAt b ⟨64 * c.val + 32 + l.val, by omega⟩) * ((scN (fun i => s (ix3 n b i)) ⟨2 * c.val + 1, by omega⟩ * nibN (q (ix3 n b ⟨32 * c.val + l.val, by omega⟩)) 1 : ℕ) : ℤ)) (32 * (128 * 1024))
    fun c => sum_bound (N := 32) _ (128 * 1024) fun l : Fin 32 => mul_bound _ _ 128 1024 (code_bound _ _ _) ⟨Int.natCast_nonneg _, by have := field_lt (fun i => s (ix3 n b i)) ⟨2 * c.val + 1, by omega⟩ (q (ix3 n b ⟨32 * c.val + l.val, by omega⟩)) 1; omega⟩ (by norm_num)
  norm_num only at bh bo
  have key : ∀ z : ℤ, -2147483648 ≤ z → z ≤ 2147483647 → (FloatOps.sitofp (F := Ideal) .f32 (BitVec.ofInt 32 z) : EReal) = ((z : ℝ) : EReal) := fun z h0 h1 => by
    show (((BitVec.ofInt 32 z).toInt : ℝ) : EReal) = _
    rw [ofInt_toInt z h0 h1]
  refine (key _ (by linarith [bh.1, bo.1]) (by linarith [bh.2, bo.2])).trans ?_
  refine congrArg (fun z : ℤ => ((z : ℝ) : EReal)) ?_
  rw [← Finset.sum_add_distrib, sumSplit 4 2 rfl]
  refine Finset.sum_congr rfl fun c _ => ?_
  rw [Fin.sum_univ_two]
  unfold dotN
  rw [Finset.mul_sum, Finset.mul_sum]
  refine congrArg₂ (· + ·) (Finset.sum_congr rfl fun l _ => ?_) (Finset.sum_congr rfl fun l _ => ?_)
  · have hc := c.isLt
    push_cast
    rw [mul_left_comm]
    refine congrArg₂ (· * ·) rfl (congrArg₂ (· * ·) (congrArg (cI _ r) (congrArg (bAt b) (Fin.ext ?_))) (congrArg (fun z : ℕ => (z : ℤ)) (congrArg₂ nibN (congrArg (fun z => q (ix3 n b z)) (Fin.ext ?_)) ?_)))
    · show 64 * c.val + l.val = 32 * (2 * c.val + 0) + l.val; omega
    · show 32 * c.val + l.val = 32 * ((2 * c.val + 0) / 2) + l.val; omega
    · show 0 = (2 * c.val + 0) % 2; omega
  · have hc := c.isLt
    push_cast
    rw [mul_left_comm]
    refine congrArg₂ (· * ·) rfl (congrArg₂ (· * ·) (congrArg (cI _ r) (congrArg (bAt b) (Fin.ext ?_))) (congrArg (fun z : ℕ => (z : ℤ)) (congrArg₂ nibN (congrArg (fun z => q (ix3 n b z)) (Fin.ext ?_)) ?_)))
    · show 64 * c.val + 32 + l.val = 32 * (2 * c.val + 1) + l.val; omega
    · show 32 * c.val + l.val = 32 * ((2 * c.val + 1) / 2) + l.val; omega
    · show 1 = (2 * c.val + 1) % 2; omega

/-- The codes' sums with the minima of a block. -/
theorem ref_mins (b : Fin 16) (r : Fin 24) (n : Fin 14336) :
    val_main_v106 (F := Ideal) h g s (ix3 b r n)
      = ((∑ j, (sumN (kX (val_main_v12 (F := Ideal) h g) r b) j : ℝ) * (mnZ (fun i => s (ix3 n b i)) j : ℝ) : ℝ) : EReal) := by
  rw [val_main_v106_apply, coe_sum]
  refine Finset.sum_congr rfl fun j _ => ?_
  have hr := r.isLt; have hb := b.isLt; have hj := j.isLt
  have i1 : lidx_main_v106 (ix3 b r n) j = ix3 r b j := funext fun a => match a with | ⟨0, _⟩ => rfl | ⟨1, _⟩ => rfl | ⟨2, _⟩ => rfl
  have i2 : ridx_main_v106 (ix3 b r n) j = ix3 n b j := funext fun a => match a with | ⟨0, _⟩ => rfl | ⟨1, _⟩ => rfl | ⟨2, _⟩ => rfl
  rw [i1, i2, EReal.coe_mul]
  refine congrArg₂ (fun x y : EReal => x * y) ?_ ?_
  · rw [val_main_v104_apply]
    have z : val_main_cst_23 (F := Ideal) (Shape.Idx.first h_S_) = (0 : EReal) := lit0
    rw [z, zero_add]
    unfold sumN
    push_cast
    rw [coe_sum]
    refine Finset.sum_congr rfl fun l _ => ?_
    have hl := l.isLt
    rw [val_main_v103_apply, val_main_v102_apply, val_main_v101_apply]
    have e : idx_main_v102 (idx_main_v104 (ix3 r b j) l) = ix2 r (bAt b ⟨32 * j.val + l.val, by omega⟩) := funext fun a => match a with
      | ⟨0, _⟩ => Fin.ext (by show (((r.val * 16 + b.val) * 8 + j.val) * 32 + l.val) / 4096 = r.val; omega)
      | ⟨1, _⟩ => Fin.ext (by show (((r.val * 16 + b.val) * 8 + j.val) * 32 + l.val) % 4096 = 256 * b.val + (32 * j.val + l.val); omega)
    rw [e, ref_code]
    show ((((cod (val_main_v12 (F := Ideal) h g) r _).signExtend 32).toInt : ℝ) : EReal) = _
    rw [BitVec.toInt_signExtend_of_le (by norm_num)]; rfl
  · rw [val_main_v105_apply, ref_mn]; rfl

/-! ## Factors -/

theorem ref_f16 (n : Fin 14336) (b : Fin 16) : val_main_v126 (F := Ideal) d (ix2 n b) = ((hR (d (ix2 n b)) : ℝ) : EReal) := by
  rw [← hF_eq]
  rw [val_main_v126_apply, val_main_v122_apply, val_main_v111_apply, val_main_v109_apply, val_main_v107_apply, val_main_v125_apply, val_main_v123_apply, val_main_v113_apply, val_main_v107_apply,
    val_main_v120_apply, val_main_v119_apply, val_main_v117_apply, val_main_v115_apply, val_main_v107_apply]
  generalize d (ix2 n b) = x
  have hx := x.isLt
  have e1 : IntOp.shrui .host (x.setWidth 32) 10#32 = IntOp.shrsi .vector (x.setWidth 32) 10#32 := by
    unfold IntOp.shrui IntOp.shrsi
    simp only [show (10#32 : BitVec 32).toNat < 32 from by decide, if_true]
    apply BitVec.eq_of_toInt_eq
    have hm : (x.setWidth 32).msb = false := by rw [BitVec.msb_eq_false_iff_two_mul_lt, BitVec.toNat_setWidth]; omega
    simp [BitVec.sshiftRight_eq_of_msb_false hm]
  have e2 : (((IntOp.andi (x.setWidth 32) 1023#32).toNat : ℝ) : EReal) = (((IntOp.andi (x.setWidth 32) 1023#32).toInt : ℝ) : EReal) := by
    rw [toInt_small (IntOp.andi (x.setWidth 32) 1023#32) _ rfl ?_, Int.cast_natCast]
    unfold IntOp.andi
    rw [BitVec.toNat_and]
    have := Nat.and_le_right (n := (x.setWidth 32).toNat) (m := (1023#32 : BitVec 32).toNat)
    have h2 : (1023#32 : BitVec 32).toNat = 1023 := rfl
    omega
  unfold hF
  rw [← e1, ← e2]
  rfl

/-- A row of the reference's product. -/
theorem ref_row (r : Fin 24) (n : Fin 14336) :
    val_main_v161 (F := Ideal) h g q s d m (ix2 r n)
      = ((rowR (kX (val_main_v12 (F := Ideal) h g) r) (sR (val_main_v12 (F := Ideal) h g) r) (fun b i => q (ix3 n b i)) (fun b i => s (ix3 n b i)) (fun b => d (ix2 n b)) (fun b => m (ix2 n b)) : ℝ) : EReal) := by
  rw [val_main_v161_apply]
  have z : val_main_cst_40 (F := Ideal) (Shape.Idx.first h_S_) = (0 : EReal) := lit0
  rw [z, zero_add]
  unfold rowR
  rw [coe_sum]
  refine Finset.sum_congr rfl fun b _ => ?_
  have i1 : idx_main_v161 (ix2 r n) b = ix3 b r n := funext fun a => match a with | ⟨0, _⟩ => rfl | ⟨1, _⟩ => rfl | ⟨2, _⟩ => rfl
  rw [i1, val_main_v160_apply, val_main_v158_apply, val_main_v155_apply, val_main_v157_apply, ref_dots, ref_mins]
  have es : val_main_v159 (F := Ideal) h g (ix3 b r n) = scl (val_main_v12 (F := Ideal) h g) r b := by
    rw [val_main_v159_apply, val_main_v152_apply, val_main_v151_apply, ← ref_scale]
    exact congrArg (val_main_v20 (F := Ideal) h g) (funext fun a => match a with | ⟨0, _⟩ => rfl | ⟨1, _⟩ => rfl)
  have ed : val_main_v154 (F := Ideal) d (ix3 b r n) = ((hR (d (ix2 n b)) : ℝ) : EReal) := by
    rw [val_main_v154_apply, val_main_v128_apply, val_main_v127_apply, ← ref_f16]
    exact congrArg (val_main_v126 (F := Ideal) d) (funext fun a => match a with | ⟨0, _⟩ => rfl | ⟨1, _⟩ => rfl)
  have em : val_main_v156 (F := Ideal) m (ix3 b r n) = ((hR (m (ix2 n b)) : ℝ) : EReal) := by
    rw [val_main_v156_apply, val_main_v150_apply, val_main_v149_apply, ← ref_f16]
    exact congrArg (val_main_v126 (F := Ideal) m) (funext fun a => match a with | ⟨0, _⟩ => rfl | ⟨1, _⟩ => rfl)
  rw [es, ed, em]
  set D : ℤ := ∑ j, (scN (fun i => s (ix3 n b i)) j : ℤ) * dotN (kX (val_main_v12 (F := Ideal) h g) r b) (fun i => q (ix3 n b i)) j with hD
  set Z : ℝ := ∑ j, (sumN (kX (val_main_v12 (F := Ideal) h g) r b) j : ℝ) * (mnZ (fun i => s (ix3 n b i)) j : ℝ) with hZ
  have inf : scl (val_main_v12 (F := Ideal) h g) r b = ⊤ ∨ scl (val_main_v12 (F := Ideal) h g) r b = ⊥ → D = 0 ∧ Z = 0 := fun hs => by
    have k0 : ∀ i, kX (val_main_v12 (F := Ideal) h g) r b i = 0 := fun i => cI_inf _ r b i hs
    constructor
    · rw [hD]; unfold dotN; simp only [k0, zero_mul, Finset.sum_const_zero, mul_zero]
    · rw [hZ]; unfold sumN; simp only [k0, Finset.sum_const_zero, Int.cast_zero, zero_mul]
  show (scl (val_main_v12 (F := Ideal) h g) r b * (((hR (d (ix2 n b)) : ℝ) : EReal) * ((D : ℝ) : EReal) - ((hR (m (ix2 n b)) : ℝ) : EReal) * ((Z : ℝ) : EReal)) : EReal) = _
  rw [← EReal.coe_mul, ← EReal.coe_mul, ← EReal.coe_sub, mul_comm, mul_scale _ _ (fun hs => by rw [(inf hs).1, (inf hs).2]; simp), mul_comm (_ : ℝ) (EReal.toReal _)]
  rfl

/-- The second product is the first with its own weights. -/
theorem up_row : val_main_v294 (F := Ideal) h g q s d m = val_main_v161 (F := Ideal) h g q s d m := rfl

end Cert.Ff

end
-- ==== Proof.RefA.lean ====
/- The reference's gated product, its codes and its scales, in closed form. -/
module

public import proofs.«01_k».proof.Proof.RefM
public import proofs.«01_k».proof.Proof.Tile

@[expose] public section

set_option maxRecDepth 16384

noncomputable section

namespace Cert.Ff

open Idealize.ShloMosaic hiding ix0 ix1 ix2 ix3 ix4 eq_ix1 eq_ix2 eq_ix3 eq_ix4
open Idealize.ShloMosaic.ValueIdx Cert.ReferenceIdeal Cert.ReferenceIdeal.Gen Cert.ReferenceIdeal.Read

variable (h : FVec Ideal S24x4096 .f32) (g : FVec Ideal S4096 .f32)
variable (q : Vec Ideal S14336x16x128 .i8) (s : Vec Ideal S14336x16x12 .i8) (d m : Vec Ideal S14336x16 .i16)
variable (q' : Vec Ideal S14336x16x128 .i8) (s' : Vec Ideal S14336x16x12 .i8) (d' m' : Vec Ideal S14336x16 .i16)

/-- The gate through its sigmoid, times the other product. -/
def gl (x y : EReal) : EReal := x * Ideal.logistic x * y

theorem lit_one : (Ideal.ofBits .f32 0x3F800000#32 : EReal) = 1 := lit1

theorem ref_glu (i : S24x14336.Idx) :
    val_main_v296 (F := Ideal) h g q s d m q' s' d' m' i = gl (val_main_v161 (F := Ideal) h g q s d m i) (val_main_v161 (F := Ideal) h g q' s' d' m' i) := by
  rw [val_main_v296_apply, up_row, val_main_v295_apply, val_main_call7_v5_apply, val_main_call7_v4_apply, val_main_call7_v3_apply, val_main_call7_v2_apply, val_main_call7_v1_apply, val_main_call7_v0_apply]
  generalize val_main_v161 (F := Ideal) h g q s d m i = x
  generalize val_main_v161 (F := Ideal) h g q' s' d' m' i = y
  show (x * Ideal.div (Ideal.ofBits .f32 0x3F800000#32) (Ideal.ofBits .f32 0x3F800000#32 + Ideal.exp (-x)) * y : EReal) = _
  rw [lit_one]; rfl

/-- Position `k` of block `j` of a 14336-wide row. -/
def cAt (j : Fin 56) (k : Fin 256) : Fin 14336 := ⟨256 * j.val + k.val, by omega⟩

/-- The reference's scale of a block of the gated product. -/
theorem ref_ascale (r : Fin 24) (j : Fin 56) :
    val_main_v304 (F := Ideal) h g q s d m q' s' d' m' (ix2 r j) = qs (amax fun k => val_main_v296 (F := Ideal) h g q s d m q' s' d' m' (ix2 r (cAt j k))) := by
  have e : val_main_v299 (F := Ideal) h g q s d m q' s' d' m' (ix2 r j) = amax (fun k => val_main_v296 (F := Ideal) h g q s d m q' s' d' m' (ix2 r (cAt j k))) := by
    refine (host_amax (val_main_v297 (F := Ideal) h g q s d m q' s' d' m') (by decide) _ _ r j).trans ?_
    congr 1
    funext k
    rw [val_main_v297_apply]
    have : idx_main_v297 (ix3 r j k) = ix2 r (cAt j k) := by
      funext a
      have := r.isLt; have := j.isLt; have := k.isLt
      match a with
      | ⟨0, _⟩ => exact Fin.ext (by show ((r.val * 56 + j.val) * 256 + k.val) / 14336 = r.val; omega)
      | ⟨1, _⟩ => exact Fin.ext (by show ((r.val * 56 + j.val) * 256 + k.val) % 14336 = 256 * j.val + k.val; omega)
    rw [this]
  rw [val_main_v304_apply, val_main_v301_apply, val_main_v303_apply, e, val_main_v300_apply, val_main_v302_apply, val_main_call8_v1_apply]
  generalize (amax fun k => val_main_v296 (F := Ideal) h g q s d m q' s' d' m' (ix2 r (cAt j k))) = x
  show Scalar.select (Ideal.cmp .oeq x (Ideal.ofBits .f32 0x00000000#32)) (Ideal.ofBits .f32 0x3F800000#32) (Ideal.div x (Ideal.ofBits .f32 0x42FE0000#32)) = _
  rw [sel_oeq, lit127, lit1, lit0]; rfl

/-- The reference's code of the gated product at a position. -/
theorem ref_acode (r : Fin 24) (j : Fin 56) (k : Fin 256) :
    val_main_v312 (F := Ideal) h g q s d m q' s' d' m' (ix2 r (cAt j k))
      = qc (val_main_v296 (F := Ideal) h g q s d m q' s' d' m' (ix2 r (cAt j k))) (qs (amax fun k => val_main_v296 (F := Ideal) h g q s d m q' s' d' m' (ix2 r (cAt j k)))) := by
  have hr := r.isLt; have hj := j.isLt; have hk := k.isLt
  have ei : idx_main_v312 (ix2 r (cAt j k)) = ix3 r j k := by
    funext a
    match a with
    | ⟨0, _⟩ => exact Fin.ext (by show (r.val * 14336 + (256 * j.val + k.val)) / 14336 = r.val; omega)
    | ⟨1, _⟩ => exact Fin.ext (by show (r.val * 14336 + (256 * j.val + k.val)) / 256 % 56 = j.val; omega)
    | ⟨2, _⟩ => exact Fin.ext (by show (r.val * 14336 + (256 * j.val + k.val)) % 256 = k.val; omega)
  have e297 : idx_main_v297 (ix3 r j k) = ix2 r (cAt j k) := by
    funext a
    match a with
    | ⟨0, _⟩ => exact Fin.ext (by show ((r.val * 56 + j.val) * 256 + k.val) / 14336 = r.val; omega)
    | ⟨1, _⟩ => exact Fin.ext (by show ((r.val * 56 + j.val) * 256 + k.val) % 14336 = 256 * j.val + k.val; omega)
  rw [val_main_v312_apply, ei]
  have e25 : val_main_v309 (F := Ideal) h g q s d m q' s' d' m' (ix3 r j k) = qv (val_main_v296 (F := Ideal) h g q s d m q' s' d' m' (ix2 r (cAt j k))) (qs (amax fun k => val_main_v296 (F := Ideal) h g q s d m q' s' d' m' (ix2 r (cAt j k)))) := by
    rw [← ref_ascale, ← e297, ← val_main_v297_apply]
    have e22 : val_main_v306 (F := Ideal) h g q s d m q' s' d' m' (ix3 r j k) = val_main_v304 (F := Ideal) h g q s d m q' s' d' m' (ix2 r j) := by
      rw [val_main_v306_apply, val_main_v305_apply]
      congr 1
      funext a; match a with | ⟨0, _⟩ => rfl | ⟨1, _⟩ => rfl
    rw [val_main_v309_apply, val_main_call10_v4_apply, val_main_call10_v3_apply, val_main_call10_v2_apply, val_main_call10_v1_apply, val_main_call10_v0_apply,
      val_main_v308_apply, val_main_v307_apply, val_main_c_79_apply, val_main_c_80_apply, e22]
    generalize val_main_v297 (F := Ideal) h g q s d m q' s' d' m' _ = x
    generalize val_main_v304 (F := Ideal) h g q s d m q' s' d' m' _ = y
    show min (((127#32 : BitVec 32).toInt : ℝ) : EReal) (max (((4294967169#32 : BitVec 32).toInt : ℝ) : EReal)
      (Ideal.liftRound Ideal.roundHalfEven (Ideal.div x y))) = _
    rw [show (127#32 : BitVec 32).toInt = 127 from by decide, show (4294967169#32 : BitVec 32).toInt = -127 from by decide]
    unfold qv; push_cast; rfl
  show (Ideal.fptosi 32 (val_main_v309 (F := Ideal) h g q s d m q' s' d' m' _)).setWidth 8 = _
  rw [e25]
  exact qc_wide _ _

end Cert.Ff

namespace Cert.KernelIdeal.Gen

open Idealize.ShloMosaic hiding ix0 ix1 ix2 ix3 ix4 eq_ix1 eq_ix2 eq_ix3 eq_ix4
open Idealize.ShloMosaic.ValueIdx Cert.Ff

theorem glu_apply (g u : FVec Ideal S24x256 .f32) (r : Fin 24) (n : Fin 256) : glu g u (ix2 r n) = gl (g (ix2 r n)) (u (ix2 r n)) := rfl

theorem actS_apply (a : FVec Ideal S24x256 .f32) (r : Fin 24) (z : Fin 1) : actS a (ix2 r z) = qs (amax fun k => a (ix2 r k)) := kbScale_apply a r z

theorem actC_apply (a : FVec Ideal S24x256 .f32) (r : Fin 24) (n : Fin 256) : actC a (ix2 r n) = qc (a (ix2 r n)) (qs (amax fun k => a (ix2 r k))) := by
  unfold qc
  rw [← kbVal_apply]
  rfl

/-- A column laid into the scales. -/
theorem colV_apply (n : ℕ) (hn : n < 56) (w : Vec Ideal S24x56 .f32) (s : FVec Ideal S24x1 .f32) (r : Fin 24) (l : Fin 56) :
    colV (BitVec.ofNat 32 n) w s (ix2 r l) = if l.val = n then s (ix2 r (0 : Fin 1)) else w (ix2 r l) := by
  have e : broadcastTo S24x56 (shapeCast S24x1 s shapeCasts_S24x1_S24x1) broadcasts_S24x1_S24x56 (ix2 r l) = s (ix2 r (0 : Fin 1)) :=
    (congrArg (shapeCast S24x1 s shapeCasts_S24x1_S24x1) (funext fun a => match a with | ⟨0, _⟩ => rfl | ⟨1, _⟩ => rfl)).trans
      (shapeCast_apply _ _ (ix2 r (0 : Fin 1)) (ix2 r (0 : Fin 1)) rfl)
  have ei : iota .tc S24x56 32 [1] iota_S24x56_d1_w32 (ix2 r l) = BitVec.ofNat 32 l.val := by
    show BitVec.ofNat 32 _ = _
    congr 1
    simp
  unfold colV
  rw [select_apply, e, shapeCast_self]
  show Scalar.select (IntOp.cmpi .eq (iota .tc S24x56 32 [1] iota_S24x56_d1_w32 (ix2 r l)) (BitVec.ofNat 32 n)) _ _ = _
  rw [ei]
  have hi : IntOp.cmpi .eq (BitVec.ofNat 32 l.val) (BitVec.ofNat 32 n) = if l.val = n then 1#1 else 0#1 := by
    have := l.isLt
    by_cases h : l.val = n
    · simp [IntOp.cmpi, h]
    · have : ¬ BitVec.ofNat 32 l.val = BitVec.ofNat 32 n := fun e => h (by
        have := congrArg BitVec.toNat e
        simp only [BitVec.toNat_ofNat] at this
        omega)
      rw [if_neg h]; simp only [IntOp.cmpi]; rw [beq_false_of_ne this]; rfl
  rw [hi]
  by_cases h : l.val = n <;> simp [h, Scalar.select]

end Cert.KernelIdeal.Gen

end
-- ==== Proof.Assemble.lean ====
/- What the four outputs hold after the run, point by point. -/
module

public import proofs.«01_k».proof.Proof.First
public import proofs.«01_k».proof.Proof.BodyA
public import proofs.«01_k».proof.Proof.BodyB
public import proofs.«01_k».proof.Proof.RefA

@[expose] public section

set_option maxRecDepth 16384

noncomputable section

namespace Cert.KernelIdeal.Value

open Cert.KernelIdeal Cert.KernelIdeal.Gen Idealize.ShloMosaic.TcCoe Idealize.SL.Sem
open Idealize.ShloMosaic.Pipeline (Dat)
open Idealize.ShloMosaic hiding ix0 ix1 ix2 ix3 ix4 eq_ix1 eq_ix2 eq_ix3 eq_ix4
open Idealize.ShloMosaic.ValueIdx Cert.Ff

/-- The place in the array of place `a` of point `t`'s block. -/
def colN (t : Fin cfg0.N) (a : Fin 512) : Fin 14336 := ⟨512 * t.val + a.val, by have := lt_of_lt_of_eq t.isLt N_0; omega⟩

theorem idx_q : ∀ t : Fin cfg0.N, win0_2.index t (0 : Fin 3) = t.val ∧ win0_2.index t (1 : Fin 3) = 0 ∧ win0_2.index t (2 : Fin 3) = 0
    ∧ win0_6.index t (0 : Fin 3) = t.val ∧ win0_6.index t (1 : Fin 3) = 0 ∧ win0_6.index t (2 : Fin 3) = 0 :=
  (by decide +kernel : ∀ t : Fin grid0.N, _)
theorem idx_s : ∀ t : Fin cfg0.N, win0_3.index t (0 : Fin 3) = 0 ∧ win0_3.index t (1 : Fin 3) = 0 ∧ win0_3.index t (2 : Fin 3) = t.val
    ∧ win0_7.index t (0 : Fin 3) = 0 ∧ win0_7.index t (1 : Fin 3) = 0 ∧ win0_7.index t (2 : Fin 3) = t.val :=
  (by decide +kernel : ∀ t : Fin grid0.N, _)
theorem idx_d : ∀ t : Fin cfg0.N, win0_4.index t (0 : Fin 2) = 0 ∧ win0_4.index t (1 : Fin 2) = t.val
    ∧ win0_5.index t (0 : Fin 2) = 0 ∧ win0_5.index t (1 : Fin 2) = t.val ∧ win0_8.index t (0 : Fin 2) = 0 ∧ win0_8.index t (1 : Fin 2) = t.val
    ∧ win0_9.index t (0 : Fin 2) = 0 ∧ win0_9.index t (1 : Fin 2) = t.val :=
  (by decide +kernel : ∀ t : Fin grid0.N, _)
theorem kcol : ∀ t : Fin cfg0.N, Scalar.addi (Scalar.muli (BitVec.ofNat 32 (grid0.coords t 0).val) 2#32) 0#32 = BitVec.ofNat 32 (2 * t.val)
    ∧ Scalar.addi (Scalar.muli (BitVec.ofNat 32 (grid0.coords t 0).val) 2#32) 1#32 = BitVec.ofNat 32 (2 * t.val + 1) :=
  (by decide +kernel : ∀ t : Fin grid0.N, _)

section
variable {F : FTy → Type} [FloatOps F] (m : (ℓ : Loc nD τ sig) → Buf (Elt F) ℓ) (c : Dev nD)

theorem V_v1 : V m c main_v1 = transpose S12x16x14336 [2, 1, 0] (m ((c : Thread nD τ).loc main_arg3)) transposes_S14336x16x12_S12x16x14336_2_1_0 := by rfl
theorem V_v2 : V m c main_v2 = transpose S16x14336 [1, 0] (m ((c : Thread nD τ).loc main_arg4)) transposes_S14336x16_S16x14336_1_0 := by rfl
theorem V_v3 : V m c main_v3 = transpose S16x14336 [1, 0] (m ((c : Thread nD τ).loc main_arg5)) transposes_S14336x16_S16x14336_1_0 := by rfl
theorem V_v4 : V m c main_v4 = transpose S12x16x14336 [2, 1, 0] (m ((c : Thread nD τ).loc main_arg7)) transposes_S14336x16x12_S12x16x14336_2_1_0 := by rfl
theorem V_v5 : V m c main_v5 = transpose S16x14336 [1, 0] (m ((c : Thread nD τ).loc main_arg8)) transposes_S14336x16_S16x14336_1_0 := by rfl
theorem V_v6 : V m c main_v6 = transpose S16x14336 [1, 0] (m ((c : Thread nD τ).loc main_arg9)) transposes_S14336x16_S16x14336_1_0 := by rfl

theorem blk_2 (t : Fin cfg0.N) (a : Fin 512) (b : Fin 16) (k : Fin 128) :
    (iblk m c 2 t : Vec F S512x16x128 .i8) (ix3 a b k) = m ((c : Thread nD τ).loc main_arg2) (ix3 (colN t a) b k) := by
  unfold iblk
  rw [View.read_apply]
  refine (congrFun (V_main_arg2 m c) _).trans ?_
  refine congrArg (m ((c : Thread nD τ).loc main_arg2)) (funext fun x => ?_)
  obtain ⟨e0, e1, e2, -⟩ := idx_q t
  apply Fin.ext
  match x with
  | ⟨0, _⟩ => show win0_2.index t (0 : Fin 3) * 512 + 1 * a.val = 512 * t.val + a.val; omega
  | ⟨1, _⟩ => show win0_2.index t (1 : Fin 3) * 16 + 1 * b.val = b.val; omega
  | ⟨2, _⟩ => show win0_2.index t (2 : Fin 3) * 128 + 1 * k.val = k.val; omega

theorem blk_6 (t : Fin cfg0.N) (a : Fin 512) (b : Fin 16) (k : Fin 128) :
    (iblk m c 6 t : Vec F S512x16x128 .i8) (ix3 a b k) = m ((c : Thread nD τ).loc main_arg6) (ix3 (colN t a) b k) := by
  unfold iblk
  rw [View.read_apply]
  refine (congrFun (V_main_arg6 m c) _).trans ?_
  refine congrArg (m ((c : Thread nD τ).loc main_arg6)) (funext fun x => ?_)
  obtain ⟨-, -, -, e0, e1, e2⟩ := idx_q t
  apply Fin.ext
  match x with
  | ⟨0, _⟩ => show win0_6.index t (0 : Fin 3) * 512 + 1 * a.val = 512 * t.val + a.val; omega
  | ⟨1, _⟩ => show win0_6.index t (1 : Fin 3) * 16 + 1 * b.val = b.val; omega
  | ⟨2, _⟩ => show win0_6.index t (2 : Fin 3) * 128 + 1 * k.val = k.val; omega

theorem blk_3 (t : Fin cfg0.N) (a : Fin 512) (b : Fin 16) (k : Fin 12) :
    (iblk m c 3 t : Vec F S12x16x512 .i8) (ix3 k b a) = m ((c : Thread nD τ).loc main_arg3) (ix3 (colN t a) b k) := by
  unfold iblk
  rw [View.read_apply]
  refine (congrFun (V_v1 m c) _).trans ?_
  refine congrArg (m ((c : Thread nD τ).loc main_arg3)) (funext fun x => ?_)
  obtain ⟨e0, e1, e2, -⟩ := idx_s t
  apply Fin.ext
  match x with
  | ⟨0, _⟩ => show win0_3.index t (2 : Fin 3) * 512 + 1 * a.val = 512 * t.val + a.val; omega
  | ⟨1, _⟩ => show win0_3.index t (1 : Fin 3) * 16 + 1 * b.val = b.val; omega
  | ⟨2, _⟩ => show win0_3.index t (0 : Fin 3) * 12 + 1 * k.val = k.val; omega

theorem blk_7 (t : Fin cfg0.N) (a : Fin 512) (b : Fin 16) (k : Fin 12) :
    (iblk m c 7 t : Vec F S12x16x512 .i8) (ix3 k b a) = m ((c : Thread nD τ).loc main_arg7) (ix3 (colN t a) b k) := by
  unfold iblk
  rw [View.read_apply]
  refine (congrFun (V_v4 m c) _).trans ?_
  refine congrArg (m ((c : Thread nD τ).loc main_arg7)) (funext fun x => ?_)
  obtain ⟨-, -, -, e0, e1, e2⟩ := idx_s t
  apply Fin.ext
  match x with
  | ⟨0, _⟩ => show win0_7.index t (2 : Fin 3) * 512 + 1 * a.val = 512 * t.val + a.val; omega
  | ⟨1, _⟩ => show win0_7.index t (1 : Fin 3) * 16 + 1 * b.val = b.val; omega
  | ⟨2, _⟩ => show win0_7.index t (0 : Fin 3) * 12 + 1 * k.val = k.val; omega

theorem blk_4 (t : Fin cfg0.N) (a : Fin 512) (b : Fin 16) :
    (iblk m c 4 t : Vec F S16x512 .i16) (ix2 b a) = m ((c : Thread nD τ).loc main_arg4) (ix2 (colN t a) b) := by
  unfold iblk
  rw [View.read_apply]
  refine (congrFun (V_v2 m c) _).trans ?_
  refine congrArg (m ((c : Thread nD τ).loc main_arg4)) (funext fun x => ?_)
  obtain ⟨e0, e1, -⟩ := idx_d t
  apply Fin.ext
  match x with
  | ⟨0, _⟩ => show win0_4.index t (1 : Fin 2) * 512 + 1 * a.val = 512 * t.val + a.val; omega
  | ⟨1, _⟩ => show win0_4.index t (0 : Fin 2) * 16 + 1 * b.val = b.val; omega

theorem blk_5 (t : Fin cfg0.N) (a : Fin 512) (b : Fin 16) :
    (iblk m c 5 t : Vec F S16x512 .i16) (ix2 b a) = m ((c : Thread nD τ).loc main_arg5) (ix2 (colN t a) b) := by
  unfold iblk
  rw [View.read_apply]
  refine (congrFun (V_v3 m c) _).trans ?_
  refine congrArg (m ((c : Thread nD τ).loc main_arg5)) (funext fun x => ?_)
  obtain ⟨-, -, e0, e1, -⟩ := idx_d t
  apply Fin.ext
  match x with
  | ⟨0, _⟩ => show win0_5.index t (1 : Fin 2) * 512 + 1 * a.val = 512 * t.val + a.val; omega
  | ⟨1, _⟩ => show win0_5.index t (0 : Fin 2) * 16 + 1 * b.val = b.val; omega

theorem blk_8 (t : Fin cfg0.N) (a : Fin 512) (b : Fin 16) :
    (iblk m c 8 t : Vec F S16x512 .i16) (ix2 b a) = m ((c : Thread nD τ).loc main_arg8) (ix2 (colN t a) b) := by
  unfold iblk
  rw [View.read_apply]
  refine (congrFun (V_v5 m c) _).trans ?_
  refine congrArg (m ((c : Thread nD τ).loc main_arg8)) (funext fun x => ?_)
  obtain ⟨-, -, -, -, e0, e1, -⟩ := idx_d t
  apply Fin.ext
  match x with
  | ⟨0, _⟩ => show win0_8.index t (1 : Fin 2) * 512 + 1 * a.val = 512 * t.val + a.val; omega
  | ⟨1, _⟩ => show win0_8.index t (0 : Fin 2) * 16 + 1 * b.val = b.val; omega

theorem blk_9 (t : Fin cfg0.N) (a : Fin 512) (b : Fin 16) :
    (iblk m c 9 t : Vec F S16x512 .i16) (ix2 b a) = m ((c : Thread nD τ).loc main_arg9) (ix2 (colN t a) b) := by
  unfold iblk
  rw [View.read_apply]
  refine (congrFun (V_v6 m c) _).trans ?_
  refine congrArg (m ((c : Thread nD τ).loc main_arg9)) (funext fun x => ?_)
  obtain ⟨-, -, -, -, -, -, e0, e1⟩ := idx_d t
  apply Fin.ext
  match x with
  | ⟨0, _⟩ => show win0_9.index t (1 : Fin 2) * 512 + 1 * a.val = 512 * t.val + a.val; omega
  | ⟨1, _⟩ => show win0_9.index t (0 : Fin 2) * 16 + 1 * b.val = b.val; omega

end

section
variable (m : (ℓ : Loc nD τ sig) → Buf (Elt Ideal) ℓ) (c : Dev nD)

/-- The reference's gated product. -/
abbrev gp : FVec Ideal S24x14336 .f32 := Cert.ReferenceIdeal.Read.val_main_v296 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Its scale for a block. -/
abbrev gs (r : Fin 24) (j : Fin 56) : EReal := qs (amax fun k => gp m c (ix2 r (cAt j k)))

/-- The kernel's gated product: tile `sub` of point `t`. -/
def tl (t : Fin cfg0.N) (sub : Fin 2) : FVec Ideal S24x256 .f32 :=
  gluC (View.canon (hs2 (nrm m c))) (View.canon (hs0 (nrm m c))) (View.canon (hs1 (nrm m c))) (iblk m c 2 t) (iblk m c 3 t) (iblk m c 4 t) (iblk m c 5 t) (iblk m c 6 t) (iblk m c 7 t) (iblk m c 8 t) (iblk m c 9 t) sub

theorem tl_apply (t : Fin cfg0.N) (sub : Fin 2) (r : Fin 24) (n : Fin 256) :
    tl m c t sub (ix2 r n) = gp m c (ix2 r (colN t ⟨256 * sub.val + n.val, by omega⟩)) := by
  unfold tl gluC gp
  rw [glu_apply, tileC_apply, tileC_apply, ref_glu, ref_row, ref_row]
  rw [show yW (iblk m c 2 t) sub n = _ from funext fun b => funext fun i => blk_2 m c t _ b i,
    show tW (iblk m c 3 t) sub n = _ from funext fun b => funext fun i => blk_3 m c t _ b i,
    show dW (iblk m c 4 t) sub n = _ from funext fun b => blk_4 m c t _ b,
    show dW (iblk m c 5 t) sub n = _ from funext fun b => blk_5 m c t _ b,
    show yW (iblk m c 6 t) sub n = _ from funext fun b => funext fun i => blk_6 m c t _ b i,
    show tW (iblk m c 7 t) sub n = _ from funext fun b => funext fun i => blk_7 m c t _ b i,
    show dW (iblk m c 8 t) sub n = _ from funext fun b => blk_8 m c t _ b,
    show dW (iblk m c 9 t) sub n = _ from funext fun b => blk_9 m c t _ b]

theorem tl_scale (t : Fin cfg0.N) (sub : Fin 2) (r : Fin 24) (j : Fin 56) (hj : j.val = 2 * t.val + sub.val) :
    qs (amax fun k => tl m c t sub (ix2 r k)) = gs m c r j := by
  have : (fun k => tl m c t sub (ix2 r k)) = fun k => gp m c (ix2 r (cAt j k)) := by
    funext k
    rw [tl_apply]
    have : colN t ⟨256 * sub.val + k.val, by omega⟩ = cAt j k := Fin.ext (by
      show 512 * t.val + (256 * sub.val + k.val) = 256 * j.val + k.val; omega)
    rw [this]
  rw [this]

theorem norm_pt (h : 0 < cfg0.N) : k0_pay2 (F := Ideal) (iblk m c 0 ⟨0, h⟩) (iblk m c 1 ⟨0, h⟩) = nrm m c := by
  have e := normed (m ((c : Thread nD τ).loc main_arg0)) (m ((c : Thread nD τ).loc main_arg1)) _ (blk_g m c h)
  rw [← blk_h m c h] at e
  rw [e, blk_h]

/-- The kept scratches after the first point. -/
theorem scr0 (h : 0 + 0 < cfg0.N) : (st m c 0 h).2.2.2.2 = (View.canon (hs0 (nrm m c)), View.canon (hs1 (nrm m c)), View.canon (hs2 (nrm m c))) := by
  refine (congrArg (fun p => p.2.2.2.2) (stAt0_A m c ⟨0, h⟩ junk0 rfl)).trans ?_
  dsimp only
  rw [← soutA_0_canon, ← soutA_1_canon, ← soutA_2_canon, HS0_eq, HS1_eq, HS2_eq,
    readAt_whole (ms0_0 ⟨0, h⟩) (hs0_0 _) _ (by decide), readAt_whole (ms0_1 ⟨0, h⟩) (hs0_1 _) _ (by decide), norm_pt]

theorem scr (n : ℕ) (hn : 0 + n < cfg0.N) : (st m c n hn).2.2.2.2 = (View.canon (hs0 (nrm m c)), View.canon (hs1 (nrm m c)), View.canon (hs2 (nrm m c))) :=
  (keep m c n hn).2.2.trans (scr0 m c _)

/-- Every point leaves the codes of its two tiles. -/
theorem st_codes (n : ℕ) (hn : 0 + n < cfg0.N) : (st m c n hn).2.2.1 = codes12 (fun sub => actC (tl m c ⟨0 + n, hn⟩ sub)) := by
  cases n with
  | zero =>
    refine (congrArg (fun p => p.2.2.1) (stAt0_A m c ⟨0, hn⟩ junk0 rfl)).trans ?_
    dsimp only
    rw [outA_12, ← soutA_0_canon, ← soutA_1_canon, ← soutA_2_canon, HS0_eq, HS1_eq, HS2_eq,
      readAt_whole (ms0_0 ⟨0, hn⟩) (hs0_0 _) _ (by decide), readAt_whole (ms0_1 ⟨0, hn⟩) (hs0_1 _) _ (by decide), norm_pt]
    unfold tl
    rfl
  | succ n =>
    have hN : (0 + (n + 1)) < 28 := lt_of_lt_of_eq hn N_0
    refine (congrArg (fun p => p.2.2.1) (stAt0_B m c ⟨0 + (n + 1), hn⟩ (st m c n (by omega)) (by show ¬(0 + (n + 1)) % 28 = 0; omega))).trans ?_
    dsimp only
    rw [outB_12, scr m c n]
    dsimp only
    unfold tl
    rfl

/-- Two columns laid into the scales. -/
theorem two_cols (t : Fin cfg0.N) (w : Vec Ideal S24x56 .f32) (r : Fin 24) (l : Fin 56) :
    colV (Scalar.addi (Scalar.muli (BitVec.ofNat 32 (grid0.coords t 0).val) 2#32) 1#32) (colV (Scalar.addi (Scalar.muli (BitVec.ofNat 32 (grid0.coords t 0).val) 2#32) 0#32) w (actS (tl m c t 0))) (actS (tl m c t 1)) (ix2 r l)
      = if l.val / 2 = t.val then gs m c r l else w (ix2 r l) := by
  have ht := lt_of_lt_of_eq t.isLt N_0
  rw [(kcol t).1, (kcol t).2, colV_apply _ (by omega), colV_apply _ (by omega), actS_apply, actS_apply]
  by_cases h1 : l.val = 2 * t.val + 1
  · rw [if_pos h1, if_pos (by omega)]; exact tl_scale m c t 1 r l h1
  · by_cases h0 : l.val = 2 * t.val
    · rw [if_neg h1, if_pos h0, if_pos (by omega)]; exact tl_scale m c t 0 r l h0
    · rw [if_neg h1, if_neg h0, if_neg (by omega)]

/-- After point `n` the columns up to its own hold their scales. -/
theorem st_scales (n : ℕ) (hn : 0 + n < cfg0.N) (r : Fin 24) (l : Fin 56) (hl : l.val / 2 ≤ n) : (st m c n hn).2.2.2.1 (ix2 r l) = gs m c r l := by
  induction n with
  | zero =>
    refine (congrArg (fun p => p.2.2.2.1 (ix2 r l)) (stAt0_A m c ⟨0, hn⟩ junk0 rfl)).trans ?_
    dsimp only
    rw [outA_13, ← soutA_0_canon, ← soutA_1_canon, ← soutA_2_canon, HS0_eq, HS1_eq, HS2_eq,
      readAt_whole (ms0_0 ⟨0, hn⟩) (hs0_0 _) _ (by decide), readAt_whole (ms0_1 ⟨0, hn⟩) (hs0_1 _) _ (by decide), norm_pt]
    have e := two_cols m c ⟨0, hn⟩ (broadcast S24x56 (Scalar.ofBits (F := Ideal) .f32 0x00000000#32)) r l
    unfold tl at e
    have h0 : l.val / 2 = (⟨0, hn⟩ : Fin cfg0.N).val := by show l.val / 2 = 0; omega
    rw [if_pos h0] at e
    exact e
  | succ n ih =>
    have hN : (0 + (n + 1)) < 28 := lt_of_lt_of_eq hn N_0
    refine (congrArg (fun p => p.2.2.2.1 (ix2 r l)) (stAt0_B m c ⟨0 + (n + 1), hn⟩ (st m c n (by omega)) (by show ¬(0 + (n + 1)) % 28 = 0; omega))).trans ?_
    dsimp only
    rw [outB_13, scr m c n]
    dsimp only
    have e := two_cols m c ⟨0 + (n + 1), hn⟩ (st m c n (by omega)).2.2.2.1 r l
    unfold tl at e
    refine e.trans ?_
    by_cases h : l.val / 2 = 0 + (n + 1)
    · exact if_pos h
    · exact (if_neg h).trans (ih (by omega) (by omega))

theorem G13_eq (r : Fin 24) (l : Fin 56) : G13 m c (ix2 r l) = gs m c r l := by
  rw [G13_last]
  exact st_scales m c 27 _ r l (by have := l.isLt; omega)

theorem code_at (n : ℕ) (hn : 0 + n < cfg0.N) (r : Fin 24) (j : Fin 56) (k : Fin 256) (y : S24x512.Idx) (h0 : (y 0).val = r.val) (h1 : 512 * n + (y 1).val = 256 * j.val + k.val) :
    (st m c n hn).2.2.1 y = qc (gp m c (ix2 r (cAt j k))) (gs m c r j) := by
  have hy : (y 1).val < 512 := (y 1).isLt
  have hk := k.isLt
  have h24 : (y 0).val < 24 := (y 0).isLt
  rw [st_codes]
  show actC (tl m c ⟨0 + n, hn⟩ (⟨(y 1).val / 256, by omega⟩ : Fin 2)) (ix2 (⟨(y 0).val, h24⟩ : Fin 24) (⟨(y 1).val % 256, by omega⟩ : Fin 256)) = _
  have er : (⟨(y 0).val, h24⟩ : Fin 24) = r := Fin.ext h0
  rw [actC_apply, er, tl_scale m c ⟨0 + n, hn⟩ _ r j (by show j.val = 2 * (0 + n) + (y 1).val / 256; omega), tl_apply]
  have : colN ⟨0 + n, hn⟩ ⟨256 * ((y 1).val / 256) + (y 1).val % 256, by omega⟩ = cAt j k := Fin.ext (by
    show 512 * (0 + n) + (256 * ((y 1).val / 256) + (y 1).val % 256) = 256 * j.val + k.val; omega)
  exact congrArg (fun z => qc (gp m c (ix2 r z)) (gs m c r j)) this

theorem G12_eq (r : Fin 24) (j : Fin 56) (k : Fin 256) : G12 m c (ix2 r (cAt j k)) = qc (gp m c (ix2 r (cAt j k))) (gs m c r j) := by
  have hr := r.isLt; have hj := j.isLt; have hk := k.isLt
  have hp : pt12Of (ix2 r (cAt j k)) = (256 * j.val + k.val) / 512 := by
    show 28 * (r.val / 24) + 1 * ((256 * j.val + k.val) / 512) = _; omega
  have hc : pt12Of (ix2 r (cAt j k)) < cfg0.N := by rw [hp]; exact lt_of_lt_of_eq (by omega : _ < 28) N_0.symm
  unfold G12
  rw [dif_pos hc]
  exact code_at m c _ _ r j k _ (by show r.val % 24 = r.val; omega) (by rw [hp]; show 512 * ((256 * j.val + k.val) / 512) + (256 * j.val + k.val) % 512 = _; omega)
end

end Cert.KernelIdeal.Value

end
-- ==== Proof.Value.lean ====
/- The kernel's four results are the reference's. -/
module

public import proofs.«01_k».proof.Proof.Assemble

@[expose] public section

set_option maxRecDepth 16384

noncomputable section

namespace Cert.KernelIdeal.Value

open Cert.KernelIdeal Cert.KernelIdeal.Gen Idealize.ShloMosaic.TcCoe Idealize.SL.Sem
open Idealize.ShloMosaic hiding ix0 ix1 ix2 ix3 ix4 eq_ix1 eq_ix2 eq_ix3 eq_ix4
open Idealize.ShloMosaic.ValueIdx Cert.Ff Cert.ReferenceIdeal.Read

variable (m : (ℓ : Loc nD τ sig) → Buf (Elt Ideal) ℓ) (c : Dev nD)

theorem out_0 : val_main_v28 (F := Ideal) (m ((c : Thread nD τ).loc main_arg0)) (m ((c : Thread nD τ).loc main_arg1)) = G10 m c := by
  funext (x : S24x4096.Idx)
  obtain ⟨r, k, rfl⟩ : ∃ (r : Fin 24) (k : Fin 4096), x = ix2 r k := ⟨x 0, x 1, eq_ix2 x⟩
  exact (ref_code _ _ r k).trans (G10_eq m c r k).symm

theorem out_1 : val_main_v20 (F := Ideal) (m ((c : Thread nD τ).loc main_arg0)) (m ((c : Thread nD τ).loc main_arg1)) = G11 m c := by
  funext (x : S24x16.Idx)
  obtain ⟨r, k, rfl⟩ : ∃ (r : Fin 24) (k : Fin 16), x = ix2 r k := ⟨x 0, x 1, eq_ix2 x⟩
  exact (ref_scale _ _ r k).trans (G11_eq m c r k).symm

theorem out_2 : val_main_v312 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = G12 m c := by
  funext (x : S24x14336.Idx)
  obtain ⟨r, N, rfl⟩ : ∃ (r : Fin 24) (N : Fin 14336), x = ix2 r N := ⟨x 0, x 1, eq_ix2 x⟩
  obtain ⟨j, k, rfl⟩ : ∃ (j : Fin 56) (k : Fin 256), N = cAt j k := by
    have := N.isLt
    exact ⟨⟨N.val / 256, by omega⟩, ⟨N.val % 256, by omega⟩, Fin.ext (by show N.val = 256 * (N.val / 256) + N.val % 256; omega)⟩
  exact (ref_acode _ _ _ _ _ _ _ _ _ _ r j k).trans (G12_eq m c r j k).symm

theorem out_3 : val_main_v304 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = G13 m c := by
  funext (x : S24x56.Idx)
  obtain ⟨r, j, rfl⟩ : ∃ (r : Fin 24) (j : Fin 56), x = ix2 r j := ⟨x 0, x 1, eq_ix2 x⟩
  exact (ref_ascale _ _ _ _ _ _ _ _ _ _ r j).trans (G13_eq m c r j).symm

end Cert.KernelIdeal.Value

end
-- ==== Proof.KRuns.lean ====
/- The per-point vocabulary of the region: the condition of the first point, the staging memrefs, the scratch. -/
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, e0]
    word_cmp
   : ∀ t : Fin grid0.N, cond0_0 (grid0.coords t) ↔ t.val % 28 = 0)

/-! ## The kernel body on any staging memrefs: a subtype the run finds -/

/-- One staging buffer of output window 10, through which its contents are stated (`View.read_writes_of_cover`: the
    choice does not matter). -/
abbrev VO0_10 : View sig .tc .vmem S24x4096 .i8 := (Memref.whole cc0_stg10_0 : Memref sig .tc .vmem S24x4096 .i8).view
/-- One staging buffer of output window 11, through which its contents are stated (`View.read_writes_of_cover`: the
    choice does not matter). -/
abbrev VO0_11 : View sig .tc .vmem S24x16 .f32 := (Memref.whole cc0_stg11_0 : Memref sig .tc .vmem S24x16 .f32).view
/-- One staging buffer of output window 12, through which its contents are stated (`View.read_writes_of_cover`: the
    choice does not matter). -/
abbrev VO0_12 : View sig .tc .vmem S24x512 .i8 := (Memref.whole cc0_stg12_0 : Memref sig .tc .vmem S24x512 .i8).view
/-- One staging buffer of output window 13, through which its contents are stated (`View.read_writes_of_cover`: the
    choice does not matter). -/
abbrev VO0_13 : View sig .tc .vmem S24x56 .f32 := (Memref.whole cc0_stg13_0 : Memref sig .tc .vmem S24x56 .f32).view
/-- Each window's current staging memref at point `t`, spelled as the pipeline passes it (`bodyAt0`), and its wholeness. -/
abbrev ms0_0 (t : Fin cfg0.N) : Memref sig .tc .vmem S24x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x16x128 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x16x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x512 .i16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x512 .i16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x16x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x16x512 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x512 .i16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x512 .i16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S24x4096 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S24x16 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S24x512 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S24x56 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S16x192x256 .bf16 := Memref.whole cc0_scratch0
abbrev scM0_1 : Memref sig .tc .vmem S16x24x256 .f32 := Memref.whole cc0_scratch1
abbrev scM0_2 : Memref sig .tc .vmem S24x768 .bf16 := Memref.whole cc0_scratch2
abbrev scM0_3 : Memref sig .tc .vmem S2x128x128 .i32 := Memref.whole cc0_scratch3
abbrev scM0_4 : Memref sig .tc .vmem S8x16x256 .f32 := Memref.whole cc0_scratch4
abbrev scM0_5 : Memref sig .tc .vmem S16x256 .f32 := Memref.whole cc0_scratch5
/-- The scratch `arg15` the kernel carries between points, as a view: what it holds is stated through it. -/
abbrev VS0_0 : View sig .tc .vmem S16x192x256 .bf16 := scM0_0.view
/-- The scratch `arg16` the kernel carries between points, as a view: what it holds is stated through it. -/
abbrev VS0_1 : View sig .tc .vmem S16x24x256 .f32 := scM0_1.view
/-- The scratch `arg17` the kernel carries between points, as a view: what it holds is stated through it. -/
abbrev VS0_2 : View sig .tc .vmem S24x768 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

end Cert.Kernel.Gen

end
-- ==== Proof.KRunA.lean ====
/- The run of the body as written for the machine, case A: what it leaves in its outputs is not named. -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 7164000 in
/-- The body's triple IN CASE A (`scf.if` 0 taken: points 0): on whole staging memrefs — the inputs' at their contents,
    the FORGOTTEN outputs' (10, 11, 12, 13) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_ff i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_ff_eq_skeleton]; unfold cc0_ff_skel
    simp only [k0_part211_eq_skeleton, k0_part47_eq_skeleton, k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part212_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part213_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Gen

end
-- ==== Proof.KRunB.lean ====
/- The run of the body as written for the machine, case B: what it leaves in its outputs is not named. -/
module

public import proofs.«01_k».proof.Proof.KRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 6072000 in
/-- The body's triple IN CASE B (`scf.if` 0 not taken: points 1, 2, … 27: 27 of 28): on whole staging memrefs — the inputs' at their contents,
    the FORGOTTEN outputs' (10, 11, 12, 13) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S24x4096 .f32) (harg1 : arg1.IsWhole) (arg2 : Memref sig .tc .vmem S1x4096 .f32) (harg2 : arg2.IsWhole) (arg3 : Memref sig .tc .vmem S512x16x128 .i8) (harg3 : arg3.IsWhole) (arg4 : Memref sig .tc .vmem S12x16x512 .i8) (harg4 : arg4.IsWhole) (arg5 : Memref sig .tc .vmem S16x512 .i16) (harg5 : arg5.IsWhole) (arg6 : Memref sig .tc .vmem S16x512 .i16) (harg6 : arg6.IsWhole) (arg7 : Memref sig .tc .vmem S512x16x128 .i8) (harg7 : arg7.IsWhole) (arg8 : Memref sig .tc .vmem S12x16x512 .i8) (harg8 : arg8.IsWhole) (arg9 : Memref sig .tc .vmem S16x512 .i16) (harg9 : arg9.IsWhole) (arg10 : Memref sig .tc .vmem S16x512 .i16) (harg10 : arg10.IsWhole) (arg11 : Memref sig .tc .vmem S24x4096 .i8) (harg11 : arg11.IsWhole) (arg12 : Memref sig .tc .vmem S24x16 .f32) (harg12 : arg12.IsWhole) (arg13 : Memref sig .tc .vmem S24x512 .i8) (harg13 : arg13.IsWhole) (arg14 : Memref sig .tc .vmem S24x56 .f32) (harg14 : arg14.IsWhole) (arg15 : Memref sig .tc .vmem S16x192x256 .bf16) (harg15 : arg15.IsWhole) (arg16 : Memref sig .tc .vmem S16x24x256 .f32) (harg16 : arg16.IsWhole) (arg17 : Memref sig .tc .vmem S24x768 .bf16) (harg17 : arg17.IsWhole) (arg18 : Memref sig .tc .vmem S2x128x128 .i32) (harg18 : arg18.IsWhole) (arg19 : Memref sig .tc .vmem S8x16x256 .f32) (harg19 : arg19.IsWhole) (arg20 : Memref sig .tc .vmem S16x256 .f32) (harg20 : arg20.IsWhole) (hc0 : ¬cond0_0 i)
    (x0 : Vec F S24x4096 .f32) (x1 : Vec F S1x4096 .f32) (x2 : Vec F S512x16x128 .i8) (x3 : Vec F S12x16x512 .i8) (x4 : Vec F S16x512 .i16) (x5 : Vec F S16x512 .i16) (x6 : Vec F S512x16x128 .i8) (x7 : Vec F S12x16x512 .i8) (x8 : Vec F S16x512 .i16) (x9 : Vec F S16x512 .i16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_ff i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_ff_eq_skeleton]; unfold cc0_ff_skel
    simp only [k0_part211_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part212_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part213_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Gen

end
-- ==== Proof.KFrame.lean ====
/- The frame of the kernel as written for the machine. -/
module

public import proofs.«01_k».proof.Proof.KRunB
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows whose contents this frame forgets. -/
def forgets0 : Fin 14 → Bool := fun w => w.val == 10 || w.val == 11 || w.val == 12 || w.val == 13

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The arrays start as the region finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 4000000 in
/-- The body at any point: the inputs' memrefs hold their blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 28 := lt_of_lt_of_eq t.isLt (show cfg0.N = 28 from N_0)
  by_cases h0 : t.val % 28 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_A c (grid0.coords t) _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, HS0, HS1, HS2, HS3, HS4, HS5⟩
    isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, HS0, HS1, HS2, HS3, HS4, HS5⟩
    isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row is `bodyAt0`. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: its post, and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run's post alone. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r (h : Pipeline.RDat.FramePost (cfgs 0) (fun c => (dats m 0 c).toRForget forgets0) (V m) r) c => ⟨(Pipeline.RDat.FramePost.arr_in h c 0 rfl).trans ((A_eq m c 0).trans (V_main_arg0 m c)),
    ((h c).2 main_arg1 (Pipeline.mem_restRefs_of main_arg1 (by decide) (by decide))).trans (V_main_arg1 m c),
    (Pipeline.RDat.FramePost.arr_in h c 2 rfl).trans ((A_eq m c 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (Pipeline.RDat.FramePost.arr_in h c 6 rfl).trans ((A_eq m c 6).trans (V_main_arg6 m c)),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Gen

end
-- ==== Proof.lean ====
/- The claim: the two frames of the kernel, the reference's frame, the idealization, and the four results' equality. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KValue
public import proofs.«01_k».proof.Proof.Value
public import proofs.«01_k».proof.Proof.KFrame
public import Idealize.ShloMosaic.Adequacy
public import Idealize.ShloMosaic.Init

@[expose] public section

set_option maxRecDepth 16384

noncomputable section

namespace Cert.Proof

open Idealize.ShloMosaic Idealize.SL.Sem

/-- The reference runs, keeps its arguments and declares no semaphore. -/
theorem frame_ref : Cert.quiescent_ReferenceIdeal (hReferenceIdeal := Cert.ReferenceIdeal.Gen.facts) := by
  intro m ρ _
  exact (θ_run Cert.ReferenceIdeal.defs _ _).mono (fun r h => ⟨fun c => (h c).2.2.2.2, sem_eq_zero_of_no_sems (by decide) r.2⟩)
    (Cert.ReferenceIdeal.Value.run (F := Ideal) m ρ)

/-- The four results are equal. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Value.G10 m c, fun c => Cert.KernelIdeal.Value.G11 m c, fun c => Cert.KernelIdeal.Value.G12 m c, fun c => Cert.KernelIdeal.Value.G13 m c,
    Cert.KernelIdeal.Value.run (F := Ideal) m ρ, ?_⟩
  refine (θ_run Cert.ReferenceIdeal.defs _ _).mono (fun r h c => ?_) (Cert.ReferenceIdeal.Value.run (F := Ideal) m' ρ')
  obtain ⟨h0, h1, h2, h3, hk⟩ := h c
  obtain ⟨a0, a1, a2, a3, a4, a5, a6, a7, a8, a9⟩ := hagree c
  have b0 : StableHlo.launchContents m' c (Proc.devRef .tc Cert.ReferenceIdeal.main_arg0) = m ((c.tc : Thread Cert.KernelIdeal.nD Cert.KernelIdeal.τ).loc Cert.KernelIdeal.main_arg0) := a0
  have b1 : StableHlo.launchContents m' c (Proc.devRef .tc Cert.ReferenceIdeal.main_arg1) = m ((c.tc : Thread Cert.KernelIdeal.nD Cert.KernelIdeal.τ).loc Cert.KernelIdeal.main_arg1) := a1
  have b2 : StableHlo.launchContents m' c (Proc.devRef .tc Cert.ReferenceIdeal.main_arg2) = m ((c.tc : Thread Cert.KernelIdeal.nD Cert.KernelIdeal.τ).loc Cert.KernelIdeal.main_arg2) := a2
  have b3 : StableHlo.launchContents m' c (Proc.devRef .tc Cert.ReferenceIdeal.main_arg3) = m ((c.tc : Thread Cert.KernelIdeal.nD Cert.KernelIdeal.τ).loc Cert.KernelIdeal.main_arg3) := a3
  have b4 : StableHlo.launchContents m' c (Proc.devRef .tc Cert.ReferenceIdeal.main_arg4) = m ((c.tc : Thread Cert.KernelIdeal.nD Cert.KernelIdeal.τ).loc Cert.KernelIdeal.main_arg4) := a4
  have b5 : StableHlo.launchContents m' c (Proc.devRef .tc Cert.ReferenceIdeal.main_arg5) = m ((c.tc : Thread Cert.KernelIdeal.nD Cert.KernelIdeal.τ).loc Cert.KernelIdeal.main_arg5) := a5
  have b6 : StableHlo.launchContents m' c (Proc.devRef .tc Cert.ReferenceIdeal.main_arg6) = m ((c.tc : Thread Cert.KernelIdeal.nD Cert.KernelIdeal.τ).loc Cert.KernelIdeal.main_arg6) := a6
  have b7 : StableHlo.launchContents m' c (Proc.devRef .tc Cert.ReferenceIdeal.main_arg7) = m ((c.tc : Thread Cert.KernelIdeal.nD Cert.KernelIdeal.τ).loc Cert.KernelIdeal.main_arg7) := a7
  have b8 : StableHlo.launchContents m' c (Proc.devRef .tc Cert.ReferenceIdeal.main_arg8) = m ((c.tc : Thread Cert.KernelIdeal.nD Cert.KernelIdeal.τ).loc Cert.KernelIdeal.main_arg8) := a8
  have b9 : StableHlo.launchContents m' c (Proc.devRef .tc Cert.ReferenceIdeal.main_arg9) = m ((c.tc : Thread Cert.KernelIdeal.nD Cert.KernelIdeal.τ).loc Cert.KernelIdeal.main_arg9) := a9
  refine ⟨h0.trans ((Cert.ReferenceIdeal.Read.val_main_v28_eq _).trans ?_), h1.trans ((Cert.ReferenceIdeal.Read.val_main_v20_eq _).trans ?_),
    h2.trans ((Cert.ReferenceIdeal.Read.val_main_v312_eq _).trans ?_), h3.trans ((Cert.ReferenceIdeal.Read.val_main_v304_eq _).trans ?_), hk⟩
  · rw [b0, b1]; exact Cert.KernelIdeal.Value.out_0 m c
  · rw [b0, b1]; exact Cert.KernelIdeal.Value.out_1 m c
  · rw [b0, b1, b2, b3, b4, b5, b6, b7, b8, b9]; exact Cert.KernelIdeal.Value.out_2 m c
  · rw [b0, b1, b2, b3, b4, b5, b6, b7, b8, b9]; exact Cert.KernelIdeal.Value.out_3 m c

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ref, trivial, algebraic⟩

end Cert.Proof

end
